-- ==== Defs.lean ====
def Pre_Kernel [hPre_poi_in_range : Cert.Pre_poi_in_range.Facts] (m : (ℓ : Loc Cert.Kernel.nD Cert.Kernel.τ Cert.Kernel.sig) → Buf (Elt Bits) ℓ) : Prop :=
  ∀ c : Dev Cert.Kernel.nD,
    (Cert.Pre_poi_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_poi_in_range : Cert.Pre_poi_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_poi_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_poi_in_range [hPre_poi_in_range : Cert.Pre_poi_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_poi_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_poi_in_range : Cert.Pre_poi_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_poi_in_range : Cert.Pre_poi_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_poi_in_range [hReferenceIdeal : Cert.ReferenceIdeal.Facts] [hPre_poi_in_range : Cert.Pre_poi_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_poi_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_poi_in_range : Cert.Pre_poi_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_poi_in_range : Cert.Pre_poi_in_range.Facts),
    quiescent_Kernel (hKernel := hKernel) (hPre_poi_in_range := hPre_poi_in_range)
    ∧ quiescent_KernelIdeal (hKernelIdeal := hKernelIdeal) (hPre_poi_in_range := hPre_poi_in_range)
    ∧ quiescent_ReferenceIdeal (hReferenceIdeal := hReferenceIdeal)
    ∧ quiescent_ReferenceIdeal_pre_poi_in_range (hReferenceIdeal := hReferenceIdeal) (hPre_poi_in_range := hPre_poi_in_range)
    ∧ preserves_Kernel_KernelIdeal
    ∧ algebraic_KernelIdeal_ReferenceIdeal (hKernelIdeal := hKernelIdeal) (hReferenceIdeal := hReferenceIdeal) (hPre_poi_in_range := hPre_poi_in_range)
-- ==== Pre_poi_in_range.lean ====
abbrev S16x8x256x1024 : Shape := ⟨4, ![16, 8, 256, 1024]⟩
abbrev S_ : Shape := ⟨0, ![]⟩
abbrev S1024 : Shape := ⟨1, ![1024]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S16x8x256x1024 .f32) (main_arg1 : FVec F S16x8x256x1024 .f32) (main_arg2 : FVec F S_ .f32) (main_arg3 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 1024#32
  let main_v2 : IVec S1024 32 := broadcastInDim S1024 ![] bcast_S_S1024 main_c_0
  let main_v3 : IVec S1024 1 := cmpi .slt main_arg3 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S16x8x256x1024 : Shape := ⟨4, ![16, 8, 256, 1024]⟩
abbrev S_ : Shape := ⟨0, ![]⟩
abbrev S1024 : Shape := ⟨1, ![1024]⟩
abbrev S1x1024 : Shape := ⟨2, ![1, 1024]⟩
abbrev S16x1024x256 : Shape := ⟨3, ![16, 1024, 256]⟩
abbrev S1x1x256x1024 : Shape := ⟨4, ![1, 1, 256, 1024]⟩
abbrev S1x1024x256 : Shape := ⟨3, ![1, 1024, 256]⟩
abbrev S256x1024 : Shape := ⟨2, ![256, 1024]⟩
abbrev S1024x256 : Shape := ⟨2, ![1024, 256]⟩
abbrev S16x1024x2x128 : Shape := ⟨4, ![16, 1024, 2, 128]⟩
abbrev S3x72x2x128 : Shape := ⟨4, ![3, 72, 2, 128]⟩
abbrev S3x64x2x128 : Shape := ⟨4, ![3, 64, 2, 128]⟩
abbrev S3x80 : Shape := ⟨2, ![3, 80]⟩
abbrev S3x64 : Shape := ⟨2, ![3, 64]⟩
abbrev S3 : Shape := ⟨1, ![3]⟩
abbrev S16 : Shape := ⟨1, ![16]⟩
abbrev S1x64x2x128 : Shape := ⟨4, ![1, 64, 2, 128]⟩
abbrev S64x2x128 : Shape := ⟨3, ![64, 2, 128]⟩
abbrev S1 : Shape := ⟨1, ![1]⟩
abbrev S1x16 : Shape := ⟨2, ![1, 16]⟩
abbrev S1x80 : Shape := ⟨2, ![1, 80]⟩
abbrev S80 : Shape := ⟨1, ![80]⟩
abbrev S1x64 : Shape := ⟨2, ![1, 64]⟩
abbrev S64 : Shape := ⟨1, ![64]⟩
abbrev S1x16x2x128 : Shape := ⟨4, ![1, 16, 2, 128]⟩
abbrev S16x2x128 : Shape := ⟨3, ![16, 2, 128]⟩
abbrev S1x1024x2x128 : Shape := ⟨4, ![1, 1024, 2, 128]⟩
abbrev S1024x2x128 : Shape := ⟨3, ![1024, 2, 128]⟩
abbrev S1x1x1x16 : Shape := ⟨4, ![1, 1, 1, 16]⟩
abbrev S16x32x32x256 : Shape := ⟨4, ![16, 32, 32, 256]⟩
abbrev S16x256x32x32 : Shape := ⟨4, ![16, 256, 32, 32]⟩

abbrev nBuf : Table → Nat
  | .hbm => 11
  | .local .tc .vmem => 7
  | .local .scVector .vmem => 6
  | _ => 0

abbrev bufTy : (tb : Table) → Fin (nBuf tb) → BufTy
  | .hbm, ⟨0, _⟩ => ⟨S16x8x256x1024, .f32⟩
  | .hbm, ⟨1, _⟩ => ⟨S16x8x256x1024, .f32⟩
  | .hbm, ⟨2, _⟩ => ⟨S_, .f32⟩
  | .hbm, ⟨3, _⟩ => ⟨S1024, .i32⟩
  | .hbm, ⟨4, _⟩ => ⟨S1x1024, .f32⟩
  | .hbm, ⟨5, _⟩ => ⟨S16x1024x256, .f32⟩
  | .hbm, ⟨6, _⟩ => ⟨S16x1024x2x128, .f32⟩
  | .hbm, ⟨7, _⟩ => ⟨S1024, .f32⟩
  | .hbm, ⟨8, _⟩ => ⟨S16x1024x2x128, .f32⟩
  | .hbm, ⟨9, _⟩ => ⟨S16x32x32x256, .f32⟩
  | .hbm, ⟨10, _⟩ => ⟨S16x256x32x32, .f32⟩
  | .local .tc .vmem, ⟨0, _⟩ => ⟨S1x1x256x1024, .f32⟩
  | .local .tc .vmem, ⟨1, _⟩ => ⟨S1x1x256x1024, .f32⟩
  | .local .tc .vmem, ⟨2, _⟩ => ⟨S1x1x256x1024, .f32⟩
  | .local .tc .vmem, ⟨3, _⟩ => ⟨S1x1x256x1024, .f32⟩
  | .local .tc .vmem, ⟨4, _⟩ => ⟨S1x1024, .f32⟩
  | .local .tc .vmem, ⟨5, _⟩ => ⟨S1x1024x256, .f32⟩
  | .local .tc .vmem, ⟨6, _⟩ => ⟨S1x1024x256, .f32⟩
  | .local .scVector .vmem, ⟨0, _⟩ => ⟨S1024, .i32⟩
  | .local .scVector .vmem, ⟨1, _⟩ => ⟨S1024, .f32⟩
  | .local .scVector .vmem, ⟨2, _⟩ => ⟨S3x72x2x128, .f32⟩
  | .local .scVector .vmem, ⟨3, _⟩ => ⟨S3x64x2x128, .f32⟩
  | .local .scVector .vmem, ⟨4, _⟩ => ⟨S3x80, .i32⟩
  | .local .scVector .vmem, ⟨5, _⟩ => ⟨S3x64, .i32⟩
  | _, _ => ⟨S16x8x256x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v1_scv : Ref sig .scVector := ⟨.hbm, 6, rfl⟩
abbrev main_v2_scv : Ref sig .scVector := ⟨.hbm, 7, rfl⟩
abbrev main_arg3_scv : Ref sig .scVector := ⟨.hbm, 3, rfl⟩
abbrev main_v3_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_6 : BitVec 32 := 0#32
  let v12 : BitVec 1 := Scalar.cmpi .ne v11 c0_i32_6
  v12

def cc0_transform_0 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

def cc0_transform_1 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

@[reducible] def k1_t1_loop : Scf.Loop 32 :=
  let c0_i32_12 : BitVec 32 := 0#32
  let c9_i32 : BitVec 32 := 9#32
  let v31 : BitVec 32 := Scalar.addi c0_i32_12 c9_i32
  let c1_i32_13 : BitVec 32 := 1#32
  ⟨c0_i32_12, v31, c1_i32_13⟩
def k1_cond1 (k1_t1 : Fin k1_t1_loop.trips) : BitVec 1 :=
  let c0_i32_12 : BitVec 32 := 0#32
  let c1_i32_13 : BitVec 32 := 1#32
  let arg15 : BitVec 32 := Scf.iv c0_i32_12 c1_i32_13 k1_t1
  let c8_i32 : BitVec 32 := 8#32
  let v72 : BitVec 1 := Scalar.cmpi .slt arg15 c8_i32
  let v73 : BitVec 32 := Scalar.extui v72
  let c0_i32_52 : BitVec 32 := 0#32
  let v74 : BitVec 1 := Scalar.cmpi .ne v73 c0_i32_52
  v74

def k1_cond2 (k1_t1 : Fin k1_t1_loop.trips) : BitVec 1 :=
  let c0_i32_12 : BitVec 32 := 0#32
  let c1_i32_13 : BitVec 32 := 1#32
  let arg15 : BitVec 32 := Scf.iv c0_i32_12 c1_i32_13 k1_t1
  let c3_i32_55 : BitVec 32 := 3#32
  let v79 : BitVec 1 := Scalar.cmpi .sge arg15 c3_i32_55
  let v80 : BitVec 32 := Scalar.extui v79
  let c0_i32_56 : BitVec 32 := 0#32
  let v81 : BitVec 1 := Scalar.cmpi .ne v80 c0_i32_56
  v81

def k1_off1 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.subi arg15 c3_i32_125
  let c3_i32_126 : BitVec 32 := 3#32
  let v238 : BitVec 32 := Scalar.remsi v237 c3_i32_126
  let c0_i32_128 : BitVec 32 := 0#32
  let c0_i32_129 : BitVec 32 := 0#32
  let c0_i32_130 : BitVec 32 := 0#32
  ![v238.toNat, 0, 0, 0]
def k1_off2 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.subi arg15 c3_i32_125
  let c64_i32_127 : BitVec 32 := 64#32
  let v239 : BitVec 32 := Scalar.muli v237 c64_i32_127
  let v240 : BitVec 32 := Scalar.addi v29 v239
  let c0_i32_131 : BitVec 32 := 0#32
  let c0_i32_132 : BitVec 32 := 0#32
  ![v18.toNat, v240.toNat, 0, 0]
def k1_off3 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.subi arg15 c3_i32_125
  let c3_i32_126 : BitVec 32 := 3#32
  let v238 : BitVec 32 := Scalar.remsi v237 c3_i32_126
  ![v238.toNat]
def k1_off4 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c3_i32_59 : BitVec 32 := 3#32
  let v85 : BitVec 32 := Scalar.remsi arg15 c3_i32_59
  let c0_i32_61 : BitVec 32 := 0#32
  let c0_i32_62 : BitVec 32 := 0#32
  let c0_i32_63 : BitVec 32 := 0#32
  ![v85.toNat, 0, 0, 0]
def k1_off5 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c64_i32_60 : BitVec 32 := 64#32
  let v86 : BitVec 32 := Scalar.muli arg15 c64_i32_60
  let v87 : BitVec 32 := Scalar.addi v29 v86
  let c0_i32_64 : BitVec 32 := 0#32
  let c0_i32_65 : BitVec 32 := 0#32
  ![v18.toNat, v87.toNat, 0, 0]
def k1_off6 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c3_i32_59 : BitVec 32 := 3#32
  let v85 : BitVec 32 := Scalar.remsi arg15 c3_i32_59
  ![v85.toNat]
def k1_off7 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v99 : Index := Scalar.indexCast v82
  let c0 : Index := 0#32
  ![v99.toNat, 0]
def k1_off8 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v102 : Index := Scalar.indexCast v82
  let c16 : Index := 16#32
  ![v102.toNat, 16]
def k1_off9 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v105 : Index := Scalar.indexCast v82
  let c32 : Index := 32#32
  ![v105.toNat, 32]
def k1_off10 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v108 : Index := Scalar.indexCast v82
  let c48 : Index := 48#32
  ![v108.toNat, 48]
def k1_off11 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v111 : Index := Scalar.indexCast v82
  let c64 : Index := 64#32
  ![v111.toNat, 64]
def k1_off12 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v114 : Index := Scalar.indexCast v82
  let c0_77 : Index := 0#32
  ![v114.toNat, 0]
def k1_off13 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v117 : Index := Scalar.indexCast v82
  let c16_79 : Index := 16#32
  ![v117.toNat, 16]
def k1_off14 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v120 : Index := Scalar.indexCast v82
  let c32_81 : Index := 32#32
  ![v120.toNat, 32]
def k1_off15 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let v123 : Index := Scalar.indexCast v82
  let c48_83 : Index := 48#32
  ![v123.toNat, 48]
def k1_off16 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c64_i32_58 : BitVec 32 := 64#32
  let v83 : BitVec 32 := Scalar.muli arg15 c64_i32_58
  let v84 : BitVec 32 := Scalar.addi v29 v83
  let c0_i32_84 : BitVec 32 := 0#32
  let v125 : BitVec 32 := Scalar.addi v84 c0_i32_84
  let v126 : Index := Scalar.indexCast v125
  ![v126.toNat]
def k1_off17 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_89 : BitVec 32 := 0#32
  ![v82.toNat, 0]
def k1_off18 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_90 : BitVec 32 := 0#32
  ![v82.toNat, 0]

def k1_chk1 (k1_t1 : Fin k1_t1_loop.trips) (v139 : IVec S16 32) : Prop :=
  (∀ (k1_h1 : k1_cond1 k1_t1 = 1#1), ∀ a x, ((![v139] : Fin 1 → IVec S16 32) a x).toNat < S80.size a) ∧
  (∀ (k1_h1 : k1_cond1 k1_t1 = 1#1), ∀ a x, ((![v139] : Fin 1 → IVec S16 32) a x).toNat < S64.size a)
theorem k1_idx1_inb : ∀ (k1_t1 : Fin k1_t1_loop.trips) (v139 : IVec S16 32) (k1_hw1 : k1_chk1 k1_t1 v139), ∀ (k1_h1 : k1_cond1 k1_t1 = 1#1), ∀ a x, ((![v139] : Fin 1 → IVec S16 32) a x).toNat < S80.size a := fun k1_t1 v139 k1_hw1 k1_h1 => k1_hw1.1 k1_h1
theorem k1_idx2_inb : ∀ (k1_t1 : Fin k1_t1_loop.trips) (v139 : IVec S16 32) (k1_hw1 : k1_chk1 k1_t1 v139), ∀ (k1_h1 : k1_cond1 k1_t1 = 1#1), ∀ a x, ((![v139] : Fin 1 → IVec S16 32) a x).toNat < S64.size a := fun k1_t1 v139 k1_hw1 k1_h1 => k1_hw1.2 k1_h1
def k1_off19 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c64_i32_58 : BitVec 32 := 64#32
  let v83 : BitVec 32 := Scalar.muli arg15 c64_i32_58
  let v84 : BitVec 32 := Scalar.addi v29 v83
  let c16_i32 : BitVec 32 := 16#32
  let v150 : BitVec 32 := Scalar.addi v84 c16_i32
  let v151 : Index := Scalar.indexCast v150
  ![v151.toNat]
def k1_off20 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_98 : BitVec 32 := 0#32
  ![v82.toNat, 0]
def k1_off21 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_99 : BitVec 32 := 0#32
  ![v82.toNat, 0]

def k1_chk2 (k1_t1 : Fin k1_t1_loop.trips) (v164 : IVec S16 32) : Prop :=
  (∀ (k1_h1 : k1_cond1 k1_t1 = 1#1), ∀ a x, ((![v164] : Fin 1 → IVec S16 32) a x).toNat < S80.size a) ∧
  (∀ (k1_h1 : k1_cond1 k1_t1 = 1#1), ∀ a x, ((![v164] : Fin 1 → IVec S16 32) a x).toNat < S64.size a)
theorem k1_idx3_inb : ∀ (k1_t1 : Fin k1_t1_loop.trips) (v164 : IVec S16 32) (k1_hw2 : k1_chk2 k1_t1 v164), ∀ (k1_h1 : k1_cond1 k1_t1 = 1#1), ∀ a x, ((![v164] : Fin 1 → IVec S16 32) a x).toNat < S80.size a := fun k1_t1 v164 k1_hw2 k1_h1 => k1_hw2.1 k1_h1
theorem k1_idx4_inb : ∀ (k1_t1 : Fin k1_t1_loop.trips) (v164 : IVec S16 32) (k1_hw2 : k1_chk2 k1_t1 v164), ∀ (k1_h1 : k1_cond1 k1_t1 = 1#1), ∀ a x, ((![v164] : Fin 1 → IVec S16 32) a x).toNat < S64.size a := fun k1_t1 v164 k1_hw2 k1_h1 => k1_hw2.2 k1_h1
def k1_off22 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c64_i32_58 : BitVec 32 := 64#32
  let v83 : BitVec 32 := Scalar.muli arg15 c64_i32_58
  let v84 : BitVec 32 := Scalar.addi v29 v83
  let c32_i32 : BitVec 32 := 32#32
  let v175 : BitVec 32 := Scalar.addi v84 c32_i32
  let v176 : Index := Scalar.indexCast v175
  ![v176.toNat]
def k1_off23 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_106 : BitVec 32 := 0#32
  ![v82.toNat, 0]
def k1_off24 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_107 : BitVec 32 := 0#32
  ![v82.toNat, 0]

def k1_chk3 (k1_t1 : Fin k1_t1_loop.trips) (v189 : IVec S16 32) : Prop :=
  (∀ (k1_h1 : k1_cond1 k1_t1 = 1#1), ∀ a x, ((![v189] : Fin 1 → IVec S16 32) a x).toNat < S80.size a) ∧
  (∀ (k1_h1 : k1_cond1 k1_t1 = 1#1), ∀ a x, ((![v189] : Fin 1 → IVec S16 32) a x).toNat < S64.size a)
theorem k1_idx5_inb : ∀ (k1_t1 : Fin k1_t1_loop.trips) (v189 : IVec S16 32) (k1_hw3 : k1_chk3 k1_t1 v189), ∀ (k1_h1 : k1_cond1 k1_t1 = 1#1), ∀ a x, ((![v189] : Fin 1 → IVec S16 32) a x).toNat < S80.size a := fun k1_t1 v189 k1_hw3 k1_h1 => k1_hw3.1 k1_h1
theorem k1_idx6_inb : ∀ (k1_t1 : Fin k1_t1_loop.trips) (v189 : IVec S16 32) (k1_hw3 : k1_chk3 k1_t1 v189), ∀ (k1_h1 : k1_cond1 k1_t1 = 1#1), ∀ a x, ((![v189] : Fin 1 → IVec S16 32) a x).toNat < S64.size a := fun k1_t1 v189 k1_hw3 k1_h1 => k1_hw3.2 k1_h1
def k1_off25 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c64_i32_58 : BitVec 32 := 64#32
  let v83 : BitVec 32 := Scalar.muli arg15 c64_i32_58
  let v84 : BitVec 32 := Scalar.addi v29 v83
  let c48_i32 : BitVec 32 := 48#32
  let v200 : BitVec 32 := Scalar.addi v84 c48_i32
  let v201 : Index := Scalar.indexCast v200
  ![v201.toNat]
def k1_off26 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_114 : BitVec 32 := 0#32
  ![v82.toNat, 0]
def k1_off27 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_57 : BitVec 32 := 3#32
  let v82 : BitVec 32 := Scalar.remsi arg15 c3_i32_57
  let c0_i32_115 : BitVec 32 := 0#32
  ![v82.toNat, 0]

def k1_chk4 (k1_t1 : Fin k1_t1_loop.trips) (v214 : IVec S16 32) : Prop :=
  (∀ (k1_h1 : k1_cond1 k1_t1 = 1#1), ∀ a x, ((![v214] : Fin 1 → IVec S16 32) a x).toNat < S80.size a) ∧
  (∀ (k1_h1 : k1_cond1 k1_t1 = 1#1), ∀ a x, ((![v214] : Fin 1 → IVec S16 32) a x).toNat < S64.size a)
theorem k1_idx7_inb : ∀ (k1_t1 : Fin k1_t1_loop.trips) (v214 : IVec S16 32) (k1_hw4 : k1_chk4 k1_t1 v214), ∀ (k1_h1 : k1_cond1 k1_t1 = 1#1), ∀ a x, ((![v214] : Fin 1 → IVec S16 32) a x).toNat < S80.size a := fun k1_t1 v214 k1_hw4 k1_h1 => k1_hw4.1 k1_h1
theorem k1_idx8_inb : ∀ (k1_t1 : Fin k1_t1_loop.trips) (v214 : IVec S16 32) (k1_hw4 : k1_chk4 k1_t1 v214), ∀ (k1_h1 : k1_cond1 k1_t1 = 1#1), ∀ a x, ((![v214] : Fin 1 → IVec S16 32) a x).toNat < S64.size a := fun k1_t1 v214 k1_hw4 k1_h1 => k1_hw4.2 k1_h1
def k1_off28 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c0_i32_126 : BitVec 32 := 0#32
  let c0_i32_127 : BitVec 32 := 0#32
  let c0_i32_128 : BitVec 32 := 0#32
  ![v237.toNat, 0, 0, 0]
def k1_off29 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c0_i32_129 : BitVec 32 := 0#32
  ![v237.toNat, 0]
def k1_off30 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_130 : BitVec 32 := 0#32
  let c0_i32_131 : BitVec 32 := 0#32
  let c0_i32_132 : BitVec 32 := 0#32
  ![v18.toNat, 0, 0, 0]
def k1_off31 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  ![v237.toNat]
def k1_off32 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c16_i32_126 : BitVec 32 := 16#32
  let c0_i32_127 : BitVec 32 := 0#32
  let c0_i32_128 : BitVec 32 := 0#32
  ![v237.toNat, 16, 0, 0]
def k1_off33 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c16_i32_129 : BitVec 32 := 16#32
  ![v237.toNat, 16]
def k1_off34 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_130 : BitVec 32 := 0#32
  let c0_i32_131 : BitVec 32 := 0#32
  let c0_i32_132 : BitVec 32 := 0#32
  ![v18.toNat, 0, 0, 0]
def k1_off35 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  ![v237.toNat]
def k1_off36 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c32_i32_126 : BitVec 32 := 32#32
  let c0_i32_127 : BitVec 32 := 0#32
  let c0_i32_128 : BitVec 32 := 0#32
  ![v237.toNat, 32, 0, 0]
def k1_off37 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c32_i32_129 : BitVec 32 := 32#32
  ![v237.toNat, 32]
def k1_off38 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_130 : BitVec 32 := 0#32
  let c0_i32_131 : BitVec 32 := 0#32
  let c0_i32_132 : BitVec 32 := 0#32
  ![v18.toNat, 0, 0, 0]
def k1_off39 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  ![v237.toNat]
def k1_off40 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c48_i32_126 : BitVec 32 := 48#32
  let c0_i32_127 : BitVec 32 := 0#32
  let c0_i32_128 : BitVec 32 := 0#32
  ![v237.toNat, 48, 0, 0]
def k1_off41 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  let c48_i32_129 : BitVec 32 := 48#32
  ![v237.toNat, 48]
def k1_off42 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_130 : BitVec 32 := 0#32
  let c0_i32_131 : BitVec 32 := 0#32
  let c0_i32_132 : BitVec 32 := 0#32
  ![v18.toNat, 0, 0, 0]
def k1_off43 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c3_i32_125 : BitVec 32 := 3#32
  let v237 : BitVec 32 := Scalar.remsi arg15 c3_i32_125
  ![v237.toNat]
def k1_cond7 (k1_t1 : Fin k1_t1_loop.trips) : BitVec 1 :=
  let c0_i32_12 : BitVec 32 := 0#32
  let c1_i32_13 : BitVec 32 := 1#32
  let arg15 : BitVec 32 := Scf.iv c0_i32_12 c1_i32_13 k1_t1
  let c1_i32_53 : BitVec 32 := 1#32
  let v76 : BitVec 1 := Scalar.cmpi .sge arg15 c1_i32_53
  let v77 : BitVec 32 := Scalar.extui v76
  let c0_i32_54 : BitVec 32 := 0#32
  let v78 : BitVec 1 := Scalar.cmpi .ne v77 c0_i32_54
  v78

def k1_off44 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_57 : BitVec 32 := 3#32
  let v81 : BitVec 32 := Scalar.remsi v79 c3_i32_57
  let c0_i32_59 : BitVec 32 := 0#32
  let c0_i32_60 : BitVec 32 := 0#32
  let c0_i32_61 : BitVec 32 := 0#32
  ![v81.toNat, 0, 0, 0]
def k1_off45 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c64_i32_58 : BitVec 32 := 64#32
  let v82 : BitVec 32 := Scalar.muli v79 c64_i32_58
  let v83 : BitVec 32 := Scalar.addi v29 v82
  let c0_i32_62 : BitVec 32 := 0#32
  let c0_i32_63 : BitVec 32 := 0#32
  ![v18.toNat, v83.toNat, 0, 0]
def k1_off46 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_57 : BitVec 32 := 3#32
  let v81 : BitVec 32 := Scalar.remsi v79 c3_i32_57
  ![v81.toNat]
def k1_off47 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c0_i32_101 : BitVec 32 := 0#32
  let c0_i32_102 : BitVec 32 := 0#32
  let c0_i32_103 : BitVec 32 := 0#32
  ![v143.toNat, 0, 0, 0]
def k1_off48 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c0_i32_104 : BitVec 32 := 0#32
  ![v143.toNat, 0]
def k1_off49 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_105 : BitVec 32 := 0#32
  let c0_i32_106 : BitVec 32 := 0#32
  let c0_i32_107 : BitVec 32 := 0#32
  ![v18.toNat, 0, 0, 0]
def k1_off50 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  ![v143.toNat]
def k1_off51 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c16_i32_101 : BitVec 32 := 16#32
  let c0_i32_102 : BitVec 32 := 0#32
  let c0_i32_103 : BitVec 32 := 0#32
  ![v143.toNat, 16, 0, 0]
def k1_off52 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c16_i32_104 : BitVec 32 := 16#32
  ![v143.toNat, 16]
def k1_off53 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_105 : BitVec 32 := 0#32
  let c0_i32_106 : BitVec 32 := 0#32
  let c0_i32_107 : BitVec 32 := 0#32
  ![v18.toNat, 0, 0, 0]
def k1_off54 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  ![v143.toNat]
def k1_off55 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c32_i32_101 : BitVec 32 := 32#32
  let c0_i32_102 : BitVec 32 := 0#32
  let c0_i32_103 : BitVec 32 := 0#32
  ![v143.toNat, 32, 0, 0]
def k1_off56 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c32_i32_104 : BitVec 32 := 32#32
  ![v143.toNat, 32]
def k1_off57 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_105 : BitVec 32 := 0#32
  let c0_i32_106 : BitVec 32 := 0#32
  let c0_i32_107 : BitVec 32 := 0#32
  ![v18.toNat, 0, 0, 0]
def k1_off58 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  ![v143.toNat]
def k1_off59 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c48_i32_101 : BitVec 32 := 48#32
  let c0_i32_102 : BitVec 32 := 0#32
  let c0_i32_103 : BitVec 32 := 0#32
  ![v143.toNat, 48, 0, 0]
def k1_off60 (k1_t1 : Fin k1_t1_loop.trips) : Fin 2 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  let c48_i32_104 : BitVec 32 := 48#32
  ![v143.toNat, 48]
def k1_off61 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_105 : BitVec 32 := 0#32
  let c0_i32_106 : BitVec 32 := 0#32
  let c0_i32_107 : BitVec 32 := 0#32
  ![v18.toNat, 0, 0, 0]
def k1_off62 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_100 : BitVec 32 := 3#32
  let v143 : BitVec 32 := Scalar.remsi v79 c3_i32_100
  ![v143.toNat]
@[reducible] def k1_t2_loop (arg16 : BitVec 32) : Scf.Loop 32 :=
  let c0_i32_84 : BitVec 32 := 0#32
  let c16_i32_74 : BitVec 32 := 16#32
  let v106 : BitVec 32 := Scalar.addi arg16 c16_i32_74
  let c1_i32_75 : BitVec 32 := 1#32
  let v107 : BitVec 32 := Scalar.subi v106 c1_i32_75
  let c0_i32_77 : BitVec 32 := 0#32
  let v109 : BitVec 1 := Scalar.cmpi .sgt v107 c0_i32_77
  let v110 : BitVec 32 := Scalar.extui v109
  let c0_i32_78 : BitVec 32 := 0#32
  let v111 : BitVec 1 := Scalar.cmpi .slt v107 c0_i32_78
  let v112 : BitVec 32 := Scalar.extui v111
  let v113 : BitVec 32 := Scalar.subi v110 v112
  let c16_i32_76 : BitVec 32 := 16#32
  let c0_i32_79 : BitVec 32 := 0#32
  let v114 : BitVec 1 := Scalar.cmpi .sgt c16_i32_76 c0_i32_79
  let v115 : BitVec 32 := Scalar.extui v114
  let c0_i32_80 : BitVec 32 := 0#32
  let v116 : BitVec 1 := Scalar.cmpi .slt c16_i32_76 c0_i32_80
  let v117 : BitVec 32 := Scalar.extui v116
  let v118 : BitVec 32 := Scalar.subi v115 v117
  let v119 : BitVec 1 := Scalar.cmpi .ne v113 v118
  let v120 : BitVec 32 := Scalar.remsi v107 c16_i32_76
  let c0_i32_81 : BitVec 32 := 0#32
  let v121 : BitVec 1 := Scalar.cmpi .ne v120 c0_i32_81
  let v122 : BitVec 1 := Scalar.andi v119 v121
  let v108 : BitVec 32 := Scalar.divsi v107 c16_i32_76
  let c1_i32_82 : BitVec 32 := 1#32
  let v123 : BitVec 32 := Scalar.subi v108 c1_i32_82
  let v124 : BitVec 32 := Scalar.select v122 v123 v108
  let v125 : BitVec 32 := Scalar.subi v124 c0_i32_84
  let c1_i32_85 : BitVec 32 := 1#32
  let v127 : BitVec 32 := Scalar.divsi v125 c1_i32_85
  let v128 : BitVec 32 := Scalar.muli v127 c1_i32_85
  let v129 : BitVec 32 := Scalar.addi c0_i32_84 v128
  let c1_i32_86 : BitVec 32 := 1#32
  ⟨c0_i32_84, v129, c1_i32_86⟩

@[reducible] def k1_t3_loop : Scf.Loop 32 :=
  let c0_i32_100 : BitVec 32 := 0#32
  let c16_i32_101 : BitVec 32 := 16#32
  let v143 : BitVec 32 := Scalar.addi c0_i32_100 c16_i32_101
  let c1_i32_102 : BitVec 32 := 1#32
  ⟨c0_i32_100, v143, c1_i32_102⟩
def k1_off63 (k1_t1 : Fin k1_t1_loop.trips) (arg16 : BitVec 32) (k1_t2 : Fin (k1_t2_loop arg16).trips) (k1_t3 : Fin k1_t3_loop.trips) : Fin 2 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v148 : Index := Scalar.indexCast v80
  let c0_i32_84 : BitVec 32 := 0#32
  let c1_i32_86 : BitVec 32 := 1#32
  let arg17 : BitVec 32 := Scf.iv c0_i32_84 c1_i32_86 k1_t2
  let c16_i32_106 : BitVec 32 := 16#32
  let v146 : BitVec 32 := Scalar.muli arg17 c16_i32_106
  let c0_i32_105 : BitVec 32 := 0#32
  let c0_i32_100 : BitVec 32 := 0#32
  let c1_i32_102 : BitVec 32 := 1#32
  let arg18 : BitVec 32 := Scf.iv c0_i32_100 c1_i32_102 k1_t3
  let c1_i32_104 : BitVec 32 := 1#32
  let v144 : BitVec 32 := Scalar.muli arg18 c1_i32_104
  let v145 : BitVec 32 := Scalar.addi c0_i32_105 v144
  let v147 : BitVec 32 := Scalar.addi v146 v145
  let v149 : Index := Scalar.indexCast v147
  ![v148.toNat, v149.toNat]
@[reducible] def k1_t4_loop : Scf.Loop 32 :=
  let c0_i32_107 : BitVec 32 := 0#32
  let c8_i32_108 : BitVec 32 := 8#32
  let v153 : BitVec 32 := Scalar.addi c0_i32_107 c8_i32_108
  let c1_i32_109 : BitVec 32 := 1#32
  ⟨c0_i32_107, v153, c1_i32_109⟩
def k1_off64 (k1_t1 : Fin k1_t1_loop.trips) (v152 : BitVec 32) (k1_t4 : Fin k1_t4_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v157 : Index := Scalar.indexCast v80
  let v158 : Index := Scalar.indexCast v152
  let c0_i32_114 : BitVec 32 := 0#32
  let v159 : Index := Scalar.indexCast c0_i32_114
  let c0_i32_112 : BitVec 32 := 0#32
  let c0_i32_107 : BitVec 32 := 0#32
  let c1_i32_109 : BitVec 32 := 1#32
  let arg19 : BitVec 32 := Scf.iv c0_i32_107 c1_i32_109 k1_t4
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v160 : Index := Scalar.indexCast v156
  ![v157.toNat, v158.toNat, 0, v160.toNat]

def k1_off65 (k1_t1 : Fin k1_t1_loop.trips) (arg16 : BitVec 32) (k1_t2 : Fin (k1_t2_loop arg16).trips) (k1_t3 : Fin k1_t3_loop.trips) (k1_t4 : Fin k1_t4_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v162 : Index := Scalar.indexCast v80
  let c0_i32_84 : BitVec 32 := 0#32
  let c1_i32_86 : BitVec 32 := 1#32
  let arg17 : BitVec 32 := Scf.iv c0_i32_84 c1_i32_86 k1_t2
  let c16_i32_106 : BitVec 32 := 16#32
  let v146 : BitVec 32 := Scalar.muli arg17 c16_i32_106
  let c0_i32_105 : BitVec 32 := 0#32
  let c0_i32_100 : BitVec 32 := 0#32
  let c1_i32_102 : BitVec 32 := 1#32
  let arg18 : BitVec 32 := Scf.iv c0_i32_100 c1_i32_102 k1_t3
  let c1_i32_104 : BitVec 32 := 1#32
  let v144 : BitVec 32 := Scalar.muli arg18 c1_i32_104
  let v145 : BitVec 32 := Scalar.addi c0_i32_105 v144
  let v147 : BitVec 32 := Scalar.addi v146 v145
  let v163 : Index := Scalar.indexCast v147
  let c0_i32_115 : BitVec 32 := 0#32
  let v164 : Index := Scalar.indexCast c0_i32_115
  let c0_i32_112 : BitVec 32 := 0#32
  let c0_i32_107 : BitVec 32 := 0#32
  let c1_i32_109 : BitVec 32 := 1#32
  let arg19 : BitVec 32 := Scf.iv c0_i32_107 c1_i32_109 k1_t4
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v165 : Index := Scalar.indexCast v156
  ![v162.toNat, v163.toNat, 0, v165.toNat]
def k1_off66 (k1_t1 : Fin k1_t1_loop.trips) (v152 : BitVec 32) (k1_t4 : Fin k1_t4_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v173 : Index := Scalar.indexCast v80
  let v174 : Index := Scalar.indexCast v152
  let c1_i32_117 : BitVec 32 := 1#32
  let v175 : Index := Scalar.indexCast c1_i32_117
  let c0_i32_112 : BitVec 32 := 0#32
  let c0_i32_107 : BitVec 32 := 0#32
  let c1_i32_109 : BitVec 32 := 1#32
  let arg19 : BitVec 32 := Scf.iv c0_i32_107 c1_i32_109 k1_t4
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v176 : Index := Scalar.indexCast v156
  ![v173.toNat, v174.toNat, 1, v176.toNat]

def k1_chk6 (k1_t1 : Fin k1_t1_loop.trips) (v152 : BitVec 32) : Prop :=
  (∀ k1_t4 : Fin k1_t4_loop.trips, ∀ (k1_h7 : k1_cond7 k1_t1 = 1#1), ∀ a, (k1_off64 k1_t1 v152 k1_t4) a + S1x1x1x16.size a ≤ S3x72x2x128.size a) ∧
  (∀ k1_t4 : Fin k1_t4_loop.trips, ∀ (k1_h7 : k1_cond7 k1_t1 = 1#1), ∀ a, (k1_off66 k1_t1 v152 k1_t4) a + S1x1x1x16.size a ≤ S3x72x2x128.size a)
theorem k1_off64_inb : ∀ (k1_t1 : Fin k1_t1_loop.trips) (v152 : BitVec 32) (k1_hw6 : k1_chk6 k1_t1 v152) (k1_t4 : Fin k1_t4_loop.trips), ∀ (k1_h7 : k1_cond7 k1_t1 = 1#1), ∀ a, (k1_off64 k1_t1 v152 k1_t4) a + S1x1x1x16.size a ≤ S3x72x2x128.size a := fun k1_t1 v152 k1_hw6 k1_t4 k1_h7 => k1_hw6.1 k1_t4 k1_h7
theorem k1_off66_inb : ∀ (k1_t1 : Fin k1_t1_loop.trips) (v152 : BitVec 32) (k1_hw6 : k1_chk6 k1_t1 v152) (k1_t4 : Fin k1_t4_loop.trips), ∀ (k1_h7 : k1_cond7 k1_t1 = 1#1), ∀ a, (k1_off66 k1_t1 v152 k1_t4) a + S1x1x1x16.size a ≤ S3x72x2x128.size a := fun k1_t1 v152 k1_hw6 k1_t4 k1_h7 => k1_hw6.2 k1_t4 k1_h7

def k1_off67 (k1_t1 : Fin k1_t1_loop.trips) (arg16 : BitVec 32) (k1_t2 : Fin (k1_t2_loop arg16).trips) (k1_t3 : Fin k1_t3_loop.trips) (k1_t4 : Fin k1_t4_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v178 : Index := Scalar.indexCast v80
  let c0_i32_84 : BitVec 32 := 0#32
  let c1_i32_86 : BitVec 32 := 1#32
  let arg17 : BitVec 32 := Scf.iv c0_i32_84 c1_i32_86 k1_t2
  let c16_i32_106 : BitVec 32 := 16#32
  let v146 : BitVec 32 := Scalar.muli arg17 c16_i32_106
  let c0_i32_105 : BitVec 32 := 0#32
  let c0_i32_100 : BitVec 32 := 0#32
  let c1_i32_102 : BitVec 32 := 1#32
  let arg18 : BitVec 32 := Scf.iv c0_i32_100 c1_i32_102 k1_t3
  let c1_i32_104 : BitVec 32 := 1#32
  let v144 : BitVec 32 := Scalar.muli arg18 c1_i32_104
  let v145 : BitVec 32 := Scalar.addi c0_i32_105 v144
  let v147 : BitVec 32 := Scalar.addi v146 v145
  let v179 : Index := Scalar.indexCast v147
  let c1_i32_118 : BitVec 32 := 1#32
  let v180 : Index := Scalar.indexCast c1_i32_118
  let c0_i32_112 : BitVec 32 := 0#32
  let c0_i32_107 : BitVec 32 := 0#32
  let c1_i32_109 : BitVec 32 := 1#32
  let arg19 : BitVec 32 := Scf.iv c0_i32_107 c1_i32_109 k1_t4
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v181 : Index := Scalar.indexCast v156
  ![v178.toNat, v179.toNat, 1, v181.toNat]
@[reducible] def k1_t5_loop (arg16 : BitVec 32) : Scf.Loop 32 :=
  let c0_i32_84 : BitVec 32 := 0#32
  let c16_i32_74 : BitVec 32 := 16#32
  let v106 : BitVec 32 := Scalar.addi arg16 c16_i32_74
  let c1_i32_75 : BitVec 32 := 1#32
  let v107 : BitVec 32 := Scalar.subi v106 c1_i32_75
  let c0_i32_77 : BitVec 32 := 0#32
  let v109 : BitVec 1 := Scalar.cmpi .sgt v107 c0_i32_77
  let v110 : BitVec 32 := Scalar.extui v109
  let c0_i32_78 : BitVec 32 := 0#32
  let v111 : BitVec 1 := Scalar.cmpi .slt v107 c0_i32_78
  let v112 : BitVec 32 := Scalar.extui v111
  let v113 : BitVec 32 := Scalar.subi v110 v112
  let c16_i32_76 : BitVec 32 := 16#32
  let c0_i32_79 : BitVec 32 := 0#32
  let v114 : BitVec 1 := Scalar.cmpi .sgt c16_i32_76 c0_i32_79
  let v115 : BitVec 32 := Scalar.extui v114
  let c0_i32_80 : BitVec 32 := 0#32
  let v116 : BitVec 1 := Scalar.cmpi .slt c16_i32_76 c0_i32_80
  let v117 : BitVec 32 := Scalar.extui v116
  let v118 : BitVec 32 := Scalar.subi v115 v117
  let v119 : BitVec 1 := Scalar.cmpi .ne v113 v118
  let v120 : BitVec 32 := Scalar.remsi v107 c16_i32_76
  let c0_i32_81 : BitVec 32 := 0#32
  let v121 : BitVec 1 := Scalar.cmpi .ne v120 c0_i32_81
  let v122 : BitVec 1 := Scalar.andi v119 v121
  let v108 : BitVec 32 := Scalar.divsi v107 c16_i32_76
  let c1_i32_82 : BitVec 32 := 1#32
  let v123 : BitVec 32 := Scalar.subi v108 c1_i32_82
  let v124 : BitVec 32 := Scalar.select v122 v123 v108
  let v125 : BitVec 32 := Scalar.subi v124 c0_i32_84
  let c1_i32_85 : BitVec 32 := 1#32
  let v127 : BitVec 32 := Scalar.divsi v125 c1_i32_85
  let v128 : BitVec 32 := Scalar.muli v127 c1_i32_85
  let v129 : BitVec 32 := Scalar.addi c0_i32_84 v128
  let v126 : BitVec 32 := Scalar.addi c0_i32_84 v125
  let c1_i32_87 : BitVec 32 := 1#32
  ⟨v129, v126, c1_i32_87⟩
@[reducible] def k1_t6_loop : Scf.Loop 32 :=
  let c0_i32_100 : BitVec 32 := 0#32
  let c16_i32_101 : BitVec 32 := 16#32
  let v143 : BitVec 32 := Scalar.addi c0_i32_100 c16_i32_101
  let c1_i32_102 : BitVec 32 := 1#32
  ⟨c0_i32_100, v143, c1_i32_102⟩
def k1_off68 (k1_t1 : Fin k1_t1_loop.trips) (arg16 : BitVec 32) (k1_t5 : Fin (k1_t5_loop arg16).trips) (k1_t6 : Fin k1_t6_loop.trips) : Fin 2 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v148 : Index := Scalar.indexCast v80
  let c0_i32_84 : BitVec 32 := 0#32
  let c16_i32_74 : BitVec 32 := 16#32
  let v106 : BitVec 32 := Scalar.addi arg16 c16_i32_74
  let c1_i32_75 : BitVec 32 := 1#32
  let v107 : BitVec 32 := Scalar.subi v106 c1_i32_75
  let c0_i32_77 : BitVec 32 := 0#32
  let v109 : BitVec 1 := Scalar.cmpi .sgt v107 c0_i32_77
  let v110 : BitVec 32 := Scalar.extui v109
  let c0_i32_78 : BitVec 32 := 0#32
  let v111 : BitVec 1 := Scalar.cmpi .slt v107 c0_i32_78
  let v112 : BitVec 32 := Scalar.extui v111
  let v113 : BitVec 32 := Scalar.subi v110 v112
  let c16_i32_76 : BitVec 32 := 16#32
  let c0_i32_79 : BitVec 32 := 0#32
  let v114 : BitVec 1 := Scalar.cmpi .sgt c16_i32_76 c0_i32_79
  let v115 : BitVec 32 := Scalar.extui v114
  let c0_i32_80 : BitVec 32 := 0#32
  let v116 : BitVec 1 := Scalar.cmpi .slt c16_i32_76 c0_i32_80
  let v117 : BitVec 32 := Scalar.extui v116
  let v118 : BitVec 32 := Scalar.subi v115 v117
  let v119 : BitVec 1 := Scalar.cmpi .ne v113 v118
  let v120 : BitVec 32 := Scalar.remsi v107 c16_i32_76
  let c0_i32_81 : BitVec 32 := 0#32
  let v121 : BitVec 1 := Scalar.cmpi .ne v120 c0_i32_81
  let v122 : BitVec 1 := Scalar.andi v119 v121
  let v108 : BitVec 32 := Scalar.divsi v107 c16_i32_76
  let c1_i32_82 : BitVec 32 := 1#32
  let v123 : BitVec 32 := Scalar.subi v108 c1_i32_82
  let v124 : BitVec 32 := Scalar.select v122 v123 v108
  let v125 : BitVec 32 := Scalar.subi v124 c0_i32_84
  let c1_i32_85 : BitVec 32 := 1#32
  let v127 : BitVec 32 := Scalar.divsi v125 c1_i32_85
  let v128 : BitVec 32 := Scalar.muli v127 c1_i32_85
  let v129 : BitVec 32 := Scalar.addi c0_i32_84 v128
  let c1_i32_87 : BitVec 32 := 1#32
  let arg17 : BitVec 32 := Scf.iv v129 c1_i32_87 k1_t5
  let c16_i32_106 : BitVec 32 := 16#32
  let v146 : BitVec 32 := Scalar.muli arg17 c16_i32_106
  let c0_i32_105 : BitVec 32 := 0#32
  let c0_i32_100 : BitVec 32 := 0#32
  let c1_i32_102 : BitVec 32 := 1#32
  let arg18 : BitVec 32 := Scf.iv c0_i32_100 c1_i32_102 k1_t6
  let c1_i32_104 : BitVec 32 := 1#32
  let v144 : BitVec 32 := Scalar.muli arg18 c1_i32_104
  let v145 : BitVec 32 := Scalar.addi c0_i32_105 v144
  let v147 : BitVec 32 := Scalar.addi v146 v145
  let v149 : Index := Scalar.indexCast v147
  ![v148.toNat, v149.toNat]
@[reducible] def k1_t7_loop : Scf.Loop 32 :=
  let c0_i32_107 : BitVec 32 := 0#32
  let c8_i32_108 : BitVec 32 := 8#32
  let v153 : BitVec 32 := Scalar.addi c0_i32_107 c8_i32_108
  let c1_i32_109 : BitVec 32 := 1#32
  ⟨c0_i32_107, v153, c1_i32_109⟩
def k1_off69 (k1_t1 : Fin k1_t1_loop.trips) (v152 : BitVec 32) (k1_t7 : Fin k1_t7_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v157 : Index := Scalar.indexCast v80
  let v158 : Index := Scalar.indexCast v152
  let c0_i32_114 : BitVec 32 := 0#32
  let v159 : Index := Scalar.indexCast c0_i32_114
  let c0_i32_112 : BitVec 32 := 0#32
  let c0_i32_107 : BitVec 32 := 0#32
  let c1_i32_109 : BitVec 32 := 1#32
  let arg19 : BitVec 32 := Scf.iv c0_i32_107 c1_i32_109 k1_t7
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v160 : Index := Scalar.indexCast v156
  ![v157.toNat, v158.toNat, 0, v160.toNat]

def k1_off70 (k1_t1 : Fin k1_t1_loop.trips) (arg16 : BitVec 32) (k1_t5 : Fin (k1_t5_loop arg16).trips) (k1_t6 : Fin k1_t6_loop.trips) (k1_t7 : Fin k1_t7_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v162 : Index := Scalar.indexCast v80
  let c0_i32_84 : BitVec 32 := 0#32
  let c16_i32_74 : BitVec 32 := 16#32
  let v106 : BitVec 32 := Scalar.addi arg16 c16_i32_74
  let c1_i32_75 : BitVec 32 := 1#32
  let v107 : BitVec 32 := Scalar.subi v106 c1_i32_75
  let c0_i32_77 : BitVec 32 := 0#32
  let v109 : BitVec 1 := Scalar.cmpi .sgt v107 c0_i32_77
  let v110 : BitVec 32 := Scalar.extui v109
  let c0_i32_78 : BitVec 32 := 0#32
  let v111 : BitVec 1 := Scalar.cmpi .slt v107 c0_i32_78
  let v112 : BitVec 32 := Scalar.extui v111
  let v113 : BitVec 32 := Scalar.subi v110 v112
  let c16_i32_76 : BitVec 32 := 16#32
  let c0_i32_79 : BitVec 32 := 0#32
  let v114 : BitVec 1 := Scalar.cmpi .sgt c16_i32_76 c0_i32_79
  let v115 : BitVec 32 := Scalar.extui v114
  let c0_i32_80 : BitVec 32 := 0#32
  let v116 : BitVec 1 := Scalar.cmpi .slt c16_i32_76 c0_i32_80
  let v117 : BitVec 32 := Scalar.extui v116
  let v118 : BitVec 32 := Scalar.subi v115 v117
  let v119 : BitVec 1 := Scalar.cmpi .ne v113 v118
  let v120 : BitVec 32 := Scalar.remsi v107 c16_i32_76
  let c0_i32_81 : BitVec 32 := 0#32
  let v121 : BitVec 1 := Scalar.cmpi .ne v120 c0_i32_81
  let v122 : BitVec 1 := Scalar.andi v119 v121
  let v108 : BitVec 32 := Scalar.divsi v107 c16_i32_76
  let c1_i32_82 : BitVec 32 := 1#32
  let v123 : BitVec 32 := Scalar.subi v108 c1_i32_82
  let v124 : BitVec 32 := Scalar.select v122 v123 v108
  let v125 : BitVec 32 := Scalar.subi v124 c0_i32_84
  let c1_i32_85 : BitVec 32 := 1#32
  let v127 : BitVec 32 := Scalar.divsi v125 c1_i32_85
  let v128 : BitVec 32 := Scalar.muli v127 c1_i32_85
  let v129 : BitVec 32 := Scalar.addi c0_i32_84 v128
  let c1_i32_87 : BitVec 32 := 1#32
  let arg17 : BitVec 32 := Scf.iv v129 c1_i32_87 k1_t5
  let c16_i32_106 : BitVec 32 := 16#32
  let v146 : BitVec 32 := Scalar.muli arg17 c16_i32_106
  let c0_i32_105 : BitVec 32 := 0#32
  let c0_i32_100 : BitVec 32 := 0#32
  let c1_i32_102 : BitVec 32 := 1#32
  let arg18 : BitVec 32 := Scf.iv c0_i32_100 c1_i32_102 k1_t6
  let c1_i32_104 : BitVec 32 := 1#32
  let v144 : BitVec 32 := Scalar.muli arg18 c1_i32_104
  let v145 : BitVec 32 := Scalar.addi c0_i32_105 v144
  let v147 : BitVec 32 := Scalar.addi v146 v145
  let v163 : Index := Scalar.indexCast v147
  let c0_i32_115 : BitVec 32 := 0#32
  let v164 : Index := Scalar.indexCast c0_i32_115
  let c0_i32_112 : BitVec 32 := 0#32
  let c0_i32_107 : BitVec 32 := 0#32
  let c1_i32_109 : BitVec 32 := 1#32
  let arg19 : BitVec 32 := Scf.iv c0_i32_107 c1_i32_109 k1_t7
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v165 : Index := Scalar.indexCast v156
  ![v162.toNat, v163.toNat, 0, v165.toNat]
def k1_off71 (k1_t1 : Fin k1_t1_loop.trips) (v152 : BitVec 32) (k1_t7 : Fin k1_t7_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v173 : Index := Scalar.indexCast v80
  let v174 : Index := Scalar.indexCast v152
  let c1_i32_117 : BitVec 32 := 1#32
  let v175 : Index := Scalar.indexCast c1_i32_117
  let c0_i32_112 : BitVec 32 := 0#32
  let c0_i32_107 : BitVec 32 := 0#32
  let c1_i32_109 : BitVec 32 := 1#32
  let arg19 : BitVec 32 := Scf.iv c0_i32_107 c1_i32_109 k1_t7
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v176 : Index := Scalar.indexCast v156
  ![v173.toNat, v174.toNat, 1, v176.toNat]

def k1_chk7 (k1_t1 : Fin k1_t1_loop.trips) (v152 : BitVec 32) : Prop :=
  (∀ k1_t7 : Fin k1_t7_loop.trips, ∀ (k1_h7 : k1_cond7 k1_t1 = 1#1), ∀ a, (k1_off69 k1_t1 v152 k1_t7) a + S1x1x1x16.size a ≤ S3x72x2x128.size a) ∧
  (∀ k1_t7 : Fin k1_t7_loop.trips, ∀ (k1_h7 : k1_cond7 k1_t1 = 1#1), ∀ a, (k1_off71 k1_t1 v152 k1_t7) a + S1x1x1x16.size a ≤ S3x72x2x128.size a)
theorem k1_off69_inb : ∀ (k1_t1 : Fin k1_t1_loop.trips) (v152 : BitVec 32) (k1_hw7 : k1_chk7 k1_t1 v152) (k1_t7 : Fin k1_t7_loop.trips), ∀ (k1_h7 : k1_cond7 k1_t1 = 1#1), ∀ a, (k1_off69 k1_t1 v152 k1_t7) a + S1x1x1x16.size a ≤ S3x72x2x128.size a := fun k1_t1 v152 k1_hw7 k1_t7 k1_h7 => k1_hw7.1 k1_t7 k1_h7
theorem k1_off71_inb : ∀ (k1_t1 : Fin k1_t1_loop.trips) (v152 : BitVec 32) (k1_hw7 : k1_chk7 k1_t1 v152) (k1_t7 : Fin k1_t7_loop.trips), ∀ (k1_h7 : k1_cond7 k1_t1 = 1#1), ∀ a, (k1_off71 k1_t1 v152 k1_t7) a + S1x1x1x16.size a ≤ S3x72x2x128.size a := fun k1_t1 v152 k1_hw7 k1_t7 k1_h7 => k1_hw7.2 k1_t7 k1_h7

def k1_off72 (k1_t1 : Fin k1_t1_loop.trips) (arg16 : BitVec 32) (k1_t5 : Fin (k1_t5_loop arg16).trips) (k1_t6 : Fin k1_t6_loop.trips) (k1_t7 : Fin k1_t7_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_56 : BitVec 32 := 3#32
  let v80 : BitVec 32 := Scalar.remsi v79 c3_i32_56
  let v178 : Index := Scalar.indexCast v80
  let c0_i32_84 : BitVec 32 := 0#32
  let c16_i32_74 : BitVec 32 := 16#32
  let v106 : BitVec 32 := Scalar.addi arg16 c16_i32_74
  let c1_i32_75 : BitVec 32 := 1#32
  let v107 : BitVec 32 := Scalar.subi v106 c1_i32_75
  let c0_i32_77 : BitVec 32 := 0#32
  let v109 : BitVec 1 := Scalar.cmpi .sgt v107 c0_i32_77
  let v110 : BitVec 32 := Scalar.extui v109
  let c0_i32_78 : BitVec 32 := 0#32
  let v111 : BitVec 1 := Scalar.cmpi .slt v107 c0_i32_78
  let v112 : BitVec 32 := Scalar.extui v111
  let v113 : BitVec 32 := Scalar.subi v110 v112
  let c16_i32_76 : BitVec 32 := 16#32
  let c0_i32_79 : BitVec 32 := 0#32
  let v114 : BitVec 1 := Scalar.cmpi .sgt c16_i32_76 c0_i32_79
  let v115 : BitVec 32 := Scalar.extui v114
  let c0_i32_80 : BitVec 32 := 0#32
  let v116 : BitVec 1 := Scalar.cmpi .slt c16_i32_76 c0_i32_80
  let v117 : BitVec 32 := Scalar.extui v116
  let v118 : BitVec 32 := Scalar.subi v115 v117
  let v119 : BitVec 1 := Scalar.cmpi .ne v113 v118
  let v120 : BitVec 32 := Scalar.remsi v107 c16_i32_76
  let c0_i32_81 : BitVec 32 := 0#32
  let v121 : BitVec 1 := Scalar.cmpi .ne v120 c0_i32_81
  let v122 : BitVec 1 := Scalar.andi v119 v121
  let v108 : BitVec 32 := Scalar.divsi v107 c16_i32_76
  let c1_i32_82 : BitVec 32 := 1#32
  let v123 : BitVec 32 := Scalar.subi v108 c1_i32_82
  let v124 : BitVec 32 := Scalar.select v122 v123 v108
  let v125 : BitVec 32 := Scalar.subi v124 c0_i32_84
  let c1_i32_85 : BitVec 32 := 1#32
  let v127 : BitVec 32 := Scalar.divsi v125 c1_i32_85
  let v128 : BitVec 32 := Scalar.muli v127 c1_i32_85
  let v129 : BitVec 32 := Scalar.addi c0_i32_84 v128
  let c1_i32_87 : BitVec 32 := 1#32
  let arg17 : BitVec 32 := Scf.iv v129 c1_i32_87 k1_t5
  let c16_i32_106 : BitVec 32 := 16#32
  let v146 : BitVec 32 := Scalar.muli arg17 c16_i32_106
  let c0_i32_105 : BitVec 32 := 0#32
  let c0_i32_100 : BitVec 32 := 0#32
  let c1_i32_102 : BitVec 32 := 1#32
  let arg18 : BitVec 32 := Scf.iv c0_i32_100 c1_i32_102 k1_t6
  let c1_i32_104 : BitVec 32 := 1#32
  let v144 : BitVec 32 := Scalar.muli arg18 c1_i32_104
  let v145 : BitVec 32 := Scalar.addi c0_i32_105 v144
  let v147 : BitVec 32 := Scalar.addi v146 v145
  let v179 : Index := Scalar.indexCast v147
  let c1_i32_118 : BitVec 32 := 1#32
  let v180 : Index := Scalar.indexCast c1_i32_118
  let c0_i32_112 : BitVec 32 := 0#32
  let c0_i32_107 : BitVec 32 := 0#32
  let c1_i32_109 : BitVec 32 := 1#32
  let arg19 : BitVec 32 := Scf.iv c0_i32_107 c1_i32_109 k1_t7
  let c1_i32_111 : BitVec 32 := 1#32
  let v154 : BitVec 32 := Scalar.muli arg19 c1_i32_111
  let v155 : BitVec 32 := Scalar.addi c0_i32_112 v154
  let c16_i32_113 : BitVec 32 := 16#32
  let v156 : BitVec 32 := Scalar.muli v155 c16_i32_113
  let v181 : Index := Scalar.indexCast v156
  ![v178.toNat, v179.toNat, 1, v181.toNat]

def k1_chk5 (k1_t1 : Fin k1_t1_loop.trips) (arg16 : BitVec 32) : Prop :=
  (∀ (k1_h7 : k1_cond7 k1_t1 = 1#1), (k1_t2_loop arg16).OK) ∧
  (∀ (k1_t2 : Fin (k1_t2_loop arg16).trips) (k1_t3 : Fin k1_t3_loop.trips), ∀ (k1_h7 : k1_cond7 k1_t1 = 1#1), ∀ a, (k1_off63 k1_t1 arg16 k1_t2 k1_t3) a + S1x16.size a ≤ S3x80.size a) ∧
  (∀ (k1_t2 : Fin (k1_t2_loop arg16).trips) (k1_t3 : Fin k1_t3_loop.trips) (k1_t4 : Fin k1_t4_loop.trips), ∀ (k1_h7 : k1_cond7 k1_t1 = 1#1), ∀ a, (k1_off65 k1_t1 arg16 k1_t2 k1_t3 k1_t4) a + S1x1x1x16.size a ≤ S3x64x2x128.size a) ∧
  (∀ (k1_t2 : Fin (k1_t2_loop arg16).trips) (k1_t3 : Fin k1_t3_loop.trips) (k1_t4 : Fin k1_t4_loop.trips), ∀ (k1_h7 : k1_cond7 k1_t1 = 1#1), ∀ a, (k1_off67 k1_t1 arg16 k1_t2 k1_t3 k1_t4) a + S1x1x1x16.size a ≤ S3x64x2x128.size a) ∧
  (∀ (k1_h7 : k1_cond7 k1_t1 = 1#1), (k1_t5_loop arg16).OK) ∧
  (∀ (k1_t5 : Fin (k1_t5_loop arg16).trips) (k1_t6 : Fin k1_t6_loop.trips), ∀ (k1_h7 : k1_cond7 k1_t1 = 1#1), ∀ a, (k1_off68 k1_t1 arg16 k1_t5 k1_t6) a + S1x16.size a ≤ S3x80.size a) ∧
  (∀ (k1_t5 : Fin (k1_t5_loop arg16).trips) (k1_t6 : Fin k1_t6_loop.trips) (k1_t7 : Fin k1_t7_loop.trips), ∀ (k1_h7 : k1_cond7 k1_t1 = 1#1), ∀ a, (k1_off70 k1_t1 arg16 k1_t5 k1_t6 k1_t7) a + S1x1x1x16.size a ≤ S3x64x2x128.size a) ∧
  (∀ (k1_t5 : Fin (k1_t5_loop arg16).trips) (k1_t6 : Fin k1_t6_loop.trips) (k1_t7 : Fin k1_t7_loop.trips), ∀ (k1_h7 : k1_cond7 k1_t1 = 1#1), ∀ a, (k1_off72 k1_t1 arg16 k1_t5 k1_t6 k1_t7) a + S1x1x1x16.size a ≤ S3x64x2x128.size a)
theorem k1_t2_ok : ∀ (k1_t1 : Fin k1_t1_loop.trips) (arg16 : BitVec 32) (k1_hw5 : k1_chk5 k1_t1 arg16), ∀ (k1_h7 : k1_cond7 k1_t1 = 1#1), (k1_t2_loop arg16).OK := fun k1_t1 arg16 k1_hw5 k1_h7 => k1_hw5.1 k1_h7
theorem k1_off63_inb : ∀ (k1_t1 : Fin k1_t1_loop.trips) (arg16 : BitVec 32) (k1_hw5 : k1_chk5 k1_t1 arg16) (k1_t2 : Fin (k1_t2_loop arg16).trips) (k1_t3 : Fin k1_t3_loop.trips), ∀ (k1_h7 : k1_cond7 k1_t1 = 1#1), ∀ a, (k1_off63 k1_t1 arg16 k1_t2 k1_t3) a + S1x16.size a ≤ S3x80.size a := fun k1_t1 arg16 k1_hw5 k1_t2 k1_t3 k1_h7 => k1_hw5.2.1 k1_t2 k1_t3 k1_h7
theorem k1_off65_inb : ∀ (k1_t1 : Fin k1_t1_loop.trips) (arg16 : BitVec 32) (k1_hw5 : k1_chk5 k1_t1 arg16) (k1_t2 : Fin (k1_t2_loop arg16).trips) (k1_t3 : Fin k1_t3_loop.trips) (k1_t4 : Fin k1_t4_loop.trips), ∀ (k1_h7 : k1_cond7 k1_t1 = 1#1), ∀ a, (k1_off65 k1_t1 arg16 k1_t2 k1_t3 k1_t4) a + S1x1x1x16.size a ≤ S3x64x2x128.size a := fun k1_t1 arg16 k1_hw5 k1_t2 k1_t3 k1_t4 k1_h7 => k1_hw5.2.2.1 k1_t2 k1_t3 k1_t4 k1_h7
theorem k1_off67_inb : ∀ (k1_t1 : Fin k1_t1_loop.trips) (arg16 : BitVec 32) (k1_hw5 : k1_chk5 k1_t1 arg16) (k1_t2 : Fin (k1_t2_loop arg16).trips) (k1_t3 : Fin k1_t3_loop.trips) (k1_t4 : Fin k1_t4_loop.trips), ∀ (k1_h7 : k1_cond7 k1_t1 = 1#1), ∀ a, (k1_off67 k1_t1 arg16 k1_t2 k1_t3 k1_t4) a + S1x1x1x16.size a ≤ S3x64x2x128.size a := fun k1_t1 arg16 k1_hw5 k1_t2 k1_t3 k1_t4 k1_h7 => k1_hw5.2.2.2.1 k1_t2 k1_t3 k1_t4 k1_h7
theorem k1_t5_ok : ∀ (k1_t1 : Fin k1_t1_loop.trips) (arg16 : BitVec 32) (k1_hw5 : k1_chk5 k1_t1 arg16), ∀ (k1_h7 : k1_cond7 k1_t1 = 1#1), (k1_t5_loop arg16).OK := fun k1_t1 arg16 k1_hw5 k1_h7 => k1_hw5.2.2.2.2.1 k1_h7
theorem k1_off68_inb : ∀ (k1_t1 : Fin k1_t1_loop.trips) (arg16 : BitVec 32) (k1_hw5 : k1_chk5 k1_t1 arg16) (k1_t5 : Fin (k1_t5_loop arg16).trips) (k1_t6 : Fin k1_t6_loop.trips), ∀ (k1_h7 : k1_cond7 k1_t1 = 1#1), ∀ a, (k1_off68 k1_t1 arg16 k1_t5 k1_t6) a + S1x16.size a ≤ S3x80.size a := fun k1_t1 arg16 k1_hw5 k1_t5 k1_t6 k1_h7 => k1_hw5.2.2.2.2.2.1 k1_t5 k1_t6 k1_h7
theorem k1_off70_inb : ∀ (k1_t1 : Fin k1_t1_loop.trips) (arg16 : BitVec 32) (k1_hw5 : k1_chk5 k1_t1 arg16) (k1_t5 : Fin (k1_t5_loop arg16).trips) (k1_t6 : Fin k1_t6_loop.trips) (k1_t7 : Fin k1_t7_loop.trips), ∀ (k1_h7 : k1_cond7 k1_t1 = 1#1), ∀ a, (k1_off70 k1_t1 arg16 k1_t5 k1_t6 k1_t7) a + S1x1x1x16.size a ≤ S3x64x2x128.size a := fun k1_t1 arg16 k1_hw5 k1_t5 k1_t6 k1_t7 k1_h7 => k1_hw5.2.2.2.2.2.2.1 k1_t5 k1_t6 k1_t7 k1_h7
theorem k1_off72_inb : ∀ (k1_t1 : Fin k1_t1_loop.trips) (arg16 : BitVec 32) (k1_hw5 : k1_chk5 k1_t1 arg16) (k1_t5 : Fin (k1_t5_loop arg16).trips) (k1_t6 : Fin k1_t6_loop.trips) (k1_t7 : Fin k1_t7_loop.trips), ∀ (k1_h7 : k1_cond7 k1_t1 = 1#1), ∀ a, (k1_off72 k1_t1 arg16 k1_t5 k1_t6 k1_t7) a + S1x1x1x16.size a ≤ S3x64x2x128.size a := fun k1_t1 arg16 k1_hw5 k1_t5 k1_t6 k1_t7 k1_h7 => k1_hw5.2.2.2.2.2.2.2 k1_t5 k1_t6 k1_t7 k1_h7

def k1_off73 (k1_t1 : Fin k1_t1_loop.trips) : Fin 4 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_88 : BitVec 32 := 3#32
  let v130 : BitVec 32 := Scalar.remsi v79 c3_i32_88
  let c0_i32_90 : BitVec 32 := 0#32
  let c0_i32_91 : BitVec 32 := 0#32
  let c0_i32_92 : BitVec 32 := 0#32
  ![v130.toNat, 0, 0, 0]
def k1_off74 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c64_i32_89 : BitVec 32 := 64#32
  let v131 : BitVec 32 := Scalar.muli v79 c64_i32_89
  let v132 : BitVec 32 := Scalar.addi v29 v131
  let c0_i32_93 : BitVec 32 := 0#32
  let c0_i32_94 : BitVec 32 := 0#32
  ![v18.toNat, v132.toNat, 0, 0]
def k1_off75 (k1_t1 : Fin k1_t1_loop.trips) : Fin 1 → Nat :=
  let c0_i32_12 : BitVec 32 := 0#32
  let c1_i32_13 : BitVec 32 := 1#32
  let arg15 : BitVec 32 := Scf.iv c0_i32_12 c1_i32_13 k1_t1
  let c1_i32_55 : BitVec 32 := 1#32
  let v79 : BitVec 32 := Scalar.subi arg15 c1_i32_55
  let c3_i32_88 : BitVec 32 := 3#32
  let v130 : BitVec 32 := Scalar.remsi v79 c3_i32_88
  ![v130.toNat]
def k1_off76 (c5_i32 : BitVec 32) : Fin 4 → Nat :=
  let c3_i32 : BitVec 32 := 3#32
  let v33 : BitVec 32 := Scalar.remsi c5_i32 c3_i32
  let c0_i32_16 : BitVec 32 := 0#32
  let c0_i32_17 : BitVec 32 := 0#32
  let c0_i32_18 : BitVec 32 := 0#32
  ![v33.toNat, 0, 0, 0]
def k1_off77 (i : grid1.Coords) (c5_i32_15 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c64_i32 : BitVec 32 := 64#32
  let v34 : BitVec 32 := Scalar.muli c5_i32_15 c64_i32
  let v35 : BitVec 32 := Scalar.addi v29 v34
  let c0_i32_19 : BitVec 32 := 0#32
  let c0_i32_20 : BitVec 32 := 0#32
  ![v18.toNat, v35.toNat, 0, 0]
def k1_off78 (c5_i32 : BitVec 32) : Fin 1 → Nat :=
  let c3_i32 : BitVec 32 := 3#32
  let v33 : BitVec 32 := Scalar.remsi c5_i32 c3_i32
  ![v33.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x8x256x1024 : Shape := ⟨4, ![16, 8, 256, 1024]⟩
abbrev S_ : Shape := ⟨0, ![]⟩
abbrev S1024 : Shape := ⟨1, ![1024]⟩
abbrev S16x1x256x1024 : Shape := ⟨4, ![16, 1, 256, 1024]⟩
abbrev S16x256x1024 : Shape := ⟨3, ![16, 256, 1024]⟩
abbrev S1024x1 : Shape := ⟨2, ![1024, 1]⟩
abbrev S1 : Shape := ⟨1, ![1]⟩
abbrev S1x1 : Shape := ⟨2, ![1, 1]⟩
abbrev S1x1x1024 : Shape := ⟨3, ![1, 1, 1024]⟩
abbrev S16x256x32x32 : Shape := ⟨4, ![16, 256, 32, 32]⟩

abbrev nBuf : Space → Nat
  | .hbm => 43
  | .vmem => 0
  | .smem => 0
  | _ => 0

abbrev bufTy : (tb : Table) → Fin (tcTables nBuf tb) → BufTy
  | .hbm, ⟨0, _⟩ => ⟨S16x8x256x1024, .f32⟩
  | .hbm, ⟨1, _⟩ => ⟨S16x8x256x1024, .f32⟩
  | .hbm, ⟨2, _⟩ => ⟨S_, .f32⟩
  | .hbm, ⟨3, _⟩ => ⟨S1024, .i32⟩
  | .hbm, ⟨4, _⟩ => ⟨S16x1x256x1024, .f32⟩
  | .hbm, ⟨5, _⟩ => ⟨S16x256x1024, .f32⟩
  | .hbm, ⟨6, _⟩ => ⟨S16x1x256x1024, .f32⟩
  | .hbm, ⟨7, _⟩ => ⟨S16x256x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S1x1, .i32⟩
  | .hbm, ⟨26, _⟩ => ⟨S1024x1, .i32⟩
  | .hbm, ⟨27, _⟩ => ⟨S1024x1, .i1⟩
  | .hbm, ⟨28, _⟩ => ⟨S1024x1, .i1⟩
  | .hbm, ⟨29, _⟩ => ⟨S_, .i1⟩
  | .hbm, ⟨30, _⟩ => ⟨S1024, .i1⟩
  | .hbm, ⟨31, _⟩ => ⟨S16x256x1024, .f32⟩
  | .hbm, ⟨32, _⟩ => ⟨S16x256x1024, .i1⟩
  | .hbm, ⟨33, _⟩ => ⟨S_, .f32⟩
  | .hbm, ⟨34, _⟩ => ⟨S16x256x1024, .f32⟩
  | .hbm, ⟨35, _⟩ => ⟨S16x256x1024, .f32⟩
  | .hbm, ⟨36, _⟩ => ⟨S1x1x1024, .i1⟩
  | .hbm, ⟨37, _⟩ => ⟨S_, .f32⟩
  | .hbm, ⟨38, _⟩ => ⟨S16x256x1024, .f32⟩
  | .hbm, ⟨39, _⟩ => ⟨S16x256x1024, .i1⟩
  | .hbm, ⟨40, _⟩ => ⟨S16x256x1024, .f32⟩
  | .hbm, ⟨41, _⟩ => ⟨S16x256x1024, .f32⟩
  | .hbm, ⟨42, _⟩ => ⟨S16x256x32x32, .f32⟩
  | _, _ => ⟨S16x8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_call1_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]
-- ==== Proof.Chunk.lean ====
/-
  The SparseCore kernel's body, chunk by chunk. The kernel works on eight chunks of 64 cells in three buffer slots; its
  text repeats the same two pieces, START (fetch the chunk's rows, list the cells to complete, issue the gathers) and
  FINISH (wait, add the gathered rows, write the chunk back), once per chunk. Here each piece is written once, at a slot
  and a chunk offset, and the whole body is shown to be the sequence of their instances.
-/
module

public import proofs.«01_k».proof.Defs
public import proofs.«01_k».proof.Proof.Gen.KernelIdeal

@[expose] public section

noncomputable section

namespace Cert.Proof.Chunk

open Cert.KernelIdeal
open Cert.KernelIdeal.Facts₀ Cert.KernelIdeal.Facts
open Idealize.ShloMosaic Idealize.SL.Sem

variable {F : FTy → Type} [FloatOps F] [Cert.KernelIdeal.Facts]

/-- The operands and scratch buffers of the SparseCore call. -/
abbrev tabV : Memref sig .scVector .hbm S16x1024x2x128 .f32 := Memref.whole main_v1_scv
abbrev sclV : Memref sig .scVector .hbm S1024 .f32 := Memref.whole main_v2_scv
abbrev poiV : Memref sig .scVector .hbm S1024 .i32 := Memref.whole main_arg3_scv
abbrev outV : Memref sig .scVector .hbm S16x1024x2x128 .f32 := Memref.whole main_v3_scv
abbrev poiB : Memref sig .scVector .vmem S1024 .i32 := Memref.whole cc1_scratch0
abbrev sclB : Memref sig .scVector .vmem S1024 .f32 := Memref.whole cc1_scratch1
abbrev slabB : Memref sig .scVector .vmem S3x72x2x128 .f32 := Memref.whole cc1_scratch2
abbrev rowsB : Memref sig .scVector .vmem S3x64x2x128 .f32 := Memref.whole cc1_scratch3
abbrev dstB : Memref sig .scVector .vmem S3x80 .i32 := Memref.whole cc1_scratch4
abbrev srcB : Memref sig .scVector .vmem S3x64 .i32 := Memref.whole cc1_scratch5

/-- A program of a vector subcore. -/
abbrev Tile (F : FTy → Type) (i : grid1.Coords) :=
  Prog (TpuEff nD τ sig (Elt F) Λ₀ (.scVector ((i 0).castLE hcore1) ((i 1).castLE hsub1)))

/-- A buffer slot. -/
structure Slot where
  p : ℕ
  hp : p < 3

/-- One of a slot's semaphores, in the array of the kind's three. -/
theorem sem_inb {p : ℕ} (hp : p < 3) : ∀ a, (![p] : Fin 1 → ℕ) a + S1.size a ≤ S3.size a := fun a => match a with
  | 0 => by show p + 1 ≤ 3; omega
abbrev semAt (A : DmaSems sig S3) (s : Slot) : DmaSems sig S_ :=
  (A.slice (Rect.unit (s := S3) ![s.p] S1.size (sem_inb s.hp))).squeeze S_ squeezes_S1_S_
/-- The slot's fetch, gather and write-back semaphores. -/
abbrev Slot.sIn (s : Slot) : DmaSems sig S_ := semAt cc1_scratch6 s
abbrev Slot.sG (s : Slot) : DmaSems sig S_ := semAt cc1_scratch7 s
abbrev Slot.sOut (s : Slot) : DmaSems sig S_ := semAt cc1_scratch8 s

/-! ## The subcore's batch and first cell -/

/-- `2 s + c`: the subcore's number. -/
def wid (i : grid1.Coords) : BitVec 32 :=
  Scalar.addi (Scalar.muli (BitVec.ofNat 32 (i 1).val) 2#32) (BitVec.ofNat 32 (i 0).val)
/-- The batch, `wid // 2`. -/
def bat (i : grid1.Coords) : BitVec 32 :=
  Scalar.select
    (Scalar.andi
      (Scalar.cmpi .ne
        (Scalar.subi (Scalar.extui (Scalar.cmpi .sgt (wid i) 0#32)) (Scalar.extui (Scalar.cmpi .slt (wid i) 0#32)))
        (Scalar.subi (Scalar.extui (Scalar.cmpi .sgt 2#32 0#32)) (Scalar.extui (Scalar.cmpi .slt 2#32 0#32))))
      (Scalar.cmpi .ne (Scalar.remsi (wid i) 2#32) 0#32))
    (Scalar.subi (Scalar.divsi (wid i) 2#32) 1#32) (Scalar.divsi (wid i) 2#32)
/-- The subcore's first cell, `(wid % 2) * 512`. -/
def base (i : grid1.Coords) : BitVec 32 :=
  Scalar.muli
    (Scalar.select
      (Scalar.andi
        (Scalar.xori
          (Scalar.cmpi .slt (Scalar.remsi (wid i) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (wid i) (Scalar.select (Scalar.cmpi .eq 2#32 0#32) 1#32 2#32)) 0#32))
      (Scalar.addi (Scalar.remsi (wid i) (Scalar.select (Scalar.cmpi .eq 2#32 0#32) 1#32 2#32))
        (Scalar.select (Scalar.cmpi .eq 2#32 0#32) 1#32 2#32))
      (Scalar.remsi (wid i) (Scalar.select (Scalar.cmpi .eq 2#32 0#32) 1#32 2#32)))
    512#32

/-- A chunk's rows in the table and in the output. -/
def offRow (i : grid1.Coords) (ci : BitVec 32) : Fin 4 → Nat :=
  ![(bat i).toNat, (Scalar.addi (base i) (Scalar.muli ci 64#32)).toNat, 0, 0]
/-- The batch's table. -/
def offBat (i : grid1.Coords) : Fin 4 → Nat := ![(bat i).toNat, 0, 0, 0]
/-- Sixteen cells of a chunk. -/
def offCell (i : grid1.Coords) (ci : BitVec 32) (k : ℕ) : Fin 1 → Nat :=
  ![(Scalar.indexCast (Scalar.addi (Scalar.addi (base i) (Scalar.muli ci 64#32)) (BitVec.ofNat 32 k)) : Index).toNat]

theorem bat_eq : ∀ i : grid1.Coords, (bat i).toNat = (i 1).val := by decide +kernel
theorem base_eq : ∀ i : grid1.Coords, (base i).toNat = 512 * (i 0).val := by decide +kernel
theorem core_lt (i : grid1.Coords) : (i 0).val < 2 := (i 0).isLt
theorem sub_lt (i : grid1.Coords) : (i 1).val < 16 := (i 1).isLt

/-- A chunk's first cell. -/
theorem first_eq (i : grid1.Coords) {ci : BitVec 32} (hc : ci.toNat < 8) :
    (Scalar.addi (base i) (Scalar.muli ci 64#32)).toNat = 512 * (i 0).val + 64 * ci.toNat := by
  have := core_lt i
  show ((base i) + ci * 64#32).toNat = _
  rw [BitVec.toNat_add, base_eq, BitVec.toNat_mul]
  show (512 * (i 0).val + ci.toNat * 64 % 2 ^ 32) % 2 ^ 32 = _
  omega
theorem offRow_eq (i : grid1.Coords) {ci : BitVec 32} (hc : ci.toNat < 8) :
    offRow i ci = ![(i 1).val, 512 * (i 0).val + 64 * ci.toNat, 0, 0] := by
  unfold offRow; rw [bat_eq, first_eq i hc]
theorem offBat_eq (i : grid1.Coords) : offBat i = ![(i 1).val, 0, 0, 0] := by unfold offBat; rw [bat_eq]
theorem offCell_eq (i : grid1.Coords) {ci : BitVec 32} {k : ℕ} (hc : ci.toNat < 8) (hk : k ≤ 48) :
    offCell i ci k = ![512 * (i 0).val + 64 * ci.toNat + k] := by
  have := core_lt i
  have h : (Scalar.indexCast (Scalar.addi (Scalar.addi (base i) (Scalar.muli ci 64#32)) (BitVec.ofNat 32 k)) : Index).toNat
      = 512 * (i 0).val + 64 * ci.toNat + k := by
    show ((Scalar.addi (base i) (Scalar.muli ci 64#32)) + BitVec.ofNat 32 k : BitVec 32).toNat = _
    rw [BitVec.toNat_add, first_eq i hc, BitVec.toNat_ofNat]; omega
  unfold offCell; rw [h]

theorem offRow_inb (i : grid1.Coords) {ci : BitVec 32} (hc : ci.toNat < 8) : ∀ a, offRow i ci a + S1x64x2x128.size a ≤ S16x1024x2x128.size a := by
  have := core_lt i; have := sub_lt i
  rw [offRow_eq i hc]; intro a; match a with
  | 0 => show (i 1).val + 1 ≤ 16; omega
  | 1 => show 512 * (i 0).val + 64 * ci.toNat + 64 ≤ 1024; omega
  | 2 => exact Nat.le_refl 2
  | 3 => exact Nat.le_refl 128
theorem offBat_inb (i : grid1.Coords) : ∀ a, offBat i a + S1x1024x2x128.size a ≤ S16x1024x2x128.size a := by
  have := sub_lt i
  rw [offBat_eq]; intro a; match a with
  | 0 => show (i 1).val + 1 ≤ 16; omega
  | 1 => exact Nat.le_refl 1024
  | 2 => exact Nat.le_refl 2
  | 3 => exact Nat.le_refl 128
theorem offCell_inb (i : grid1.Coords) {ci : BitVec 32} {k : ℕ} (hc : ci.toNat < 8) (hk : k ≤ 48) : ∀ a, offCell i ci k a + S16.size a ≤ S1024.size a := by
  have := core_lt i
  rw [offCell_eq i hc hk]; intro a; match a with
  | 0 => show 512 * (i 0).val + 64 * ci.toNat + k + 16 ≤ 1024; omega

/-- A chunk's slot: its number modulo three. -/
theorem slot_eq : ∀ {ci : BitVec 32}, ci.toNat < 8 → (Scalar.remsi ci 3#32).toNat = ci.toNat % 3 := by
  intro ci h
  have : ∀ n : Fin 8, (Scalar.remsi (BitVec.ofNat 32 n.val) 3#32).toNat = n.val % 3 := by decide
  have h' := this ⟨ci.toNat, h⟩
  rwa [BitVec.ofNat_toNat, BitVec.setWidth_eq] at h'
def slotOf (ci : BitVec 32) (h : ci.toNat < 8) : Slot := ⟨(Scalar.remsi ci 3#32).toNat, by rw [slot_eq h]; omega⟩

theorem slab_inb {p : ℕ} (hp : p < 3) : ∀ a, (![p, 0, 0, 0] : Fin 4 → ℕ) a + S1x64x2x128.size a ≤ S3x72x2x128.size a := fun a => match a with
  | 0 => by show p + 1 ≤ 3; omega
  | 1 => (by decide : 0 + 64 ≤ 72)
  | 2 => Nat.le_refl 2
  | 3 => Nat.le_refl 128
theorem rows_inb {p k : ℕ} (hp : p < 3) (hk : k ≤ 48) : ∀ a, (![p, k, 0, 0] : Fin 4 → ℕ) a + S1x16x2x128.size a ≤ S3x64x2x128.size a := fun a => match a with
  | 0 => by show p + 1 ≤ 3; omega
  | 1 => by show k + 16 ≤ 64; omega
  | 2 => Nat.le_refl 2
  | 3 => Nat.le_refl 128
theorem list_inb {p k : ℕ} (hp : p < 3) (hk : k ≤ 48) : ∀ a, (![p, k] : Fin 2 → ℕ) a + S1x16.size a ≤ S3x64.size a := fun a => match a with
  | 0 => by show p + 1 ≤ 3; omega
  | 1 => by show k + 16 ≤ 64; omega
theorem dump_inb {p k : ℕ} (hp : p < 3) (hk : k ≤ 64) : ∀ a, (![p, k] : Fin 2 → ℕ) a + S1x16.size a ≤ S3x80.size a := fun a => match a with
  | 0 => by show p + 1 ≤ 3; omega
  | 1 => by show k + 16 ≤ 80; omega
theorem listAll_inb {p : ℕ} (hp : p < 3) : ∀ a, (![p, 0] : Fin 2 → ℕ) a + S1x64.size a ≤ S3x64.size a := fun a => match a with
  | 0 => by show p + 1 ≤ 3; omega
  | 1 => Nat.le_refl 64
theorem dumpAll_inb {p : ℕ} (hp : p < 3) : ∀ a, (![p, 0] : Fin 2 → ℕ) a + S1x80.size a ≤ S3x80.size a := fun a => match a with
  | 0 => by show p + 1 ≤ 3; omega
  | 1 => Nat.le_refl 80

/-! ## The memrefs of a slot -/

abbrev slabM (s : Slot) : Memref sig .scVector .vmem S64x2x128 .f32 :=
  (slabB.slice (Rect.unit (s := S3x72x2x128) ![s.p, 0, 0, 0] S1x64x2x128.size (slab_inb s.hp)) (fun _ => rfl)).squeeze S64x2x128 squeezes_S1x64x2x128_S64x2x128
abbrev rowsM (s : Slot) (k : ℕ) (hk : k ≤ 48) : Memref sig .scVector .vmem S16x2x128 .f32 :=
  (rowsB.slice (Rect.unit (s := S3x64x2x128) ![s.p, k, 0, 0] S1x16x2x128.size (rows_inb s.hp hk)) (fun _ => rfl)).squeeze S16x2x128 squeezes_S1x16x2x128_S16x2x128
abbrev srcM (s : Slot) (k : ℕ) (hk : k ≤ 48) : Memref sig .scVector .vmem S16 .i32 :=
  (srcB.slice (Rect.unit (s := S3x64) ![s.p, k] S1x16.size (list_inb s.hp hk)) (fun _ => rfl)).squeeze S16 squeezes_S1x16_S16
abbrev srcAll (s : Slot) : Memref sig .scVector .vmem S64 .i32 :=
  (srcB.slice (Rect.unit (s := S3x64) ![s.p, 0] S1x64.size (listAll_inb s.hp)) (fun _ => rfl)).squeeze S64 squeezes_S1x64_S64
abbrev dstAll (s : Slot) : Memref sig .scVector .vmem S80 .i32 :=
  (dstB.slice (Rect.unit (s := S3x80) ![s.p, 0] S1x80.size (dumpAll_inb s.hp)) (fun _ => rfl)).squeeze S80 squeezes_S1x80_S80
abbrev tabM (i : grid1.Coords) (ci : BitVec 32) (hc : ci.toNat < 8) : Memref sig .scVector .hbm S64x2x128 .f32 :=
  (tabV.slice (Rect.unit (s := S16x1024x2x128) (offRow i ci) S1x64x2x128.size (offRow_inb i hc)) (fun _ => rfl)).squeeze S64x2x128 squeezes_S1x64x2x128_S64x2x128
abbrev outM (i : grid1.Coords) (ci : BitVec 32) (hc : ci.toNat < 8) : Memref sig .scVector .hbm S64x2x128 .f32 :=
  (outV.slice (Rect.unit (s := S16x1024x2x128) (offRow i ci) S1x64x2x128.size (offRow_inb i hc)) (fun _ => rfl)).squeeze S64x2x128 squeezes_S1x64x2x128_S64x2x128
abbrev batM (i : grid1.Coords) : Memref sig .scVector .hbm S1024x2x128 .f32 :=
  ((tabV.slice (Rect.unit (s := S16x1024x2x128) (offBat i) S1x1024x2x128.size (offBat_inb i)) (fun _ => rfl)).squeeze S1024x2x128 squeezes_S1x1024x2x128_S1024x2x128).slice
    (Rect.unit (s := S1024x2x128) ![0, 0, 0] S1024x2x128.size inb_S1024x2x128_S1024x2x128_0_0_0) (fun _ => rfl)

/-! ## Start: the row fetch, the lists, the gathers -/

/-- The fetch of a chunk's rows. -/
def copyIn (i : grid1.Coords) (s : Slot) (ci : BitVec 32) (hc : ci.toNat < 8) : Tile F i PUnit :=
  Prog.lift (.enqueueDma (tabM i ci hc) (.here (slabM s)) (.dma s.sIn.sem) ((View.wordExact_bits rfl).reshape _ _) ((View.wordExact_bits rfl).reshape _ _) ⟨Or.inl rfl, trivial⟩)
/-- One store of sixteen lanes into a slot's row of the target list. -/
def fillD (i : grid1.Coords) (s : Slot) (k : ℕ) (hk : k ≤ 64) (v : IVec S16 32) : Tile F i PUnit := do
  let _ld : Vec F S1x16 .i32 ← Prog.lift (.load dstB (Rect.unit (s := S3x80) ![s.p, k] S1x16.size (dump_inb s.hp hk)).toLoadRect (View.loadsAt_vmem h_S1x16))
  Prog.lift (.store dstB (Rect.unit (s := S3x80) ![s.p, k] S1x16.size (dump_inb s.hp hk)) (shapeCast S1x16 v shapeCasts_S16_S1x16) Finset.univ (View.stores_vmem_bits_univ h_S1x16 rfl) (.inl rfl))
/-- One store of sixteen lanes into a slot's row of the source list. -/
def fillS (i : grid1.Coords) (s : Slot) (k : ℕ) (hk : k ≤ 48) (v : IVec S16 32) : Tile F i PUnit := do
  let _ld : Vec F S1x16 .i32 ← Prog.lift (.load srcB (Rect.unit (s := S3x64) ![s.p, k] S1x16.size (list_inb s.hp hk)).toLoadRect (View.loadsAt_vmem h_S1x16))
  Prog.lift (.store srcB (Rect.unit (s := S3x64) ![s.p, k] S1x16.size (list_inb s.hp hk)) (shapeCast S1x16 v shapeCasts_S16_S1x16) Finset.univ (View.stores_vmem_bits_univ h_S1x16 rfl) (.inl rfl))

/-- Which of sixteen cells have a scale other than zero. -/
abbrev live (sv : Vec F S16 .f32) : IVec S16 1 :=
  xori (cmpf .oeq sv (broadcast S16 (Scalar.ofBits .f32 0x00000000#32 : F .f32))) (constantI S16 1 1#1)
/-- How many of a group's lanes up to each are live. -/
abbrev rank (m : IVec S16 1) : IVec S16 32 := scan .sum (extui 32 m natLt_1_32)
/-- Where each live lane's entry goes: past the `off` entries listed so far. -/
abbrev place (off : BitVec 32) (m : IVec S16 1) : IVec S16 32 :=
  subi (addi (broadcast S16 off) (rank m)) (extui 32 m natLt_1_32)
/-- How many of a group's lanes are live. -/
abbrev many (m : IVec S16 1) : BitVec 32 := extractAt ![15] (rank m) inpos_S16_p15

/-- Sixteen cells' part of the lists: the list's length with them. -/
def list16 (i : grid1.Coords) (t : Fin k1_t1_loop.trips) (h : k1_cond1 t = 1#1) (s : Slot) (ci : BitVec 32) (hc : ci.toNat < 8)
    (k : ℕ) (hk : k ≤ 48) (off : BitVec 32) : Tile F i (BitVec 32) := do
  let sv : Vec F S16 .f32 ← Prog.lift (.load sclB (Rect.unit (s := S1024) (offCell i ci k) S16.size (offCell_inb i hc hk)).toLoadRect (View.loadsAt_vmem h_S16))
  let pv : Vec F S16 .i32 ← Prog.lift (.load poiB (Rect.unit (s := S1024) (offCell i ci k) S16.size (offCell_inb i hc hk)).toLoadRect (View.loadsAt_vmem h_S16))
  have hw : k1_chk1 t (place off (live sv)) := (← Prog.lift (TpuEff.assume (k1_chk1 t (place off (live sv))) (k1_chk1.dec t (place off (live sv))))).down
  SparseCore.vectorStoreIdx (dstAll s) ![place off (live sv)] (addi (iota .scVector S16 32 [0] iota_S16_d0_w32_scVector) (broadcast S16 (BitVec.ofNat 32 k))) (live sv) false (k1_idx1_inb t _ hw h) (View.stores_vmem_bits_univ h_S80 rfl)
  SparseCore.vectorStoreIdx (srcAll s) ![place off (live sv)] pv (live sv) false (k1_idx2_inb t _ hw h) (View.stores_vmem_bits_univ h_S64 rfl)
  pure (Scalar.addi off (many (live sv)))

/-- The condition of the gather of the list's entries from `k` on: the list reaches past `k`. -/
abbrev past (off : BitVec 32) (k : ℕ) : BitVec 1 :=
  Scalar.cmpi .ne (Scalar.extui (Scalar.cmpi .sgt off (BitVec.ofNat 32 k)) : BitVec 32) 0#32
/-- One gather of sixteen rows. -/
def gather16 (i : grid1.Coords) (s : Slot) (k : ℕ) (hk : k ≤ 48) : Tile F i PUnit :=
  SparseCore.enqueueIndirectGather rfl (batM i) (rowsM s k hk) gathers_S1024x2x128_S16x2x128 (srcM s k hk) rfl s.sG.sem (View.wordExact_bits rfl) rfl (Or.inl rfl)
/-- The wait for a chunk's write-back. -/
def drain (i : grid1.Coords) (s : Slot) (ci : BitVec 32) (hc : ci.toNat < 8) : Tile F i PUnit :=
  Prog.lift (.waitDma2 s.sOut.sem (slabM s) (outM i ci hc) ((View.wordExact_bits rfl).reshape _ _) ((View.wordExact_bits rfl).reshape _ _))

/-! ## Finish: the waits, the additions, the write-back -/

/-- The wait for one gather. -/
def await16 (i : grid1.Coords) (s : Slot) (k : ℕ) (hk : k ≤ 48) : Tile F i PUnit :=
  SparseCore.waitIndirectGather s.sG.sem (batM i) (rowsM s k hk) (View.wordExact_bits rfl) ((View.wordExact_bits rfl).reshape _ _)

/-- The list entry of group `jj`, lane `l`. -/
def entry (jj : BitVec 32) (l : Fin k1_t3_loop.trips) : BitVec 32 :=
  Scalar.addi (Scalar.muli jj 16#32) (Scalar.addi 0#32 (Scalar.muli (Scf.iv 0#32 1#32 l) 1#32))
/-- The first column of sixteen. -/
def col (t : Fin k1_t4_loop.trips) : BitVec 32 :=
  Scalar.muli (Scalar.addi 0#32 (Scalar.muli (Scf.iv 0#32 1#32 t) 1#32)) 16#32
def offEntry (p : ℕ) (e : BitVec 32) : Fin 2 → ℕ := ![p, (Scalar.indexCast e : Index).toNat]
def offCol (p : ℕ) (e : BitVec 32) (h : ℕ) (t : Fin k1_t4_loop.trips) : Fin 4 → ℕ :=
  ![p, (Scalar.indexCast e : Index).toNat, h, (Scalar.indexCast (col t) : Index).toNat]

/-- Sixteen columns of one half of a row: the gathered row added onto the slab's. -/
def add16 (i : grid1.Coords) (o o' : Fin 4 → ℕ) (ho : ∀ a, o a + S1x1x1x16.size a ≤ S3x72x2x128.size a)
    (ho' : ∀ a, o' a + S1x1x1x16.size a ≤ S3x64x2x128.size a) : Tile F i PUnit := do
  let x : Vec F S1x1x1x16 .f32 ← Prog.lift (.load slabB (Rect.unit (s := S3x72x2x128) o S1x1x1x16.size ho).toLoadRect (View.loadsAt_vmem h_S1x1x1x16))
  let y : Vec F S1x1x1x16 .f32 ← Prog.lift (.load rowsB (Rect.unit (s := S3x64x2x128) o' S1x1x1x16.size ho').toLoadRect (View.loadsAt_vmem h_S1x1x1x16))
  let _ld : Vec F S1x1x1x16 .f32 ← Prog.lift (.load slabB (Rect.unit (s := S3x72x2x128) o S1x1x1x16.size ho).toLoadRect (View.loadsAt_vmem h_S1x1x1x16))
  Prog.lift (.store slabB (Rect.unit (s := S3x72x2x128) o S1x1x1x16.size ho)
    (shapeCast S1x1x1x16 (addf (shapeCast S16 x shapeCasts_S1x1x1x16_S16) (shapeCast S16 y shapeCasts_S1x1x1x16_S16)) shapeCasts_S16_S1x1x1x16)
    Finset.univ (View.stores_vmem_bits_univ h_S1x1x1x16 rfl) (.inl rfl))

/-- The target of a list entry, of the sixteen words loaded from it on. -/
def target (v : Vec F S1x16 .i32) : BitVec 32 :=
  extractAt ![0] (extractStridedSlice S1 ![0] (shapeCast S16 v shapeCasts_S1x16_S16) slices_S16_o0_S1 : IVec S1 32) inpos_S1_p0

/-- One list entry: its gathered row added onto its target row. -/
def addRow (i : grid1.Coords) (t : Fin k1_t1_loop.trips) (h : k1_cond7 t = 1#1) (p : ℕ)
    (e : BitVec 32) (h1 : ∀ a, offEntry p e a + S1x16.size a ≤ S3x80.size a)
    (h2 : ∀ (t : Fin k1_t4_loop.trips) a, offCol p e 0 t a + S1x1x1x16.size a ≤ S3x64x2x128.size a)
    (h3 : ∀ (t : Fin k1_t4_loop.trips) a, offCol p e 1 t a + S1x1x1x16.size a ≤ S3x64x2x128.size a) : Tile F i PUnit := do
  let v : Vec F S1x16 .i32 ← Prog.lift (.load dstB (Rect.unit (s := S3x80) (offEntry p e) S1x16.size h1).toLoadRect (View.loadsAt_vmem h_S1x16))
  have hw : k1_chk6 t (target v) := (← Prog.lift (TpuEff.assume (k1_chk6 t (target v)) (k1_chk6.dec t (target v)))).down
  Scf.Loop.for k1_t4_loop (k1_t4_ok t h) ⟨⟩ fun u _ => do
    add16 i (k1_off64 t (target v) u) (offCol p e 0 u) (hw.1 u h) (h2 u)
    add16 i (k1_off66 t (target v) u) (offCol p e 1 u) (hw.2 u h) (h3 u)
    pure ⟨⟩
  pure ⟨⟩

/-- The groups of sixteen entries of a loop. -/
def addRows (i : grid1.Coords) (t : Fin k1_t1_loop.trips) (h : k1_cond7 t = 1#1) (p : ℕ) (L : Scf.Loop 32) (ok : L.OK)
    (h1 : ∀ (g : Fin L.trips) (l : Fin k1_t3_loop.trips) a, offEntry p (entry (Scf.iv L.lb L.st g) l) a + S1x16.size a ≤ S3x80.size a)
    (h2 : ∀ (g : Fin L.trips) (l : Fin k1_t3_loop.trips) (u : Fin k1_t4_loop.trips) a, offCol p (entry (Scf.iv L.lb L.st g) l) 0 u a + S1x1x1x16.size a ≤ S3x64x2x128.size a)
    (h3 : ∀ (g : Fin L.trips) (l : Fin k1_t3_loop.trips) (u : Fin k1_t4_loop.trips) a, offCol p (entry (Scf.iv L.lb L.st g) l) 1 u a + S1x1x1x16.size a ≤ S3x64x2x128.size a) :
    Tile F i PUnit :=
  Scf.Loop.for L ok ⟨⟩ fun g _ => do
    Scf.Loop.for k1_t3_loop (k1_t3_ok t h) ⟨⟩ fun l _ =>
      addRow i t h p (entry (Scf.iv L.lb L.st g) l) (h1 g l) (h2 g l) (h3 g l)
    pure ⟨⟩

/-- The write-back of a chunk's rows. -/
def copyOut (i : grid1.Coords) (s : Slot) (ci : BitVec 32) (hc : ci.toNat < 8) : Tile F i PUnit :=
  Prog.lift (.enqueueDma (slabM s) (.here (outM i ci hc)) (.dma s.sOut.sem) ((View.wordExact_bits rfl).reshape _ _) ((View.wordExact_bits rfl).reshape _ _) ⟨Or.inl rfl, trivial⟩)

/-- The wait for a chunk's fetch. -/
def awaitIn (i : grid1.Coords) (s : Slot) (ci : BitVec 32) (hc : ci.toNat < 8) : Tile F i PUnit :=
  Prog.lift (.waitDma2 s.sIn.sem (tabM i ci hc) (slabM s) ((View.wordExact_bits rfl).reshape _ _) ((View.wordExact_bits rfl).reshape _ _))

/-! ## A step of the chunk loop -/

/-- The chunk a step starts, the one it finishes, and the one whose write-back it first waits for. -/
abbrev now (t : Fin k1_t1_loop.trips) : BitVec 32 := Scf.iv 0#32 1#32 t
abbrev prev (t : Fin k1_t1_loop.trips) : BitVec 32 := Scalar.subi (now t) 1#32
abbrev old (t : Fin k1_t1_loop.trips) : BitVec 32 := Scalar.subi (now t) 3#32

theorem now_eq : ∀ t : Fin k1_t1_loop.trips, (now t).toNat = t.val := by decide +kernel
theorem cond1_iff : ∀ t : Fin k1_t1_loop.trips, k1_cond1 t = 1#1 ↔ t.val < 8 := by decide +kernel
theorem cond2_iff : ∀ t : Fin k1_t1_loop.trips, k1_cond2 t = 1#1 ↔ 3 ≤ t.val := by decide +kernel
theorem cond7_iff : ∀ t : Fin k1_t1_loop.trips, k1_cond7 t = 1#1 ↔ 1 ≤ t.val := by decide +kernel
theorem prev_eq : ∀ t : Fin k1_t1_loop.trips, 1 ≤ t.val → (prev t).toNat = t.val - 1 := by decide +kernel
theorem old_eq : ∀ t : Fin k1_t1_loop.trips, 3 ≤ t.val → (old t).toNat = t.val - 3 := by decide +kernel
theorem now_lt {t : Fin k1_t1_loop.trips} (h : k1_cond1 t = 1#1) : (now t).toNat < 8 := by
  rw [now_eq]; exact (cond1_iff t).1 h
theorem trips_le (t : Fin k1_t1_loop.trips) : t.val < 9 := lt_of_lt_of_eq t.isLt (by decide +kernel)
theorem prev_lt {t : Fin k1_t1_loop.trips} (h : k1_cond7 t = 1#1) : (prev t).toNat < 8 := by
  have := trips_le t
  rw [prev_eq t ((cond7_iff t).1 h)]; omega
theorem old_lt {t : Fin k1_t1_loop.trips} (h : k1_cond2 t = 1#1) : (old t).toNat < 8 := by
  have := trips_le t
  rw [old_eq t ((cond2_iff t).1 h)]; omega

/-- The start's first part: the wait that frees the slot, the fetch, three fills of the target list. -/
def head (i : grid1.Coords) (t : Fin k1_t1_loop.trips) (h : k1_cond1 t = 1#1) :
    Tile F i (Σ' (_ : BitVec 32) (_ : BitVec 32), IVec S16 32) := do
  if h2 : k1_cond2 t = 1#1 then do
    drain i (slotOf (old t) (old_lt h2)) (old t) (old_lt h2)
    pure ⟨⟩
  else do
    pure ⟨⟩
  copyIn i (slotOf (now t) (now_lt h)) (now t) (now_lt h)
  fillD i (slotOf (now t) (now_lt h)) 0 (by decide) (broadcast S16 64#32)
  fillD i (slotOf (now t) (now_lt h)) 16 (by decide) (broadcast S16 64#32)
  fillD i (slotOf (now t) (now_lt h)) 32 (by decide) (broadcast S16 64#32)
  pure ⟨Scalar.remsi (now t) 3#32, Scalar.addi (base i) (Scalar.muli (now t) 64#32), broadcast S16 64#32⟩

/-- The rest of the fills, then the lists: their length. -/
def lists (i : grid1.Coords) (t : Fin k1_t1_loop.trips) (h : k1_cond1 t = 1#1) (v : IVec S16 32) : Tile F i (BitVec 32) := do
  fillD i (slotOf (now t) (now_lt h)) 48 (by decide) v
  fillD i (slotOf (now t) (now_lt h)) 64 (by decide) (broadcast S16 64#32)
  fillS i (slotOf (now t) (now_lt h)) 0 (by decide) (broadcast S16 0#32)
  fillS i (slotOf (now t) (now_lt h)) 16 (by decide) (broadcast S16 0#32)
  fillS i (slotOf (now t) (now_lt h)) 32 (by decide) (broadcast S16 0#32)
  fillS i (slotOf (now t) (now_lt h)) 48 (by decide) (broadcast S16 0#32)
  let n0 ← list16 i t h (slotOf (now t) (now_lt h)) (now t) (now_lt h) 0 (by decide) 0#32
  let n1 ← list16 i t h (slotOf (now t) (now_lt h)) (now t) (now_lt h) 16 (by decide) n0
  let n2 ← list16 i t h (slotOf (now t) (now_lt h)) (now t) (now_lt h) 32 (by decide) n1
  list16 i t h (slotOf (now t) (now_lt h)) (now t) (now_lt h) 48 (by decide) n2

/-- The finish's first part: the waits for the fetch and for the gathers. -/
def tail (i : grid1.Coords) (t : Fin k1_t1_loop.trips) (h : k1_cond7 t = 1#1) (off : BitVec 32) :
    Tile F i (Σ' (_ : BitVec 32) (_ : BitVec 32) (_ : BitVec 32) (_ : BitVec 32), BitVec 32) := do
  awaitIn i (slotOf (prev t) (prev_lt h)) (prev t) (prev_lt h)
  if past off 0 = 1#1 then do
    await16 i (slotOf (prev t) (prev_lt h)) 0 (by decide)
    pure ⟨⟩
  else do
    pure ⟨⟩
  if past off 16 = 1#1 then do
    await16 i (slotOf (prev t) (prev_lt h)) 16 (by decide)
    pure ⟨⟩
  else do
    pure ⟨⟩
  if past off 32 = 1#1 then do
    await16 i (slotOf (prev t) (prev_lt h)) 32 (by decide)
    pure ⟨⟩
  else do
    pure ⟨⟩
  if past off 48 = 1#1 then do
    await16 i (slotOf (prev t) (prev_lt h)) 48 (by decide)
    pure ⟨⟩
  else do
    pure ⟨⟩
  pure ⟨prev t, Scalar.remsi (prev t) 3#32, Scalar.subi (Scalar.addi off 16#32) 1#32, 16#32, Scalar.divsi (Scalar.subi (Scalar.addi off 16#32) 1#32) 16#32⟩

/-- The additions and the write-back. -/
def close (i : grid1.Coords) (t : Fin k1_t1_loop.trips) (h : k1_cond7 t = 1#1) (off : BitVec 32) (hw : k1_chk5 t off) : Tile F i PUnit := do
  addRows i t h (slotOf (prev t) (prev_lt h)).p (k1_t2_loop off) (hw.1 h) (fun g l => hw.2.1 g l h) (fun g l u => hw.2.2.1 g l u h) (fun g l u => hw.2.2.2.1 g l u h)
  addRows i t h (slotOf (prev t) (prev_lt h)).p (k1_t5_loop off) (hw.2.2.2.2.1 h) (fun g l => hw.2.2.2.2.2.1 g l h) (fun g l u => hw.2.2.2.2.2.2.1 g l u h) (fun g l u => hw.2.2.2.2.2.2.2 g l u h)
  copyOut i (slotOf (prev t) (prev_lt h)) (prev t) (prev_lt h)
  pure ⟨⟩

/-- One step: start a chunk, finish the one before; the started chunk's list length. -/
def step (i : grid1.Coords) (t : Fin k1_t1_loop.trips) (off : BitVec 32) : Tile F i (BitVec 32) := do
  have hw : k1_chk5 t off := (← Prog.lift (TpuEff.assume (k1_chk5 t off) (k1_chk5.dec t off))).down
  let n : BitVec 32 ← if h : k1_cond1 t = 1#1 then do
      let p : Σ' (_ : BitVec 32) (_ : BitVec 32), IVec S16 32 ← head i t h
      let n ← lists i t h p.2.2
      if past n 0 = 1#1 then do
        gather16 i (slotOf (now t) (now_lt h)) 0 (by decide)
        pure ⟨⟩
      else do
        pure ⟨⟩
      if past n 16 = 1#1 then do
        gather16 i (slotOf (now t) (now_lt h)) 16 (by decide)
        pure ⟨⟩
      else do
        pure ⟨⟩
      if past n 32 = 1#1 then do
        gather16 i (slotOf (now t) (now_lt h)) 32 (by decide)
        pure ⟨⟩
      else do
        pure ⟨⟩
      if past n 48 = 1#1 then do
        gather16 i (slotOf (now t) (now_lt h)) 48 (by decide)
        pure ⟨⟩
      else do
        pure ⟨⟩
      pure n
    else do
      pure 0#32
  if h : k1_cond7 t = 1#1 then do
    let _p : Σ' (_ : BitVec 32) (_ : BitVec 32) (_ : BitVec 32) (_ : BitVec 32), BitVec 32 ← tail i t h off
    close i t h off hw
    pure ⟨⟩
  else do
    pure ⟨⟩
  pure n

/-- A whole array copied into a subcore's memory. -/
def fetch (i : grid1.Coords) {d : EltTy} (src : Memref sig .scVector .hbm S1024 d) (hs : src.IsWhole) (dst : Memref sig .scVector .vmem S1024 d) (hd : dst.IsWhole)
    (sem : DmaSems sig S_) : Tile F i PUnit := do
  Prog.lift (.enqueueDma src (.here dst) (.dma sem.sem) hs.wordExact hd.wordExact ⟨Or.inl rfl, trivial⟩)
  Prog.lift (.waitDma2 sem.sem src dst hs.wordExact hd.wordExact)

/-- The index and scale arrays fetched, then the chunk loop around a step. -/
def runWith (i : grid1.Coords) (f : Fin k1_t1_loop.trips → BitVec 32 → Tile F i (BitVec 32)) : Tile F i (Σ' (_ : BitVec 32), BitVec 32) := do
  fetch i poiV (Memref.isWhole_whole _) poiB (Memref.isWhole_whole _) cc1_scoped0
  fetch i sclV (Memref.isWhole_whole _) sclB (Memref.isWhole_whole _) cc1_scoped1
  let _n ← Scf.Loop.for k1_t1_loop k1_t1_ok 0#32 f
  pure ⟨base i, 5#32⟩

/-- The kernel of one subcore: the loop, then the waits for the last three write-backs. -/
def body (i : grid1.Coords) : Tile F i PUnit := do
  let _p : Σ' (_ : BitVec 32), BitVec 32 ← runWith i (step i)
  drain i (slotOf 5#32 (by decide)) 5#32 (by decide)
  drain i (slotOf 6#32 (by decide)) 6#32 (by decide)
  drain i (slotOf 7#32 (by decide)) 7#32 (by decide)
  pure ⟨⟩

/-- The printed kernel at the launch's arrays. -/
abbrev printed (i : grid1.Coords) : Tile F i PUnit :=
  cc1_sc_kernel i tabV (Memref.isWhole_whole _) sclV (Memref.isWhole_whole _) poiV (Memref.isWhole_whole _) outV (Memref.isWhole_whole _) poiB (Memref.isWhole_whole _) sclB (Memref.isWhole_whole _) slabB (Memref.isWhole_whole _) rowsB (Memref.isWhole_whole _) dstB (Memref.isWhole_whole _) srcB (Memref.isWhole_whole _) cc1_scratch6 cc1_scratch7 cc1_scratch8 cc1_scoped0 cc1_scoped1

theorem runWith_congr (i : grid1.Coords) {X} {f g : Fin k1_t1_loop.trips → BitVec 32 → Tile F i (BitVec 32)}
    (hX : X = runWith i f) (h : ∀ t off, f t off = g t off) : X = runWith i g := by
  rw [hX, funext fun t => funext (h t)]

theorem run_eq (i : grid1.Coords) :
    k1_part7 (F := F) i tabV (Memref.isWhole_whole _) sclV (Memref.isWhole_whole _) poiV (Memref.isWhole_whole _) outV (Memref.isWhole_whole _) poiB (Memref.isWhole_whole _) sclB (Memref.isWhole_whole _) slabB (Memref.isWhole_whole _) rowsB (Memref.isWhole_whole _) dstB (Memref.isWhole_whole _) srcB (Memref.isWhole_whole _) cc1_scratch6 cc1_scratch7 cc1_scratch8 cc1_scoped0 cc1_scoped1 = runWith i (step i) := by
  refine runWith_congr i rfl ?_
  intro t off
  unfold step
  refine congrArg (Prog.bind _) ?_
  funext ⟨hw⟩
  by_cases h : k1_cond1 t = 1#1
  · rw [dif_pos h, dif_pos h]
    rfl
  · rw [dif_neg h, dif_neg h]
    rfl

theorem body_eq (i : grid1.Coords) : printed (F := F) i = body i := by
  unfold printed cc1_sc_kernel body
  rw [run_eq]
  rfl

end Cert.Proof.Chunk
-- ==== Proof.Gather.lean ====
/-
  Several indirect gathers on ONE semaphore: the rows of every gather are the transfers of one batch, each gather issuing
  the next rows of it. A wait sized to one gather tells nothing of any row; once every row's amount has been waited for,
  all rows are there.
-/
module

public import proofs.«01_k».proof.Proof.Chunk
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Tactic

@[expose] public section

noncomputable section

namespace Cert.Proof.Gather

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The members of a family from `j` on are the next `m` of them and those from `j + m` on. -/
theorem bigSep_block {n : ℕ} (Φ : Fin n → sProp 𝕄) (j m : ℕ) (h : j + m ≤ n) :
    bigSep (Transfers.pending j) Φ
      = iprop(bigSep Finset.univ (fun x : Fin m => Φ ⟨j + x.val, by omega⟩) ∗ bigSep (Transfers.pending (j + m)) Φ) := by
  classical
  let em : Fin m ↪ Fin n := ⟨fun x => ⟨j + x.val, by omega⟩, fun x y e => Fin.ext (by simpa using e)⟩
  have hset : Transfers.pending (n := n) j = Finset.univ.map em ∪ Transfers.pending (j + m) := by
    ext t
    simp only [Transfers.pending, Finset.mem_filter, Finset.mem_univ, true_and, Finset.mem_union, Finset.mem_map]
    constructor
    · intro ht
      by_cases h' : j + m ≤ t.val
      · exact .inr h'
      · exact .inl ⟨⟨t.val - j, by omega⟩, Fin.ext (by show j + (t.val - j) = t.val; omega)⟩
    · rintro (⟨x, rfl⟩ | h')
      · exact Nat.le_add_right _ _
      · omega
  have hd : Disjoint (Finset.univ.map em) (Transfers.pending (n := n) (j + m)) := by
    rw [Finset.disjoint_left]
    intro t ht ht'
    obtain ⟨x, -, rfl⟩ := Finset.mem_map.mp ht
    have hx := x.isLt
    have : j + m ≤ j + x.val := (Finset.mem_filter.mp ht').2
    omega
  rw [hset, BI.bigSep_union hd, BI.bigSep_map]
  rfl

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- An indirect gather whose rows are the next transfers of a batch on its semaphore: per row its destination elements,
    its list entry and a share of the source go in, and the row's delivery makes the batch's. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {qk : Fin (s.size hg.axis') → PosShare TreeShare}
    {fs : Buf (Elt F) (src.view.loc c)} {fd : Fin (s.size hg.axis') → Buf (Elt F) (dst.view.loc c)} {fo : Buf (Elt F) (offs.view.loc c)}
    (ι : Ix) (N : ℕ) {n : ℕ} {D : Fin n → sProp 𝕄} {j u : ℕ}
    (hN : ∀ x, (dst.slice (s.rowRect hg.axis' x) (s.stride_rowRect hg.axis' x)).view.dmaCredit = N)
    (hj : j + s.size hg.axis' ≤ n) (hu : u ≤ j * N)
    (hin : ∀ x, (offs.view.read (Elt F) fo x).toNat < s₀.size hg.axis)
    (hD : ∀ x : Fin (s.size hg.axis'),
      iprop(((dst.view.loc c ↦[(dst.view.slice (s.rowRect hg.axis' x)).set]{fullShare}
              ((dst.view.slice (s.rowRect hg.axis' x)).write (Elt F) (fd x)
                (fun i => src.view.read (Elt F) fs (hg.rowIdx (rows (offs.view.read (Elt F) fo) hn hin x) i)) Finset.univ))
          ∗ (offs.view.loc c ↦[{offs.view.emb (si.rowMajor.symm (x.cast hn.symm))}]{qo} fo))
          ∗ (src.view.loc c ↦[src.view.set]{qk x} fs)) ⊢ D ⟨j + x.val, by omega⟩) :
    iprop(bigSep Finset.univ (fun x : Fin (s.size hg.axis') =>
            iprop(((dst.view.loc c ↦[(dst.view.slice (s.rowRect hg.axis' x)).set]{fullShare} fd x)
              ∗ (offs.view.loc c ↦[{offs.view.emb (si.rowMajor.symm (x.cast hn.symm))}]{qo} fo))
              ∗ (src.view.loc c ↦[src.view.set]{qk x} fs)))
        ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun x w => (rowOf (s₀.size hg.axis) w).map (gatherRow c src dst hg sem hsrc he hsp hr x)) 0
  let r : Fin (s.size hg.axis') → Fin (s₀.size hg.axis) := rows (offs.view.read (Elt F) fo) hn hin
  let rd : Fin (s.size hg.axis') → RowDma τ sig (Elt F) c.2 sem := fun x => gatherRow c src dst hg sem hsrc he hsp hr x (r x)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ x, S.row x (S.word fo x) = some (rd x) := fun x => by
    change (rowOf (s₀.size hg.axis) (offs.view.read (Elt F) fo (S.entry x))).map _ = _
    rw [rowOf_of_lt (hin _)]; rfl
  iintro ⟨Hpre, HB⟩ Hk
  unfold Transfers.Batch
  icases HB with ⟨%γ, %γ₀, %κ, #Hinv, HI, H0, Hcred⟩
  ihave HI' := (Entails.of_eq (bigSep_block (fun t => count EC (γ t) 0) j (s.size hg.axis') hj)) $$ HI
  icases HI' with ⟨Hγ, HI⟩
  iapply (wp_enqueueIndirectDma 𝒱 c bd Set.univ (qo := qo) (fo := fo) (rd := rd) ι (s.size hg.axis' * N) hA hrd
    (sum_rowCredit_eq _ hN rfl)) $$ [Hpre Hγ]
  · have hrow : ∀ x : Fin (s.size hg.axis'), iprop(inv κ (Transfers.batchBody EC (c, SemLoc.dma sem) N D γ γ₀)
          ∗ ((((dst.view.loc c ↦[(dst.view.slice (s.rowRect hg.axis' x)).set]{fullShare} fd x) ∗ S.heldEntry qo fo x)
          ∗ (src.view.loc c ↦[src.view.set]{qk x} fs)) ∗ count EC (γ ⟨j + x.val, by omega⟩) 0))
        ⊢ iprop(S.heldEntry qo fo x ∗ (S.heldEntry qo fo x -∗ rowRes c (rd x))) := fun x => by
      iintro ⟨#Hinv, ⟨⟨Hr, He⟩, Hsq⟩, Hγj⟩
      isplitl [He]; · iexact He
      iintro He
      unfold rowRes
      iexists qk x, fs, iprop((dst.view.loc c ↦[(dst.view.slice (s.rowRect hg.axis' x)).set]{fullShare}
        ((dst.view.slice (s.rowRect hg.axis' x)).write (Elt F) (fd x)
          (fun i => src.view.read (Elt F) fs (hg.rowIdx (r x) i)) Finset.univ)) ∗ S.heldEntry qo fo x)
      isplitl [Hsq]; · iexact Hsq
      isplitl [Hr He]
      · iapply writeUpdate_frame
        isplitl [Hr]
        · iapply (pointsTo_writeUpdate c (v := dst.view.slice (s.rowRect hg.axis' x)) subset_rfl) $$ Hr
        · iexact He
      · have hc := Transfers.batch_creditUpdate EC (g := (c, SemLoc.dma sem)) (N := N) (D := D) (γ := γ) (γ₀ := γ₀) (ι := κ) ⟨j + x.val, by omega⟩ (hD x)
        rw [← hN x] at hc
        iapply hc
        isplitr
        · rw [hN x]; iexact Hinv
        iexact Hγj
    unfold Stream.res
    ihave H3 := Transfers.bigSep_sep_in _ _ _ $$ [Hpre Hγ]; · isplitl [Hpre] <;> iassumption
    iapply (Transfers.bigSep_mono_pers Finset.univ _ _ _ fun x _ => hrow x)
    isplitr; · iexact Hinv
    iexact H3
  · iintro Hnew
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hnew as H
    iexact H

end Cert.Proof.Gather
-- ==== Proof.Lists.lean ====
/-
  The two lists a chunk's cells are gathered by, as plain sequences: which cells are listed after each group of sixteen,
  and what the running counts and the masked scatter of one group do to them.
-/
module

public import proofs.«01_k».proof.Proof.Chunk
public import Idealize.ShloMosaic.Lib.Pointwise.Index

@[expose] public section

noncomputable section

namespace Cert.Proof.Lists

open Cert.KernelIdeal
open Cert.Proof.Chunk
open Idealize.ShloMosaic

/-- How many of the cells `k … k + l - 1` are live. -/
def cnt (lv : ℕ → Prop) [DecidablePred lv] (k l : ℕ) : ℕ := ((Finset.range l).filter fun x => lv (k + x)).card

theorem cnt_zero (lv : ℕ → Prop) [DecidablePred lv] (k : ℕ) : cnt lv k 0 = 0 := rfl
theorem cnt_succ (lv : ℕ → Prop) [DecidablePred lv] (k l : ℕ) : cnt lv k (l + 1) = cnt lv k l + if lv (k + l) then 1 else 0 := by
  unfold cnt
  rw [Finset.range_add_one, Finset.filter_insert]
  split
  · rw [Finset.card_insert_of_notMem (by simp)]
  · rfl
theorem cnt_le (lv : ℕ → Prop) [DecidablePred lv] (k l : ℕ) : cnt lv k l ≤ l :=
  (Finset.card_filter_le _ _).trans (Finset.card_range l).le
theorem cnt_mono (lv : ℕ → Prop) [DecidablePred lv] (k : ℕ) {l l' : ℕ} (h : l ≤ l') : cnt lv k l ≤ cnt lv k l' :=
  Finset.card_le_card (Finset.filter_subset_filter _ (Finset.range_mono h))
theorem cnt_lt (lv : ℕ → Prop) [DecidablePred lv] (k : ℕ) {l l' : ℕ} (h : l < l') (hl : lv (k + l)) : cnt lv k l < cnt lv k l' :=
  lt_of_lt_of_le (by rw [cnt_succ, if_pos hl]; omega) (cnt_mono lv k (Nat.succ_le_of_lt h))
theorem cnt_inj (lv : ℕ → Prop) [DecidablePred lv] (k : ℕ) {l l' : ℕ} (hl : lv (k + l)) (hl' : lv (k + l')) (h : cnt lv k l = cnt lv k l') : l = l' := by
  rcases Nat.lt_trichotomy l l' with hlt | rfl | hlt
  · exact absurd h (cnt_lt lv k hlt hl).ne
  · rfl
  · exact absurd h (cnt_lt lv k hlt hl').ne'
/-- Every number below a group's count is some live cell's. -/
theorem cnt_surj (lv : ℕ → Prop) [DecidablePred lv] (k : ℕ) : ∀ (l n : ℕ), n < cnt lv k l → ∃ x < l, lv (k + x) ∧ cnt lv k x = n
  | 0, n, h => absurd h (Nat.not_lt_zero n)
  | l + 1, n, h => by
    rw [cnt_succ] at h
    by_cases hn : n < cnt lv k l
    · obtain ⟨x, hx, h1, h2⟩ := cnt_surj lv k l n hn
      exact ⟨x, Nat.lt_succ_of_lt hx, h1, h2⟩
    · by_cases hl : lv (k + l)
      · rw [if_pos hl] at h
        exact ⟨l, Nat.lt_succ_self l, hl, by omega⟩
      · rw [if_neg hl] at h; omega

/-- The lists with the cells below `k` in: `off` entries, the targets `d` and the sources `s`. -/
structure Lists (lv : ℕ → Prop) (po : ℕ → BitVec 32) (k off : ℕ) (d s : ℕ → BitVec 32) : Prop where
  le : off ≤ k
  tgt : ∀ n < off, (d n).toNat < k ∧ lv (d n).toNat
  inj : ∀ n < off, ∀ n' < off, d n = d n' → n = n'
  all : ∀ j < k, lv j → ∃ n < off, (d n).toNat = j
  rest : ∀ n, off ≤ n → n < 80 → d n = 64#32
  src : ∀ n < off, s n = po (d n).toNat
  zero : ∀ n, off ≤ n → n < 64 → s n = 0#32

/-- A list after one group's masked scatter. -/
structure Put (lv : ℕ → Prop) [DecidablePred lv] (k off : ℕ) (v : ℕ → BitVec 32) (d d' : ℕ → BitVec 32) : Prop where
  hit : ∀ l < 16, lv (k + l) → d' (off + cnt lv k l) = v l
  keep : ∀ n, (∀ l < 16, lv (k + l) → off + cnt lv k l ≠ n) → d' n = d n

variable {lv : ℕ → Prop} [DecidablePred lv] {po : ℕ → BitVec 32} {k off : ℕ} {d s d' s' : ℕ → BitVec 32}

theorem Put.old {v : ℕ → BitVec 32} (h : Put lv k off v d d') {n : ℕ} (hn : n < off) : d' n = d n :=
  h.keep n fun l _ _ e => by omega
theorem Put.past {v : ℕ → BitVec 32} (h : Put lv k off v d d') {n : ℕ} (hn : off + cnt lv k 16 ≤ n) : d' n = d n :=
  h.keep n fun l hl hv e => by have := cnt_lt lv k hl hv; omega
theorem Put.new {v : ℕ → BitVec 32} (h : Put lv k off v d d') {n : ℕ} (hn : off ≤ n) (hn' : n < off + cnt lv k 16) :
    ∃ l < 16, lv (k + l) ∧ off + cnt lv k l = n ∧ d' n = v l := by
  obtain ⟨l, hl, hv, e⟩ := cnt_surj lv k 16 (n - off) (by omega)
  have e' : off + cnt lv k l = n := by omega
  exact ⟨l, hl, hv, e', e' ▸ h.hit l hl hv⟩

/-- One group more. -/
theorem Lists.step (h : Lists lv po k off d s) (hk : k ≤ 48) (hd : Put lv k off (fun l => BitVec.ofNat 32 (k + l)) d d')
    (hs : Put lv k off (fun l => po (k + l)) s s') : Lists lv po (k + 16) (off + cnt lv k 16) d' s' := by
  have hc := cnt_le lv k 16
  have hv : ∀ l < 16, (BitVec.ofNat 32 (k + l)).toNat = k + l := fun l hl => by rw [BitVec.toNat_ofNat]; omega
  refine ⟨by have := h.le; omega, ?_, ?_, ?_, ?_, ?_, ?_⟩
  · intro n hn
    by_cases ho : n < off
    · rw [hd.old ho]; have := h.tgt n ho; exact ⟨by omega, this.2⟩
    · obtain ⟨l, hl, hlv, -, e⟩ := hd.new (Nat.le_of_not_lt ho) hn
      rw [e, hv l hl]; exact ⟨by omega, hlv⟩
  · intro n hn n' hn' e
    by_cases ho : n < off <;> by_cases ho' : n' < off
    · rw [hd.old ho, hd.old ho'] at e; exact h.inj n ho n' ho' e
    · obtain ⟨l, hl, hlv, -, e'⟩ := hd.new (Nat.le_of_not_lt ho') hn'
      rw [hd.old ho, e'] at e
      have := (h.tgt n ho).1; rw [e, hv l hl] at this; omega
    · obtain ⟨l, hl, hlv, -, e'⟩ := hd.new (Nat.le_of_not_lt ho) hn
      rw [hd.old ho', e'] at e
      have := (h.tgt n' ho').1; rw [← e, hv l hl] at this; omega
    · obtain ⟨l, hl, hlv, en, e1⟩ := hd.new (Nat.le_of_not_lt ho) hn
      obtain ⟨l', hl', hlv', en', e2⟩ := hd.new (Nat.le_of_not_lt ho') hn'
      rw [e1, e2] at e
      have := congrArg BitVec.toNat e
      rw [hv l hl, hv l' hl'] at this
      obtain rfl : l = l' := by omega
      omega
  · intro j hj hlv
    by_cases ho : j < k
    · obtain ⟨n, hn, e⟩ := h.all j ho hlv
      exact ⟨n, by omega, by rw [hd.old hn]; exact e⟩
    · obtain ⟨l, rfl⟩ := Nat.exists_eq_add_of_le (Nat.le_of_not_lt ho)
      have hl : l < 16 := by omega
      refine ⟨off + cnt lv k l, by have := cnt_lt lv k hl hlv; omega, ?_⟩
      rw [hd.hit l hl hlv, hv l hl]
  · intro n hn hn'
    rw [hd.past hn]; exact h.rest n (by omega) hn'
  · intro n hn
    by_cases ho : n < off
    · rw [hs.old ho, hd.old ho]; exact h.src n ho
    · obtain ⟨l, hl, hlv, en, e1⟩ := hd.new (Nat.le_of_not_lt ho) hn
      obtain ⟨l', hl', hlv', en', e2⟩ := hs.new (Nat.le_of_not_lt ho) hn
      obtain rfl : l = l' := cnt_inj lv k hlv hlv' (by omega)
      rw [e1, e2, hv l hl]
  · intro n hn hn'
    rw [hs.past hn]; exact h.zero n (by omega) hn'

/-! ## The masked scatter -/

variable {F : FTy → Type} [FloatOps F] {sh : Shape} {e : EltTy}

section Fold
variable {w : Fin 1 → ℕ} (idxs : Fin sh.rank → IVec ⟨1, w⟩ 32) (v : Vec F ⟨1, w⟩ e) (mask : IVec ⟨1, w⟩ 1) (h : ∀ a x, (idxs a x).toNat < sh.size a)

/-- One lane of a masked scatter. -/
def put1 (g : Vec F sh e) (k : Fin (w 0)) : Vec F sh e :=
  if mask (Shape.ofLane k) = 1 then fun j => if ∀ a, (j a).val = (idxAt idxs h (Shape.ofLane k) a).val then v (Shape.ofLane k) else g j else g

theorem storeIdx_fold (f : Vec F sh e) : storeIdx f idxs v mask false h = (List.finRange (w 0)).foldl (put1 idxs v mask h) f := by
  unfold storeIdx
  congr 1
  funext g k
  unfold put1
  simp only [Bool.false_eq_true, if_false]

theorem fold_keep (j : sh.Idx) : ∀ (L : List (Fin (w 0))) (f : Vec F sh e),
    (∀ k ∈ L, mask (Shape.ofLane k) = 1 → ∃ a, (j a).val ≠ (idxs a (Shape.ofLane k)).toNat) → L.foldl (put1 idxs v mask h) f j = f j
  | [], f, _ => rfl
  | k :: L, f, hL => by
    rw [List.foldl_cons, fold_keep j L _ fun k' hk' => hL k' (List.mem_cons_of_mem _ hk')]
    unfold put1
    split
    · rename_i hm
      obtain ⟨a, ha⟩ := hL k List.mem_cons_self hm
      exact if_neg fun hh => ha (hh a)
    · rfl

theorem fold_hit (k : Fin (w 0)) (hm : mask (Shape.ofLane k) = 1) (j : sh.Idx) (hj : ∀ a, (j a).val = (idxs a (Shape.ofLane k)).toNat) :
    ∀ (L : List (Fin (w 0))) (f : Vec F sh e), k ∈ L →
    (∀ k' ∈ L, mask (Shape.ofLane k') = 1 → (∀ a, (j a).val = (idxs a (Shape.ofLane k')).toNat) → k' = k) →
    L.foldl (put1 idxs v mask h) f j = v (Shape.ofLane k)
  | k' :: L, f, hk, hL => by
    rw [List.foldl_cons]
    by_cases hin : k ∈ L
    · exact fold_hit k hm j hj L _ hin fun k'' h'' => hL k'' (List.mem_cons_of_mem _ h'')
    · obtain rfl : k = k' := by rcases List.mem_cons.mp hk with e | e; exact e; exact absurd e hin
      rw [fold_keep]
      · unfold put1
        rw [if_pos hm]
        exact if_pos hj
      · intro k'' h'' hm''
        by_contra hne
        push Not at hne
        exact hin (hL k'' (List.mem_cons_of_mem _ h'') hm'' hne ▸ h'')

end Fold

/-! ## The running counts -/

theorem lanes_succ : ∀ j : Fin 15, (List.finRange 16).filter (fun k => decide (0 < k.val ∧ k.val ≤ j.val + 1))
    = (List.finRange 16).filter (fun k => decide (0 < k.val ∧ k.val ≤ j.val)) ++ [⟨j.val + 1, by omega⟩] := by decide

abbrev lane (l : Fin 16) : S16.Idx := Shape.ofLane (d := ![16]) l

theorem rank_zero (m : IVec S16 1) : rank m (lane 0) = (m (lane 0)).setWidth 32 := rfl
theorem rank_succ (m : IVec S16 1) (j : Fin 15) :
    rank m (lane ⟨j.val + 1, by omega⟩) = rank m (lane ⟨j.val, by omega⟩) + (m (lane ⟨j.val + 1, by omega⟩)).setWidth 32 := by
  refine (congrArg (List.foldl _ _) (lanes_succ j)).trans ?_
  exact List.foldl_append

theorem rank_eq (m : IVec S16 1) (k : ℕ) (hm : ∀ l : Fin 16, m (lane l) = 1 ↔ lv (k + l.val)) :
    ∀ (l : ℕ) (hl : l < 16), rank m (lane ⟨l, hl⟩) = BitVec.ofNat 32 (cnt lv k (l + 1)) := by
  have hb : ∀ l : Fin 16, (m (lane l)).setWidth 32 = BitVec.ofNat 32 (if lv (k + l.val) then 1 else 0) := fun l => by
    by_cases h : lv (k + l.val)
    · rw [if_pos h, (hm l).2 h]; rfl
    · rw [if_neg h]
      have h0 : m (lane l) = 0 := by
        have := mt (hm l).1 h
        generalize m (lane l) = b at this
        revert b; decide
      rw [h0]; rfl
  intro l
  induction l with
  | zero => intro hl; rw [show (⟨0, hl⟩ : Fin 16) = 0 from rfl, rank_zero, hb, cnt_succ, cnt_zero, Nat.zero_add]; rfl
  | succ l ih =>
    intro hl
    rw [rank_succ m ⟨l, by omega⟩, ih (by omega), hb, cnt_succ lv k (l + 1), ← BitVec.ofNat_add]

/-- A lane's place is past the entries so far and the live lanes before it. -/
theorem place_eq (m : IVec S16 1) (k : ℕ) (hm : ∀ l : Fin 16, m (lane l) = 1 ↔ lv (k + l.val)) (o : BitVec 32) (l : Fin 16) :
    place o m (lane l) = o + BitVec.ofNat 32 (cnt lv k l.val) := by
  show o + rank m (lane l) - (m (lane l)).setWidth 32 = _
  rw [rank_eq m k hm l.val l.isLt, cnt_succ]
  by_cases h : lv (k + l.val)
  · rw [if_pos h, (hm l).2 h, BitVec.ofNat_add, ← BitVec.add_assoc]
    exact BitVec.add_sub_cancel _ _
  · rw [if_neg h]
    have h0 : m (lane l) = 0 := by
      have := mt (hm l).1 h
      generalize m (lane l) = b at this
      revert b; decide
    rw [h0]
    exact BitVec.sub_zero _
theorem place_toNat (m : IVec S16 1) (k : ℕ) (hm : ∀ l : Fin 16, m (lane l) = 1 ↔ lv (k + l.val)) {o : BitVec 32} (ho : o.toNat ≤ 48) (l : Fin 16) :
    (place o m (lane l)).toNat = o.toNat + cnt lv k l.val := by
  have := cnt_le lv k l.val
  rw [place_eq m k hm, BitVec.toNat_add, BitVec.toNat_ofNat]; omega
theorem many_toNat (m : IVec S16 1) (k : ℕ) (hm : ∀ l : Fin 16, m (lane l) = 1 ↔ lv (k + l.val)) {o : BitVec 32} (ho : o.toNat ≤ 48) :
    (Scalar.addi o (many m)).toNat = o.toNat + cnt lv k 16 := by
  have hc := cnt_le lv k 16
  have e : many m = BitVec.ofNat 32 (cnt lv k 16) := by
    rw [← rank_eq m k hm 15 (by decide)]
    unfold many extractAt
    refine congrArg (rank m) (funext fun a => ?_)
    match a with
    | 0 => rfl
  rw [e]
  show (o + BitVec.ofNat 32 _).toNat = _
  rw [BitVec.toNat_add, BitVec.toNat_ofNat]; omega

theorem lane_eta (x : S16.Idx) : lane (x 0) = x := by funext a; match a with | 0 => rfl

theorem place_lt (m : IVec S16 1) (k : ℕ) (hm : ∀ l : Fin 16, m (lane l) = 1 ↔ lv (k + l.val)) {o : BitVec 32} (ho : o.toNat ≤ 48) (x : S16.Idx) :
    (place o m x).toNat < 64 := by
  obtain ⟨l, rfl⟩ : ∃ l : Fin 16, lane l = x := ⟨x 0, lane_eta x⟩
  rw [place_toNat m k hm ho]
  have := cnt_le lv k l.val
  omega

/-- A rank-one vector's element, by number. -/
def nth {n : ℕ} (f : (⟨1, ![n]⟩ : Shape).Idx → BitVec 32) (x : ℕ) : BitVec 32 := if h : x < n then f (ix1 ⟨x, h⟩) else 0#32

/-- One group's scatter, of sixteen words `v`, as a step of the list. -/
theorem put_of_store {n : ℕ} (m : IVec S16 1) (k : ℕ) (hm : ∀ l : Fin 16, m (lane l) = 1 ↔ lv (k + l.val)) {o : BitVec 32} (ho : o.toNat ≤ 48)
    (hn : 64 ≤ n) (f : Vec F ⟨1, ![n]⟩ .i32) (v : Vec F S16 .i32) (w : ℕ → BitVec 32) (hw : ∀ l : Fin 16, v (lane l) = w l.val)
    (h : ∀ a x, ((![place o m] : Fin 1 → IVec S16 32) a x).toNat < (⟨1, ![n]⟩ : Shape).size a) :
    Put lv k o.toNat w (nth f) (nth (storeIdx (s := ⟨1, ![n]⟩) (d := ![16]) f ![place o m] v m false h)) := by
  constructor
  · intro l hl hlv
    have hlt : o.toNat + cnt lv k l < n := by have := cnt_le lv k l; omega
    unfold nth
    rw [dif_pos hlt, storeIdx_fold, ← hw ⟨l, hl⟩]
    refine fold_hit (sh := ⟨1, ![n]⟩) (w := ![16]) _ _ _ _ ⟨l, hl⟩ ((hm ⟨l, hl⟩).2 hlv) _ ?_ _ _ (List.mem_finRange _) ?_
    · intro a; match a with
      | 0 => exact (place_toNat m k hm ho ⟨l, hl⟩).symm
    · intro k' _ hm' e
      have e0 : o.toNat + cnt lv k l = (place o m (lane k')).toNat := e 0
      rw [place_toNat m k hm ho k'] at e0
      exact Fin.ext (cnt_inj lv k ((hm k').1 hm') hlv (Nat.add_left_cancel e0.symm))
  · intro j hj
    unfold nth
    split
    · rename_i hlt
      rw [storeIdx_fold]
      refine fold_keep (sh := ⟨1, ![n]⟩) (w := ![16]) _ _ _ _ _ _ _ fun k' _ hm' => ⟨0, ?_⟩
      show j ≠ (place o m (lane k')).toNat
      rw [place_toNat m k hm ho k']
      exact (hj k'.val k'.isLt ((hm k').1 hm')).symm
    · rfl

end Cert.Proof.Lists
-- ==== Proof.Kit.lean ====
/-
  The ground the SparseCore kernel's proof stands on: the resources, programs of one subcore run in order, the element
  sets of a slot's buffers and the places of a slot's views in them.
-/
module

public import proofs.«01_k».proof.Proof.Gather
public import proofs.«01_k».proof.Proof.Lists

@[expose] public section

noncomputable section

namespace Cert.Proof.Kit

open Cert.KernelIdeal Cert.Proof.Chunk Cert.Proof.Lists Cert.Proof.Gather
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Rounds

variable {F : FTy → Type} [FloatOps F] [Cert.KernelIdeal.Facts]

abbrev UH : Type := URounds (GSem nD τ sig) ℕ
abbrev UP : Type := URounds (GSem nD τ sig) Unit
abbrev UU : Type := UH × (UP × Counters)
abbrev 𝒱₀ : Variants := Variants.none

local notation "𝕄" => MT nD τ sig (HIx 1) (Elt F) ℕ UU ℕ

/-- The vector subcore of coordinates `i` on device `d`. -/
abbrev thr (d : Dev nD) (i : grid1.Coords) : Thread nD τ := (d, .scVector ((i 0).castLE hcore1) ((i 1).castLE hsub1))

/-- What a subcore's program needs to end in `Q`. -/
abbrev tw (d : Dev nD) (i : grid1.Coords) {α : Type} (p : Tile F i α) (Q : α → sProp 𝕄) : sProp 𝕄 :=
  wp frame (wpE (defs₀ (F := F)) 𝒱₀ (thr d i) none) Set.univ p Q

variable (d : Dev nD) (i : grid1.Coords)

/-- One program after another. -/
theorem tw_seq {α β : Type} {p : Tile F i α} {P : sProp 𝕄} {R : α → sProp 𝕄} (h : P ⊢ tw d i p R) {k : α → Tile F i β} {Q : β → sProp 𝕄} :
    P ⊢ iprop((∀ x, R x -∗ tw d i (k x) Q) -∗ tw d i (p >>= k) Q) := by
  unfold tw
  rw [wp_bind]
  iintro HP HK
  ihave H := h $$ HP
  iapply (wp_wand frame _ _) $$ H HK

/-- A guarded program before the rest. -/
theorem tw_if {α : Type} {c : Prop} [Decidable c] {A : Tile F i PUnit} {k : PUnit → Tile F i α} {P R : sProp 𝕄} {Q : α → sProp 𝕄}
    (h1 : c → P ⊢ tw d i A (fun _ => R)) (h2 : ¬ c → P ⊢ R) (hk : R ⊢ tw d i (k ⟨⟩) Q) :
    P ⊢ tw d i (if c then A >>= fun _ => k ⟨⟩ else k ⟨⟩) Q := by
  by_cases hc : c
  · rw [if_pos hc]
    iintro HP
    iapply (tw_seq d i (h1 hc)) $$ HP
    iintro %x HR
    iapply hk $$ HR
  · rw [if_neg hc]
    exact (h2 hc).trans hk

/-! ## Element sets -/

/-- A slot's part of the target list, of the source list, of the gathered rows; its rows of the slab and its spare rows. -/
def DS (p : ℕ) : Finset S3x80.Idx := Finset.univ.filter fun x => (x 0).val = p
def SS (p : ℕ) : Finset S3x64.Idx := Finset.univ.filter fun x => (x 0).val = p
def RS (p : ℕ) : Finset S3x64x2x128.Idx := Finset.univ.filter fun x => (x 0).val = p
def LS (p : ℕ) : Finset S3x72x2x128.Idx := Finset.univ.filter fun x => (x 0).val = p ∧ (x 1).val < 64
def LD (p : ℕ) : Finset S3x72x2x128.Idx := Finset.univ.filter fun x => (x 0).val = p ∧ 64 ≤ (x 1).val
/-- A slot's gathered row `t`. -/
def RW (p t : ℕ) : Finset S3x64x2x128.Idx := Finset.univ.filter fun x => (x 0).val = p ∧ (x 1).val = t
/-- The batch's rows; a chunk's rows. -/
def BS (b : ℕ) : Finset S16x1024x2x128.Idx := Finset.univ.filter fun x => (x 0).val = b
def CS (b f : ℕ) : Finset S16x1024x2x128.Idx := Finset.univ.filter fun x => (x 0).val = b ∧ f ≤ (x 1).val ∧ (x 1).val < f + 64

theorem mem_DS {p : ℕ} {x : S3x80.Idx} : x ∈ DS p ↔ (x 0).val = p := by simp [DS]
theorem mem_SS {p : ℕ} {x : S3x64.Idx} : x ∈ SS p ↔ (x 0).val = p := by simp [SS]
theorem mem_RS {p : ℕ} {x : S3x64x2x128.Idx} : x ∈ RS p ↔ (x 0).val = p := by simp [RS]
theorem mem_LS {p : ℕ} {x : S3x72x2x128.Idx} : x ∈ LS p ↔ (x 0).val = p ∧ (x 1).val < 64 := by simp [LS]
theorem mem_LD {p : ℕ} {x : S3x72x2x128.Idx} : x ∈ LD p ↔ (x 0).val = p ∧ 64 ≤ (x 1).val := by simp [LD]
theorem mem_RW {p t : ℕ} {x : S3x64x2x128.Idx} : x ∈ RW p t ↔ (x 0).val = p ∧ (x 1).val = t := by simp [RW]
theorem mem_BS {b : ℕ} {x : S16x1024x2x128.Idx} : x ∈ BS b ↔ (x 0).val = b := by simp [BS]
theorem mem_CS {b f : ℕ} {x : S16x1024x2x128.Idx} : x ∈ CS b f ↔ (x 0).val = b ∧ f ≤ (x 1).val ∧ (x 1).val < f + 64 := by simp [CS]

/-- An index of a shape of two, and of four, axes, by its coordinates. -/
theorem forall2 {p : Fin 2 → Prop} : (∀ a, p a) ↔ p 0 ∧ p 1 := by
  rw [Fin.forall_fin_succ, Fin.forall_fin_one]; rfl
theorem forall4 {p : Fin 4 → Prop} : (∀ a, p a) ↔ p 0 ∧ p 1 ∧ p 2 ∧ p 3 := by
  rw [Fin.forall_fin_succ, Fin.forall_fin_succ, Fin.forall_fin_succ, Fin.forall_fin_one]; rfl

theorem dst_rect {p k n : ℕ} {h} {x : S3x80.Idx} :
    x ∈ (Rect.unit (s := S3x80) ![p, k] ![1, n] h).set ↔ (x 0).val = p ∧ k ≤ (x 1).val ∧ (x 1).val < k + n := by
  rw [Rect.mem_set_unit, forall2]
  show ((p ≤ (x 0).val ∧ (x 0).val < p + 1) ∧ k ≤ (x 1).val ∧ (x 1).val < k + n) ↔ _
  omega
theorem src_rect {p k n : ℕ} {h} {x : S3x64.Idx} :
    x ∈ (Rect.unit (s := S3x64) ![p, k] ![1, n] h).set ↔ (x 0).val = p ∧ k ≤ (x 1).val ∧ (x 1).val < k + n := by
  rw [Rect.mem_set_unit, forall2]
  show ((p ≤ (x 0).val ∧ (x 0).val < p + 1) ∧ k ≤ (x 1).val ∧ (x 1).val < k + n) ↔ _
  omega
theorem slab_rect {p : ℕ} {h} {x : S3x72x2x128.Idx} :
    x ∈ (Rect.unit (s := S3x72x2x128) ![p, 0, 0, 0] S1x64x2x128.size h).set ↔ (x 0).val = p ∧ (x 1).val < 64 := by
  rw [Rect.mem_set_unit, forall4]
  have h2 := (x 2).isLt
  have h3 := (x 3).isLt
  show ((p ≤ (x 0).val ∧ (x 0).val < p + 1) ∧ (0 ≤ (x 1).val ∧ (x 1).val < 0 + 64) ∧ (0 ≤ (x 2).val ∧ (x 2).val < 0 + 2) ∧ 0 ≤ (x 3).val ∧ (x 3).val < 0 + 128) ↔ _
  change (x 2).val < 2 at h2; change (x 3).val < 128 at h3
  omega

theorem slabM_set (s : Slot) : (slabM s).view.set = LS s.p := by
  ext x
  refine (by rw [View.set_reshape, View.set_slice_whole] : (x ∈ (slabM s).view.set ↔ x ∈ (Rect.unit (s := S3x72x2x128) ![s.p, 0, 0, 0] S1x64x2x128.size (slab_inb s.hp)).set)).trans ?_
  rw [slab_rect, mem_LS]
theorem slice_set4 {b : Ref sig .scVector} (off size : Fin b.ty.shape.rank → ℕ) (h) {x : b.ty.shape.Idx} {p : Prop} (e : x ∈ (Rect.unit off size h).set ↔ p) :
    x ∈ ((View.whole b).slice (Rect.unit off size h)).set ↔ p := by
  rw [View.set_slice_whole]; exact e
theorem access_whole {κ : Kind} {sp : Space} {s : Shape} {e : EltTy} (M : Memref sig κ sp s e) : (M.access (.whole s)).set = M.view.set := by
  show (M.view.slice (.whole s)).set = _
  rw [View.set_slice, Rect.set_whole]
  rfl
theorem dstAll_set (s : Slot) : (dstAll s).view.set = DS s.p := by
  ext x
  rw [mem_DS, View.set_reshape]
  refine slice_set4 (b := cc1_scratch4) _ _ _ (dst_rect.trans ?_)
  have h1 : (x 1).val < 80 := (x 1).isLt
  omega
theorem srcAll_set (s : Slot) : (srcAll s).view.set = SS s.p := by
  ext x
  rw [mem_SS, View.set_reshape]
  refine slice_set4 (b := cc1_scratch5) _ _ _ (src_rect.trans ?_)
  have h1 : (x 1).val < 64 := (x 1).isLt
  omega

theorem chunk_rect {i : grid1.Coords} {ci : BitVec 32} (hc : ci.toNat < 8) {h} {x : S16x1024x2x128.Idx} :
    x ∈ (Rect.unit (s := S16x1024x2x128) (offRow i ci) S1x64x2x128.size h).set ↔ x ∈ CS (i 1).val (512 * (i 0).val + 64 * ci.toNat) := by
  rw [Rect.mem_set_unit, forall4, offRow_eq i hc, mem_CS]
  have h2 : (x 2).val < 2 := (x 2).isLt
  have h3 : (x 3).val < 128 := (x 3).isLt
  show (((i 1).val ≤ (x 0).val ∧ (x 0).val < (i 1).val + 1) ∧ (512 * (i 0).val + 64 * ci.toNat ≤ (x 1).val ∧ (x 1).val < 512 * (i 0).val + 64 * ci.toNat + 64)
    ∧ (0 ≤ (x 2).val ∧ (x 2).val < 0 + 2) ∧ 0 ≤ (x 3).val ∧ (x 3).val < 0 + 128) ↔ _
  omega
theorem tabM_set {ci : BitVec 32} (hc : ci.toNat < 8) : (tabM i ci hc).view.set = CS (i 1).val (512 * (i 0).val + 64 * ci.toNat) := by
  ext x
  rw [View.set_reshape]
  exact slice_set4 (b := main_v1_scv) _ _ _ (chunk_rect hc)
theorem outM_set {ci : BitVec 32} (hc : ci.toNat < 8) : (outM i ci hc).view.set = CS (i 1).val (512 * (i 0).val + 64 * ci.toNat) := by
  ext x
  rw [View.set_reshape]
  exact slice_set4 (b := main_v3_scv) _ _ _ (chunk_rect hc)
/-! ## Where a view's elements lie -/

/-- A number as a row of the table: the number itself when it is one. -/
def rowAt (n : ℕ) : Fin 1024 := ⟨n % 1024, Nat.mod_lt _ (by decide)⟩
theorem rowAt_of_lt {n : ℕ} (h : n < 1024) : rowAt n = ⟨n, h⟩ := Fin.ext (Nat.mod_eq_of_lt h)

theorem slabM_emb (s : Slot) (y : S64x2x128.Idx) :
    (slabM s).view.emb y = (ix4 ⟨s.p, s.hp⟩ ⟨(y 0).val, lt_trans (y 0).isLt (by decide)⟩ (y 1) (y 2) : S3x72x2x128.Idx) := by
  show (Rect.unit (s := S3x72x2x128) ![s.p, 0, 0, 0] S1x64x2x128.size (slab_inb s.hp)).emb (Shape.reshapeEquiv _ y) = _
  rw [Shape.reshapeEquiv_cons_one (n := 3) (d := ![64, 2, 128])]
  funext a
  apply Fin.ext
  rw [Rect.emb_apply]
  match a with
  | 0 => exact Nat.add_zero _
  | 1 => show 0 + 1 * (y 0).val = (y 0).val; omega
  | 2 => show 0 + 1 * (y 1).val = (y 1).val; omega
  | 3 => show 0 + 1 * (y 2).val = (y 2).val; omega
theorem chunk_emb {ci : BitVec 32} (hc : ci.toNat < 8) (h) (y : S64x2x128.Idx) :
    (Rect.unit (s := S16x1024x2x128) (offRow i ci) S1x64x2x128.size (offRow_inb i hc)).emb (Shape.reshapeEquiv (s' := S64x2x128) h y)
      = (ix4 (i 1) (rowAt (512 * (i 0).val + 64 * ci.toNat + (y 0).val)) (y 1) (y 2) : S16x1024x2x128.Idx) := by
  rw [Shape.reshapeEquiv_cons_one (n := 3) (d := ![64, 2, 128])]
  have h0 := core_lt i
  have h1 : (y 0).val < 64 := (y 0).isLt
  have e := offRow_eq i hc
  funext a
  apply Fin.ext
  rw [Rect.emb_apply]
  match a with
  | 0 => show offRow i ci 0 + 1 * 0 = (i 1).val; rw [e]; rfl
  | 1 =>
    show offRow i ci 1 + 1 * (y 0).val = (512 * (i 0).val + 64 * ci.toNat + (y 0).val) % 1024
    rw [e]; show (512 * (i 0).val + 64 * ci.toNat) + 1 * (y 0).val = _; omega
  | 2 => show offRow i ci 2 + 1 * (y 1).val = (y 1).val; rw [e]; show 0 + 1 * (y 1).val = (y 1).val; omega
  | 3 => show offRow i ci 3 + 1 * (y 2).val = (y 2).val; rw [e]; show 0 + 1 * (y 2).val = (y 2).val; omega
theorem batM_emb (y : S1024x2x128.Idx) : (batM i).view.emb y = (ix4 (i 1) (y 0) (y 1) (y 2) : S16x1024x2x128.Idx) := by
  have e := offBat_eq i
  have hy : (Rect.unit (s := S1024x2x128) ![0, 0, 0] S1024x2x128.size inb_S1024x2x128_S1024x2x128_0_0_0).emb y = y := by
    funext a
    apply Fin.ext
    rw [Rect.emb_apply]
    match a with
    | 0 => show 0 + 1 * (y 0).val = (y 0).val; omega
    | 1 => show 0 + 1 * (y 1).val = (y 1).val; omega
    | 2 => show 0 + 1 * (y 2).val = (y 2).val; omega
  show (Rect.unit (s := S16x1024x2x128) (offBat i) S1x1024x2x128.size (offBat_inb i)).emb (Shape.reshapeEquiv _
    ((Rect.unit (s := S1024x2x128) ![0, 0, 0] S1024x2x128.size inb_S1024x2x128_S1024x2x128_0_0_0).emb y)) = _
  rw [hy, Shape.reshapeEquiv_cons_one (n := 3) (d := ![1024, 2, 128])]
  funext a
  apply Fin.ext
  rw [Rect.emb_apply]
  match a with
  | 0 => show offBat i 0 + 1 * 0 = (i 1).val; rw [e]; rfl
  | 1 => show offBat i 1 + 1 * (y 0).val = (y 0).val; rw [e]; show 0 + 1 * (y 0).val = (y 0).val; omega
  | 2 => show offBat i 2 + 1 * (y 1).val = (y 1).val; rw [e]; show 0 + 1 * (y 1).val = (y 1).val; omega
  | 3 => show offBat i 3 + 1 * (y 2).val = (y 2).val; rw [e]; show 0 + 1 * (y 2).val = (y 2).val; omega
theorem batM_set : (batM i).view.set = BS (i 1).val := by
  ext x
  rw [mem_BS]
  constructor
  · intro h
    obtain ⟨y, -, rfl⟩ := Finset.mem_map.mp h
    rw [batM_emb]
    rfl
  · intro h
    refine Finset.mem_map.mpr ⟨ix3 (x 1) (x 2) (x 3), Finset.mem_univ _, ?_⟩
    rw [batM_emb]
    funext a
    match a with
    | 0 => exact Fin.ext h.symm
    | 1 => rfl
    | 2 => rfl
    | 3 => rfl
theorem dstAll_emb (s : Slot) (y : S80.Idx) : (dstAll s).view.emb y = (ix2 ⟨s.p, s.hp⟩ (y 0) : S3x80.Idx) := by
  show (Rect.unit (s := S3x80) ![s.p, 0] S1x80.size (dumpAll_inb s.hp)).emb (Shape.reshapeEquiv _ y) = _
  rw [Shape.reshapeEquiv_cons_one (n := 1) (d := ![80])]
  funext a
  apply Fin.ext
  rw [Rect.emb_apply]
  match a with
  | 0 => exact Nat.add_zero _
  | 1 => show 0 + 1 * (y 0).val = (y 0).val; omega
theorem srcAll_emb (s : Slot) (y : S64.Idx) : (srcAll s).view.emb y = (ix2 ⟨s.p, s.hp⟩ (y 0) : S3x64.Idx) := by
  show (Rect.unit (s := S3x64) ![s.p, 0] S1x64.size (listAll_inb s.hp)).emb (Shape.reshapeEquiv _ y) = _
  rw [Shape.reshapeEquiv_cons_one (n := 1) (d := ![64])]
  funext a
  apply Fin.ext
  rw [Rect.emb_apply]
  match a with
  | 0 => exact Nat.add_zero _
  | 1 => show 0 + 1 * (y 0).val = (y 0).val; omega
theorem srcM_emb (s : Slot) (k : ℕ) (hk : k ≤ 48) (y : S16.Idx) :
    (srcM s k hk).view.emb y = (ix2 ⟨s.p, s.hp⟩ ⟨k + (y 0).val, by have : (y 0).val < 16 := (y 0).isLt; omega⟩ : S3x64.Idx) := by
  show (Rect.unit (s := S3x64) ![s.p, k] S1x16.size (list_inb s.hp hk)).emb (Shape.reshapeEquiv _ y) = _
  rw [Shape.reshapeEquiv_cons_one (n := 1) (d := ![16])]
  funext a
  apply Fin.ext
  rw [Rect.emb_apply]
  match a with
  | 0 => exact Nat.add_zero _
  | 1 => show k + 1 * (y 0).val = k + (y 0).val; omega
theorem rowsM_emb (s : Slot) (k : ℕ) (hk : k ≤ 48) (y : S16x2x128.Idx) :
    (rowsM s k hk).view.emb y = (ix4 ⟨s.p, s.hp⟩ ⟨k + (y 0).val, by have : (y 0).val < 16 := (y 0).isLt; omega⟩ (y 1) (y 2) : S3x64x2x128.Idx) := by
  show (Rect.unit (s := S3x64x2x128) ![s.p, k, 0, 0] S1x16x2x128.size (rows_inb s.hp hk)).emb (Shape.reshapeEquiv _ y) = _
  rw [Shape.reshapeEquiv_cons_one (n := 3) (d := ![16, 2, 128])]
  funext a
  apply Fin.ext
  rw [Rect.emb_apply]
  match a with
  | 0 => exact Nat.add_zero _
  | 1 => show k + 1 * (y 0).val = k + (y 0).val; omega
  | 2 => show 0 + 1 * (y 1).val = (y 1).val; omega
  | 3 => show 0 + 1 * (y 2).val = (y 2).val; omega

end Cert.Proof.Kit
-- ==== Proof.Block.lean ====
/-
  The TensorCore kernel's body at one grid point: what it leaves in the staging buffers. It adds the mask block's
  column sums into the running sum's buffer (point 0 starts the sum, the last point turns it into the 0/1 scale), and
  stores the transposed data block.
-/
module

public import proofs.«01_k».proof.Proof.Kit
public import proofs.«01_k».proof.Proof.Gen.KernelIdeal.Launch
public import proofs.«01_k».proof.Proof.Gen.KernelIdeal.Points
public import Idealize.ShloMosaic.Lib.Tactic
public import Idealize.ShloMosaic.Lib.Pipeline.Value

@[expose] public section

noncomputable section

namespace Cert.Proof.Block

open Cert.KernelIdeal Cert.Proof.Kit
open Cert.KernelIdeal.Facts₀ Cert.KernelIdeal.Facts
open Idealize.ShloMosaic Idealize.ShloMosaic.SparseCore Idealize.ShloMosaic.TcCoe Idealize.ShloMosaic.Tactic
open Idealize.ShloMosaic.SparseCore.Cfg (HIx ownBufs ownSems0 ownCells ownRefs mem_ownCells mem_ownRefs)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

/-! ## The values -/

/-- The column sums of a mask block, as one row. -/
def rowSum (x : Vec F S1x1x256x1024 .f32) : Vec F S1x1024 .f32 :=
  shapeCast S1x1024 (multiReduction .add [0] S1024 (shapeCast S256x1024 x shapeCasts_S1x1x256x1024_S256x1024) 0x00000000#32 reduces_S256x1024_S1024 (.inl rfl) rfl) shapeCasts_S1024_S1x1024

/-- One where the sum is zero, zero elsewhere. -/
def toScale (a : Vec F S1x1024 .f32) : Vec F S1x1024 .f32 :=
  select (cmpf .oeq a (broadcast S1x1024 (Scalar.ofBits .f32 0x00000000#32 : F .f32))) (broadcast S1x1024 (Scalar.ofBits .f32 0x3F800000#32)) (broadcast S1x1024 (Scalar.ofBits .f32 0x00000000#32))

/-- The data block transposed. -/
def turned (y : Vec F S1x1x256x1024 .f32) : Vec F S1x1024x256 .f32 :=
  shapeCast S1x1024x256 (transpose S1024x256 [1, 0] (shapeCast S256x1024 y shapeCasts_S1x1x256x1024_S256x1024) transposes_S256x1024_p1_0_S1024x256) shapeCasts_S1024x256_S1x1024x256

/-! ## The three kinds of point -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Runs

variable (c : Dev nD) (i : grid0.Coords) (a1 : Memref sig .tc .vmem S1x1x256x1024 .f32) (h1 : a1.IsWhole) (a2 : Memref sig .tc .vmem S1x1x256x1024 .f32) (h2 : a2.IsWhole)
  (a3 : Memref sig .tc .vmem S1x1024 .f32) (h3 : a3.IsWhole) (a4 : Memref sig .tc .vmem S1x1024x256 .f32) (h4 : a4.IsWhole)
  (f1 : Bf (F := F) c a1) (f2 : Bf (F := F) c a2)

/-- At the first point: what the two result buffers end at, with the proof that the body takes them there. -/
def runA (hc1 : k0_cond1 i = 1#1) (hc2 : ¬ k0_cond2 i = 1#1) (hc3 : ¬ k0_cond3 i = 1#1) (f3 : Bf (F := F) c a3) (f4 : Bf (F := F) c a4) :
    { W : Bf (F := F) c a3 × Bf (F := F) c a4 // ∀ (E : Set ℕ) (Q : PUnit → sProp 𝕄),
        iprop(pt c a1 f1 ∗ pt c a2 f2 ∗ pt c a3 f3 ∗ pt c a4 f4 ∗ (iprop(pt c a1 f1 ∗ pt c a2 f2 ∗ pt c a3 W.1 ∗ pt c a4 W.2) -∗ Q ⟨⟩))
          ⊢ wp frame (wpE (defs₀ (F := F)) Variants.none c none) E (cc0__scale_transpose_body i a1 h1 a2 h2 a3 h3 a4 h4) Q } := by
  refine ⟨(?_, ?_), fun E Q => ?run⟩
  case run =>
    iintro ⟨H1, H2, H3, H4, Hk⟩
    sl_exec!
    sl_step
    iapply Hk
    isplitl [H1]; · iexact H1
    isplitl [H2]; · iexact H2
    isplitl [H3]; · iexact H3
    iexact H4

/-- In between: the sum so far grows by the block's column sums. -/
def runB (hc1 : ¬ k0_cond1 i = 1#1) (hc2 : k0_cond2 i = 1#1) (hc3 : ¬ k0_cond3 i = 1#1) (f3 : Bf (F := F) c a3) (f4 : Bf (F := F) c a4) :
    { W : Bf (F := F) c a3 × Bf (F := F) c a4 // ∀ (E : Set ℕ) (Q : PUnit → sProp 𝕄),
        iprop(pt c a1 f1 ∗ pt c a2 f2 ∗ pt c a3 f3 ∗ pt c a4 f4 ∗ (iprop(pt c a1 f1 ∗ pt c a2 f2 ∗ pt c a3 W.1 ∗ pt c a4 W.2) -∗ Q ⟨⟩))
          ⊢ wp frame (wpE (defs₀ (F := F)) Variants.none c none) E (cc0__scale_transpose_body i a1 h1 a2 h2 a3 h3 a4 h4) Q } := by
  refine ⟨(?_, ?_), fun E Q => ?run⟩
  case run =>
    iintro ⟨H1, H2, H3, H4, Hk⟩
    sl_exec!
    sl_step
    iapply Hk
    isplitl [H1]; · iexact H1
    isplitl [H2]; · iexact H2
    isplitl [H3]; · iexact H3
    iexact H4

/-- At the last point: the full sum, turned into the scale. -/
def runC (hc1 : ¬ k0_cond1 i = 1#1) (hc2 : k0_cond2 i = 1#1) (hc3 : k0_cond3 i = 1#1) (f3 : Bf (F := F) c a3) (f4 : Bf (F := F) c a4) :
    { W : Bf (F := F) c a3 × Bf (F := F) c a4 // ∀ (E : Set ℕ) (Q : PUnit → sProp 𝕄),
        iprop(pt c a1 f1 ∗ pt c a2 f2 ∗ pt c a3 f3 ∗ pt c a4 f4 ∗ (iprop(pt c a1 f1 ∗ pt c a2 f2 ∗ pt c a3 W.1 ∗ pt c a4 W.2) -∗ Q ⟨⟩))
          ⊢ wp frame (wpE (defs₀ (F := F)) Variants.none c none) E (cc0__scale_transpose_body i a1 h1 a2 h2 a3 h3 a4 h4) Q } := by
  refine ⟨(?_, ?_), fun E Q => ?run⟩
  case run =>
    iintro ⟨H1, H2, H3, H4, Hk⟩
    sl_exec!
    sl_step
    iapply Hk
    isplitl [H1]; · iexact H1
    isplitl [H2]; · iexact H2
    isplitl [H3]; · iexact H3
    iexact H4

/-! ### What they leave -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole-block store decides what the block reads as, whatever came before. -/
theorem read_top {sg : RefSig} {κ : Kind} {sp : Space} {S : Shape} {e : EltTy} (v : View sg κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self .., by
    subst h; show y ∈ (Rect.whole S).set; rw [Rect.set_whole]; exact Finset.mem_univ y⟩, View.canon_cons_unit_zero h]

theorem ld1 (f : Bf (F := F) c a1) (inb : ∀ a, (![0, 0, 0, 0] : Fin 4 → Nat) a + S1x1x256x1024.size a ≤ S1x1x256x1024.size a) :
    View.readAt (Elt F) a1.view (Rect.unit (s := S1x1x256x1024) ![0, 0, 0, 0] S1x1x256x1024.size inb).toLoadRect f = a1.view.read (Elt F) f := by
  rw [View.readAt_eq_ld, View.ld_unit_zero (S := S1x1x256x1024) hz4]

theorem ld3 (f : Bf (F := F) c a3) (inb : ∀ a, (![0, 0] : Fin 2 → Nat) a + S1x1024.size a ≤ S1x1024.size a) :
    View.readAt (Elt F) a3.view (Rect.unit (s := S1x1024) ![0, 0] S1x1024.size inb).toLoadRect f = a3.view.read (Elt F) f := by
  rw [View.readAt_eq_ld, View.ld_unit_zero (S := S1x1024) hz2]

theorem runA_sum (hc1 : k0_cond1 i = 1#1) (hc2 : ¬ k0_cond2 i = 1#1) (hc3 : ¬ k0_cond3 i = 1#1) (f3 : Bf (F := F) c a3) (f4 : Bf (F := F) c a4) :
    a3.view.read (Elt F) (runA c i a1 h1 a2 h2 a3 h3 a4 h4 f1 f2 hc1 hc2 hc3 f3 f4).1.1 = rowSum (a1.view.read (Elt F) f1) := by
  unfold runA
  dsimp only
  sl_unfold_words
  rw [read_top _ _ hz2, ld1]
  rfl

theorem runA_turned (hc1 : k0_cond1 i = 1#1) (hc2 : ¬ k0_cond2 i = 1#1) (hc3 : ¬ k0_cond3 i = 1#1) (f3 : Bf (F := F) c a3) (f4 : Bf (F := F) c a4) :
    a4.view.read (Elt F) (runA c i a1 h1 a2 h2 a3 h3 a4 h4 f1 f2 hc1 hc2 hc3 f3 f4).1.2 = turned (a2.view.read (Elt F) f2) := by
  unfold runA
  dsimp only
  sl_unfold_words
  rw [read_top _ _ hz3, ld1]
  rfl

theorem runB_sum (hc1 : ¬ k0_cond1 i = 1#1) (hc2 : k0_cond2 i = 1#1) (hc3 : ¬ k0_cond3 i = 1#1) (f3 : Bf (F := F) c a3) (f4 : Bf (F := F) c a4) :
    a3.view.read (Elt F) (runB c i a1 h1 a2 h2 a3 h3 a4 h4 f1 f2 hc1 hc2 hc3 f3 f4).1.1 = addf (a3.view.read (Elt F) f3) (rowSum (a1.view.read (Elt F) f1)) := by
  unfold runB
  dsimp only
  sl_unfold_words
  rw [read_top _ _ hz2, ld1, ld3]
  simp only [shapeCast_self]
  rfl

theorem runB_turned (hc1 : ¬ k0_cond1 i = 1#1) (hc2 : k0_cond2 i = 1#1) (hc3 : ¬ k0_cond3 i = 1#1) (f3 : Bf (F := F) c a3) (f4 : Bf (F := F) c a4) :
    a4.view.read (Elt F) (runB c i a1 h1 a2 h2 a3 h3 a4 h4 f1 f2 hc1 hc2 hc3 f3 f4).1.2 = turned (a2.view.read (Elt F) f2) := by
  unfold runB
  dsimp only
  sl_unfold_words
  rw [read_top _ _ hz3, ld1]
  rfl

theorem runC_sum (hc1 : ¬ k0_cond1 i = 1#1) (hc2 : k0_cond2 i = 1#1) (hc3 : k0_cond3 i = 1#1) (f3 : Bf (F := F) c a3) (f4 : Bf (F := F) c a4) :
    a3.view.read (Elt F) (runC c i a1 h1 a2 h2 a3 h3 a4 h4 f1 f2 hc1 hc2 hc3 f3 f4).1.1 = toScale (addf (a3.view.read (Elt F) f3) (rowSum (a1.view.read (Elt F) f1))) := by
  unfold runC
  dsimp only
  sl_unfold_words
  rw [read_top _ _ hz2, View.readCov_unit_zero (S := S1x1024) _ hz2, ld1, ld3]
  simp only [shapeCast_self]
  rfl

theorem runC_turned (hc1 : ¬ k0_cond1 i = 1#1) (hc2 : k0_cond2 i = 1#1) (hc3 : k0_cond3 i = 1#1) (f3 : Bf (F := F) c a3) (f4 : Bf (F := F) c a4) :
    a4.view.read (Elt F) (runC c i a1 h1 a2 h2 a3 h3 a4 h4 f1 f2 hc1 hc2 hc3 f3 f4).1.2 = turned (a2.view.read (Elt F) f2) := by
  unfold runC
  dsimp only
  sl_unfold_words
  rw [read_top _ _ hz3, ld1]
  rfl

end Runs

end Cert.Proof.Block
-- ==== Proof.Fill.lean ====
/-
  The lists of a chunk: the fills of the two list rows of a slot, and a group's part of them.
-/
module

public import proofs.«01_k».proof.Proof.Kit

@[expose] public section

noncomputable section

namespace Cert.Proof.Fill

open Cert.KernelIdeal Cert.Proof.Chunk Cert.Proof.Lists Cert.Proof.Kit
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords)

/-! ## Loads and stores of a subcore, at the head of a program -/

theorem tw_load {α : Type} {s : Shape} {e : EltTy} {m : Memref sig .scVector .vmem s e} {r : Rect s} {hl : m.view.LoadsAt r.toLoadRect}
    {k : (r.shape.Idx → Elt F e) → Tile F i α} {Q : α → sProp 𝕄}
    {S : Finset (Idx ((m.access r).loc (thr d i)))} {q : PosShare TreeShare} {f : Buf (Elt F) ((m.access r).loc (thr d i))} (hS : (m.access r).set ⊆ S) :
    ((m.access r).loc (thr d i) ↦[S]{q} f)
      ⊢ iprop((((m.access r).loc (thr d i) ↦[S]{q} f) -∗ tw d i (k ((m.access r).read (Elt F) f)) Q)
        -∗ tw d i (Prog.lift (.load m r.toLoadRect hl) >>= k) Q) :=
  wp_load_rect (defs := defs₀ (F := F)) 𝒱₀ (thr d i) none Set.univ (k := k) hS

theorem tw_store {α : Type} {s : Shape} {e : EltTy} {m : Memref sig .scVector .vmem s e} {r : Rect s} {w : r.shape.Idx → Elt F e}
    {hx : (m.access r).Stores Finset.univ} {hm : Finset.univ = Finset.univ ∨ ∀ a, r.stride a = 1}
    {k : PUnit → Tile F i α} {Q : α → sProp 𝕄}
    {S : Finset (Idx ((m.access r).loc (thr d i)))} {f : Buf (Elt F) ((m.access r).loc (thr d i))} (hS : (m.access r).set ⊆ S) :
    ((m.access r).loc (thr d i) ↦[S]{fullShare} f)
      ⊢ iprop((((m.access r).loc (thr d i) ↦[S]{fullShare} ((m.access r).write (Elt F) f w Finset.univ)) -∗ tw d i (k ⟨⟩) Q)
        -∗ tw d i (Prog.lift (.store m r w Finset.univ hx hm) >>= k) Q) :=
  wp_store (defs := defs₀ (F := F)) 𝒱₀ (thr d i) none Set.univ (k := k) hS

theorem tw_assume {α : Type} {p : Prop} {dp : Decidable p} {k : PLift p → Tile F i α} {Q : α → sProp 𝕄} (h : p) :
    tw d i (k ⟨h⟩) Q ⊢ tw d i (Prog.lift (TpuEff.assume p dp) >>= k) Q :=
  wp_assume (defs := defs₀ (F := F)) 𝒱₀ (thr d i) none Set.univ (k := k) h

theorem tw_pure {α : Type} (a : α) {Q : α → sProp 𝕄} : Q a ⊢ tw d i (pure a) Q := le_wp_ret _ _ _ a Q

/-- Written through a rectangle of a whole buffer: inside, and outside. -/
theorem wr_in {b : Ref sig .scVector} (r : Rect b.ty.shape) (f : b.ty.Contents (Elt F)) (w : r.shape.Idx → Elt F b.ty.elt) (y : r.shape.Idx) :
    ((Memref.whole b).access r).write (Elt F) f w Finset.univ (r.emb y) = w y :=
  (View.write_emb_of_mem (v := (Memref.whole b).access r) f w (Finset.mem_univ y)).trans (cast_eq _ _)
theorem wr_out {b : Ref sig .scVector} (r : Rect b.ty.shape) (f : b.ty.Contents (Elt F)) (w : r.shape.Idx → Elt F b.ty.elt) {x : b.ty.shape.Idx}
    (h : x ∉ r.set) : ((Memref.whole b).access r).write (Elt F) f w Finset.univ x = f x :=
  View.write_of_not_mem (v := (Memref.whole b).access r) f w Finset.univ
    (by show x ∉ ((Memref.whole b).access r).set; rw [show ((Memref.whole b).access r).set = r.set from View.set_slice_whole b r]; exact h)

/-! ## The fills -/

/-- A slot's row of the target list, and of the source list. -/
def dl (s : Slot) (g : S3x80.Idx → BitVec 32) : S80.Idx → BitVec 32 := fun y => g (ix2 ⟨s.p, s.hp⟩ (y 0))
def sl (s : Slot) (g : S3x64.Idx → BitVec 32) : S64.Idx → BitVec 32 := fun y => g (ix2 ⟨s.p, s.hp⟩ (y 0))

/-- A slot's rows of the two lists, held. -/
abbrev DL (s : Slot) (g : S3x80.Idx → BitVec 32) : sProp 𝕄 := (thr d i).loc cc1_scratch4 ↦[DS s.p]{fullShare} g
abbrev SL (s : Slot) (g : S3x64.Idx → BitVec 32) : sProp 𝕄 := (thr d i).loc cc1_scratch5 ↦[SS s.p]{fullShare} g

theorem wp_fillD (s : Slot) (k : ℕ) (hk : k ≤ 64) (v : BitVec 32) (g : S3x80.Idx → BitVec 32) :
    DL (F := F) d i s g ⊢ tw d i (fillD i s k hk (broadcast S16 v)) (fun _ => iprop(∃ g', ⌜∀ n, nth (dl s g') n = if k ≤ n ∧ n < k + 16 then v else nth (dl s g) n⌝ ∗ DL d i s g')) := by
  have hsub : (dstB.access (Rect.unit (s := S3x80) ![s.p, k] S1x16.size (dump_inb s.hp hk))).set ⊆ DS s.p := fun x hx => by
    rw [View.set_slice_whole] at hx
    exact mem_DS.2 (dst_rect.1 hx).1
  unfold fillD
  iintro H
  iapply (tw_load d i hsub) $$ H
  iintro H
  iapply (tw_store d i (k := pure) hsub) $$ H
  iintro H
  iapply (tw_pure d i)
  iexists _
  isplitr
  swap; · iexact H
  ipureintro
  intro n
  unfold nth
  by_cases hn : n < 80
  · rw [dif_pos hn, dif_pos hn]
    unfold dl
    by_cases hk' : k ≤ n ∧ n < k + 16
    · rw [if_pos hk']
      have hm : (ix2 ⟨s.p, s.hp⟩ ⟨n, hn⟩ : S3x80.Idx) ∈ (Rect.unit (s := S3x80) ![s.p, k] S1x16.size (dump_inb s.hp hk)).set := dst_rect.2 ⟨rfl, hk'⟩
      rw [← Rect.map_emb_univ] at hm
      obtain ⟨y, -, hy⟩ := Finset.mem_map.1 hm
      exact Eq.trans (congrArg _ hy.symm) (wr_in (b := cc1_scratch4) _ _ _ y)
    · rw [if_neg hk']
      exact wr_out (b := cc1_scratch4) _ _ _ fun hm => hk' (dst_rect.1 hm).2
  · rw [dif_neg hn, dif_neg hn, if_neg fun h => hn (by omega)]

theorem wp_fillS (s : Slot) (k : ℕ) (hk : k ≤ 48) (v : BitVec 32) (g : S3x64.Idx → BitVec 32) :
    SL (F := F) d i s g ⊢ tw d i (fillS i s k hk (broadcast S16 v)) (fun _ => iprop(∃ g', ⌜∀ n, nth (sl s g') n = if k ≤ n ∧ n < k + 16 then v else nth (sl s g) n⌝ ∗ SL d i s g')) := by
  have hsub : (srcB.access (Rect.unit (s := S3x64) ![s.p, k] S1x16.size (list_inb s.hp hk))).set ⊆ SS s.p := fun x hx => by
    rw [View.set_slice_whole] at hx
    exact mem_SS.2 (src_rect.1 hx).1
  unfold fillS
  iintro H
  iapply (tw_load d i hsub) $$ H
  iintro H
  iapply (tw_store d i (k := pure) hsub) $$ H
  iintro H
  iapply (tw_pure d i)
  iexists _
  isplitr
  swap; · iexact H
  ipureintro
  intro n
  unfold nth
  by_cases hn : n < 64
  · rw [dif_pos hn, dif_pos hn]
    unfold sl
    by_cases hk' : k ≤ n ∧ n < k + 16
    · rw [if_pos hk']
      have hm : (ix2 ⟨s.p, s.hp⟩ ⟨n, hn⟩ : S3x64.Idx) ∈ (Rect.unit (s := S3x64) ![s.p, k] S1x16.size (list_inb s.hp hk)).set := src_rect.2 ⟨rfl, hk'⟩
      rw [← Rect.map_emb_univ] at hm
      obtain ⟨y, -, hy⟩ := Finset.mem_map.1 hm
      exact Eq.trans (congrArg _ hy.symm) (wr_in (b := cc1_scratch5) _ _ _ y)
    · rw [if_neg hk']
      exact wr_out (b := cc1_scratch5) _ _ _ fun hm => hk' (src_rect.1 hm).2
  · rw [dif_neg hn, dif_neg hn, if_neg fun h => hn (by omega)]

/-! ## A group's part of the lists -/

/-- Whether a cell is live: its scale is not zero. -/
def liveN (SC : S1024.Idx → F .f32) (n : ℕ) : Prop := live (fun _ : S16.Idx => SC (ix1 (rowAt n))) (lane 0) = 1
instance (SC : S1024.Idx → F .f32) : DecidablePred (liveN SC) := fun n => by unfold liveN; infer_instance
/-- A cell's index, by number. -/
def poN (PO : S1024.Idx → BitVec 32) (n : ℕ) : BitVec 32 := PO (ix1 (rowAt n))
/-- A chunk's live cells and their indices, by number in the chunk that starts at `f`. -/
abbrev lvC (SC : S1024.Idx → F .f32) (f : ℕ) : ℕ → Prop := fun j => liveN SC (f + j)
abbrev poC (PO : S1024.Idx → BitVec 32) (f : ℕ) : ℕ → BitVec 32 := fun j => poN PO (f + j)

/-- The subcore's copies of the scales and of the indices. -/
abbrev SCB (SC : S1024.Idx → F .f32) : sProp 𝕄 := (thr d i).loc cc1_scratch1 ↦[Finset.univ]{fullShare} SC
abbrev POB (PO : S1024.Idx → BitVec 32) : sProp 𝕄 := (thr d i).loc cc1_scratch0 ↦[Finset.univ]{fullShare} PO

theorem cell_emb {ci : BitVec 32} (hc : ci.toNat < 8) (k : ℕ) (hk : k ≤ 48) (y : S16.Idx) :
    (Rect.unit (s := S1024) (offCell i ci k) S16.size (offCell_inb i hc hk)).emb y = (ix1 (rowAt (512 * (i 0).val + 64 * ci.toNat + (k + (y 0).val))) : S1024.Idx) := by
  have h0 := core_lt i
  have hy : (y 0).val < 16 := (y 0).isLt
  have e := offCell_eq i hc hk
  funext a
  apply Fin.ext
  rw [Rect.emb_apply]
  match a with
  | 0 =>
    show offCell i ci k 0 + 1 * (y 0).val = (512 * (i 0).val + 64 * ci.toNat + (k + (y 0).val)) % 1024
    rw [e]; show (512 * (i 0).val + 64 * ci.toNat + k) + 1 * (y 0).val = _; omega

/-- A scatter of sixteen words into a slot's row of the target list. -/
theorem wp_storeD {α : Type} (s : Slot) (idxs : Fin 1 → IVec S16 32) (v : IVec S16 32) (m : IVec S16 1) {h : ∀ a x, (idxs a x).toNat < S80.size a} {hs}
    {k : PUnit → Tile F i α} {Q : α → sProp 𝕄} (g : S3x80.Idx → BitVec 32) :
    DL (F := F) d i s g ⊢ iprop((∀ g', ⌜dl s g' = storeIdx (F := F) (e := .i32) (dl s g) idxs v m false h⌝ -∗ DL d i s g' -∗ tw d i (k ⟨⟩) Q)
      -∗ tw d i (SparseCore.vectorStoreIdx (F := F) (dstAll s) idxs v m false h hs >>= k) Q) := by
  have e : ((dstAll s).access (.whole S80)).set = DS s.p := (access_whole _).trans (dstAll_set s)
  have hr : ∀ g : S3x80.Idx → BitVec 32, ((dstAll s).access (.whole S80)).read (Elt F) g = dl s g := fun g => funext fun y => by
    refine (View.read_apply _ _).trans ?_
    refine (cast_eq _ _).trans ?_
    show g ((dstAll s).view.emb ((Rect.whole S80).emb y)) = _
    rw [Rect.emb_whole_apply, dstAll_emb]; rfl
  have H := wp_vectorStoreIdx (defs := defs₀ (F := F)) 𝒱₀ (thr d i) none Set.univ (Q := Q) (base := dstAll s) (idxs := idxs) (v := (v : Vec F S16 .i32)) (mask := m) (add := false) (h := h) (hs := hs) (k := k) (f := g)
  rw [e] at H
  iintro HD HK
  iapply H $$ HD
  iintro HD
  iapply HK $$ %_ %_ HD
  rw [← hr, View.read_write_univ, hr]

theorem wp_storeS {α : Type} (s : Slot) (idxs : Fin 1 → IVec S16 32) (v : IVec S16 32) (m : IVec S16 1) {h : ∀ a x, (idxs a x).toNat < S64.size a} {hs}
    {k : PUnit → Tile F i α} {Q : α → sProp 𝕄} (g : S3x64.Idx → BitVec 32) :
    SL (F := F) d i s g ⊢ iprop((∀ g', ⌜sl s g' = storeIdx (F := F) (e := .i32) (sl s g) idxs v m false h⌝ -∗ SL d i s g' -∗ tw d i (k ⟨⟩) Q)
      -∗ tw d i (SparseCore.vectorStoreIdx (F := F) (srcAll s) idxs v m false h hs >>= k) Q) := by
  have e : ((srcAll s).access (.whole S64)).set = SS s.p := (access_whole _).trans (srcAll_set s)
  have hr : ∀ g : S3x64.Idx → BitVec 32, ((srcAll s).access (.whole S64)).read (Elt F) g = sl s g := fun g => funext fun y => by
    refine (View.read_apply _ _).trans ?_
    refine (cast_eq _ _).trans ?_
    show g ((srcAll s).view.emb ((Rect.whole S64).emb y)) = _
    rw [Rect.emb_whole_apply, srcAll_emb]; rfl
  have H := wp_vectorStoreIdx (defs := defs₀ (F := F)) 𝒱₀ (thr d i) none Set.univ (Q := Q) (base := srcAll s) (idxs := idxs) (v := (v : Vec F S16 .i32)) (mask := m) (add := false) (h := h) (hs := hs) (k := k) (f := g)
  rw [e] at H
  iintro HD HK
  iapply H $$ HD
  iintro HD
  iapply HK $$ %_ %_ HD
  rw [← hr, View.read_write_univ, hr]

theorem iota_lane : ∀ l : Fin 16, iota .scVector S16 32 [0] iota_S16_d0_w32_scVector (lane l) = BitVec.ofNat 32 l.val := by decide

theorem wp_list16 (t : Fin k1_t1_loop.trips) (ht : k1_cond1 t = 1#1) (s : Slot) (ci : BitVec 32) (hc : ci.toNat < 8) (k : ℕ) (hk : k ≤ 48) (o : BitVec 32)
    (SC : S1024.Idx → F .f32) (PO : S1024.Idx → BitVec 32) {f : ℕ} (hf : f = 512 * (i 0).val + 64 * ci.toNat) (gd : S3x80.Idx → BitVec 32) (gs : S3x64.Idx → BitVec 32)
    (hL : Lists (lvC SC f) (poC PO f) k o.toNat (nth (dl s gd)) (nth (sl s gs))) :
    iprop(SCB d i SC ∗ POB (F := F) d i PO ∗ DL (F := F) d i s gd ∗ SL (F := F) d i s gs)
      ⊢ tw d i (list16 i t ht s ci hc k hk o) (fun n => iprop(∃ gd' gs', ⌜Lists (lvC SC f) (poC PO f) (k + 16) n.toNat (nth (dl s gd')) (nth (sl s gs'))⌝
        ∗ SCB d i SC ∗ POB (F := F) d i PO ∗ DL (F := F) d i s gd' ∗ SL (F := F) d i s gs')) := by
  unfold list16
  iintro ⟨HC, HP, HD, HS⟩
  iapply (tw_load d i (m := sclB) (r := Rect.unit (s := S1024) (offCell i ci k) S16.size (offCell_inb i hc hk)) (S := Finset.univ) (f := SC) (Finset.subset_univ _)) $$ HC
  iintro HC
  iapply (tw_load d i (m := poiB) (r := Rect.unit (s := S1024) (offCell i ci k) S16.size (offCell_inb i hc hk)) (S := Finset.univ) (f := PO) (Finset.subset_univ _)) $$ HP
  iintro HP
  have hsv : ∀ y : S16.Idx, (sclB.access (Rect.unit (s := S1024) (offCell i ci k) S16.size (offCell_inb i hc hk))).read (Elt F) SC y = SC (ix1 (rowAt (f + (k + (y 0).val)))) := fun y => by
    rw [hf, ← cell_emb i hc k hk y]; rfl
  have hpv : ∀ y : S16.Idx, (poiB.access (Rect.unit (s := S1024) (offCell i ci k) S16.size (offCell_inb i hc hk))).read (Elt F) PO y = poN PO (f + (k + (y 0).val)) := fun y => by
    unfold poN; rw [hf, ← cell_emb i hc k hk y]; rfl
  generalize (sclB.access (Rect.unit (s := S1024) (offCell i ci k) S16.size (offCell_inb i hc hk))).read (Elt F) SC = sv at hsv ⊢
  generalize (poiB.access (Rect.unit (s := S1024) (offCell i ci k) S16.size (offCell_inb i hc hk))).read (Elt F) PO = pv at hpv ⊢
  have hm : ∀ l : Fin 16, live (F := F) sv (lane l) = 1 ↔ lvC SC f (k + l.val) := fun l => by
    show live (F := F) sv (lane l) = 1 ↔ live (F := F) (fun _ => SC (ix1 (rowAt (f + (k + l.val))))) (lane 0) = 1
    have e : sv (lane l) = SC (ix1 (rowAt (f + (k + l.val)))) := hsv (lane l)
    show xori _ _ (lane l) = 1 ↔ _
    show IntOp.xori (FloatOps.cmpf .oeq (sv (lane l)) _) _ = 1 ↔ _
    rw [e]
    exact Iff.rfl
  have ho : o.toNat ≤ 48 := hL.le.trans hk
  have hlt := fun x => place_lt (lv := lvC SC f) (live (F := F) sv) k hm ho x
  have hchk : k1_chk1 t (place o (live (F := F) sv)) := by
    refine ⟨fun _ a x => ?_, fun _ a x => ?_⟩
    · match a with
      | 0 => exact lt_trans (hlt x) (by decide)
    · match a with
      | 0 => exact hlt x
  iapply (tw_assume d i hchk)
  iapply (wp_storeD d i s _ _ _ gd) $$ HD
  iintro %gd' %hd HD
  iapply (wp_storeS d i s _ _ _ gs) $$ HS
  iintro %gs' %hs HS
  iapply (tw_pure d i)
  iexists gd', gs'
  isplitr
  · ipureintro
    rw [many_toNat (lv := lvC SC f) _ k hm ho, hd, hs]
    refine hL.step hk (put_of_store (F := F) _ k hm ho (by decide) _ _ _ (fun l => ?_) _) (put_of_store (F := F) _ k hm ho (by decide) _ _ _ (fun l => ?_) _)
    · show iota .scVector S16 32 [0] iota_S16_d0_w32_scVector (lane l) + BitVec.ofNat 32 k = _
      rw [iota_lane, BitVec.ofNat_add, BitVec.add_comm]
    · exact hpv (lane l)
  isplitl [HC]; · iexact HC
  isplitl [HP]; · iexact HP
  isplitl [HD] <;> iassumption

end Cert.Proof.Fill
-- ==== Proof.Start.lean ====
/-
  The gathers of a chunk: one for every sixteen entries of its list, all on the slot's one semaphore.
-/
module

public import proofs.«01_k».proof.Proof.Fill

@[expose] public section

noncomputable section

namespace Cert.Proof.Start

open Cert.KernelIdeal Cert.Proof.Chunk Cert.Proof.Lists Cert.Proof.Kit Cert.Proof.Fill Cert.Proof.Gather
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

/-- The transfers' counters, in the launch's resources. -/
abbrev EC : UEmb Counters (MT nD τ sig (HIx 1) (Elt F) ℕ UU ℕ) := countersEmb

variable (d : Dev nD) (i : grid1.Coords)

/-- What a gathered row, sixteen of them, and a chunk's rows credit. -/
theorem row_credit (s : Slot) (k : ℕ) (hk : k ≤ 48) (x) : ((rowsM s k hk).slice (S16x2x128.rowRect gathers_S1024x2x128_S16x2x128.axis' x)
    (S16x2x128.stride_rowRect gathers_S1024x2x128_S16x2x128.axis' x)).view.dmaCredit = 8192 :=
  (by decide : RefSig.bitCredit (S16x2x128.rowShape 0) .f32 = 8192)
theorem rows_credit (s : Slot) (k : ℕ) (hk : k ≤ 48) : (rowsM s k hk).view.dmaCredit = 16 * 8192 :=
  (by decide : RefSig.bitCredit S16x2x128 .f32 = 16 * 8192)
theorem slab_credit (s : Slot) : (slabM s).view.dmaCredit = 524288 := (by decide : RefSig.bitCredit S64x2x128 .f32 = 524288)
theorem out_credit (ci : BitVec 32) (hc : ci.toNat < 8) : (outM i ci hc).view.dmaCredit = 524288 := (by decide : RefSig.bitCredit S64x2x128 .f32 = 524288)

variable (T : S16x1024x2x128.Idx → F .f32)

/-- The gathered rows: row `t` is the table's row that the source list's entry `t` names. -/
def GAT (gs : S3x64.Idx → BitVec 32) : S3x64x2x128.Idx → F .f32 := fun x =>
  T (ix4 (i 1) (rowAt (gs (ix2 (x 0) (x 1))).toNat) (x 2) (x 3))

/-- A number as one of the sixty-four rows. -/
def rf (n : ℕ) : Fin 64 := ⟨n % 64, Nat.mod_lt _ (by decide)⟩
theorem rf_val (t : Fin 64) : rf t.val = t := Fin.ext (Nat.mod_eq_of_lt t.isLt)

/-- Everything one row's gather takes and returns. -/
abbrev ROW (s : Slot) (q : PosShare TreeShare) (gs : S3x64.Idx → BitVec 32) (fr : S3x64x2x128.Idx → F .f32) (t : Fin 64) : sProp 𝕄 :=
  iprop((((thr d i).loc cc1_scratch3 ↦[RW s.p t.val]{fullShare} fr) ∗ ((thr d i).loc cc1_scratch5 ↦[{ix2 ⟨s.p, s.hp⟩ t}]{fullShare} gs))
    ∗ ((thr d i).loc main_v1_scv ↦[BS (i 1).val]{pieceOf q 64 (by decide) t} T))

theorem row_set (s : Slot) (k : ℕ) (hk : k ≤ 48) (x : Fin 16) :
    ((rowsM s k hk).view.slice (S16x2x128.rowRect gathers_S1024x2x128_S16x2x128.axis' x)).set = RW s.p (rf (k + x.val)).val := by
  have hx := x.isLt
  have hv : (rf (k + x.val)).val = k + x.val := Nat.mod_eq_of_lt (by omega)
  rw [hv]
  ext z
  rw [mem_RW]
  constructor
  · intro h
    obtain ⟨y, -, rfl⟩ := Finset.mem_map.mp h
    show (((rowsM s k hk).view.emb ((S16x2x128.rowRect gathers_S1024x2x128_S16x2x128.axis' x).emb y)) 0).val = s.p ∧ (((rowsM s k hk).view.emb ((S16x2x128.rowRect gathers_S1024x2x128_S16x2x128.axis' x).emb y)) 1).val = _
    rw [rowsM_emb]
    refine ⟨rfl, ?_⟩
    show k + ((S16x2x128.rowRect gathers_S1024x2x128_S16x2x128.axis' x).emb y 0).val = k + x.val
    rw [show (S16x2x128.rowRect gathers_S1024x2x128_S16x2x128.axis' x).emb y 0 = x from Shape.rowRect_emb_axis _ _ _]
  · rintro ⟨h0, h1⟩
    have h2 : (z 2).val < 2 := (z 2).isLt
    have h3 : (z 3).val < 128 := (z 3).isLt
    refine Finset.mem_map.mpr ⟨S16x2x128.rowProj 0 (ix3 x (z 2) (z 3)), Finset.mem_univ _, ?_⟩
    show (rowsM s k hk).view.emb ((S16x2x128.rowRect 0 x).emb (S16x2x128.rowProj 0 (ix3 x (z 2) (z 3)))) = z
    have e : (S16x2x128.rowRect 0 x).emb (S16x2x128.rowProj 0 (ix3 x (z 2) (z 3))) = (ix3 x (z 2) (z 3) : S16x2x128.Idx) :=
      Shape.rowRect_emb_rowProj 0 (ix3 x (z 2) (z 3))
    rw [e, rowsM_emb]
    funext a
    match a with
    | 0 => exact Fin.ext h0.symm
    | 1 => exact Fin.ext h1.symm
    | 2 => rfl
    | 3 => rfl

theorem entry_emb (s : Slot) (k : ℕ) (hk : k ≤ 48) (x : Fin 16) (h : 16 = S16.numel) :
    (srcM s k hk).view.emb (S16.rowMajor.symm (x.cast h)) = (ix2 ⟨s.p, s.hp⟩ (rf (k + x.val)) : S3x64.Idx) := by
  have hx := x.isLt
  have e : ∀ (h : 16 = S16.numel) (x : Fin 16), (S16.rowMajor.symm (x.cast h) 0).val = x.val := by decide
  rw [srcM_emb]
  funext a
  match a with
  | 0 => rfl
  | 1 => exact Fin.ext (show k + _ = (k + x.val) % 64 by rw [e h]; omega)

/-- One row's points-tos, through the views a gather of sixteen names. -/
theorem row_views (s : Slot) (k : ℕ) (hk : k ≤ 48) (q : PosShare TreeShare) (gs : S3x64.Idx → BitVec 32) (x : Fin 16) (f : S3x64x2x128.Idx → F .f32) :
    ROW d i T s q gs f (rf (k + x.val)) = iprop((((rowsM s k hk).view.loc (thr d i) ↦[((rowsM s k hk).view.slice (S16x2x128.rowRect gathers_S1024x2x128_S16x2x128.axis' x)).set]{fullShare} f)
        ∗ ((srcM s k hk).view.loc (thr d i) ↦[{(srcM s k hk).view.emb (S16.rowMajor.symm (Fin.cast (show 16 = S16.numel from rfl) x))}]{fullShare} gs))
        ∗ ((batM i).view.loc (thr d i) ↦[(batM i).view.set]{pieceOf q 64 (by decide) (rf (k + x.val))} T)) := by
  rw [row_set, entry_emb s k hk x rfl, batM_set]

theorem src_read (s : Slot) (k : ℕ) (hk : k ≤ 48) (gs : S3x64.Idx → BitVec 32) (y : S16.Idx) :
    (srcM s k hk).view.read (Elt F) gs y = gs (ix2 ⟨s.p, s.hp⟩ (rf (k + (y 0).val))) := by
  refine (View.read_apply _ _).trans ((cast_eq _ _).trans ?_)
  have hy : (y 0).val < 16 := (y 0).isLt
  rw [srcM_emb]
  refine congrArg gs ?_
  funext a
  match a with
  | 0 => rfl
  | 1 => exact Fin.ext (show k + (y 0).val = (k + (y 0).val) % 64 by omega)

/-- What a row's gather lands. -/
theorem row_value (s : Slot) (k : ℕ) (hk : k ≤ 48) (gs : S3x64.Idx → BitVec 32) (fr : S3x64x2x128.Idx → F .f32) (hn : S16.numel = 16)
    (hin : ∀ y, ((srcM s k hk).view.read (Elt F) gs y).toNat < 1024) (x : Fin 16) :
    ∀ z ∈ ((rowsM s k hk).view.slice (S16x2x128.rowRect gathers_S1024x2x128_S16x2x128.axis' x)).set,
      ((rowsM s k hk).view.slice (S16x2x128.rowRect gathers_S1024x2x128_S16x2x128.axis' x)).write (Elt F) fr
        (fun j => (batM i).view.read (Elt F) T (gathers_S1024x2x128_S16x2x128.rowIdx (rows ((srcM s k hk).view.read (Elt F) gs) hn hin x) j)) Finset.univ z
      = GAT i T gs z := by
  intro z hz
  obtain ⟨y, -, rfl⟩ := Finset.mem_map.mp hz
  have hx : x.val < 16 := x.isLt
  refine (View.write_emb_of_mem (v := (rowsM s k hk).view.slice (S16x2x128.rowRect gathers_S1024x2x128_S16x2x128.axis' x)) _ _ (Finset.mem_univ y)).trans ((cast_eq _ _).trans ?_)
  refine (View.read_apply _ _).trans ((cast_eq _ _).trans ?_)
  rw [batM_emb]
  show T _ = GAT i T gs ((rowsM s k hk).view.emb ((S16x2x128.rowRect gathers_S1024x2x128_S16x2x128.axis' x).emb y))
  rw [rowsM_emb]
  unfold GAT
  refine congrArg T ?_
  have h0 : (S16x2x128.rowRect gathers_S1024x2x128_S16x2x128.axis' x).emb y 0 = x := Shape.rowRect_emb_axis _ _ _
  funext a
  match a with
  | 0 => rfl
  | 1 =>
    refine (Shape.Gathers.rowIdx_axis gathers_S1024x2x128_S16x2x128 _ y).trans (Fin.ext ?_)
    show ((srcM s k hk).view.read (Elt F) gs (S16.rowMajor.symm (x.cast hn.symm))).toNat = (gs (ix2 ⟨s.p, s.hp⟩ ⟨k + ((S16x2x128.rowRect gathers_S1024x2x128_S16x2x128.axis' x).emb y 0).val, _⟩)).toNat % 1024
    rw [Nat.mod_eq_of_lt]
    · refine congrArg (fun v : BitVec 32 => v.toNat) ?_
      refine (View.read_apply _ _).trans ((cast_eq _ _).trans ?_)
      rw [entry_emb s k hk x hn.symm]
      refine congrArg gs (congrArg _ (Fin.ext ?_))
      show (k + x.val) % 64 = k + ((S16x2x128.rowRect gathers_S1024x2x128_S16x2x128.axis' x).emb y 0).val
      rw [h0]; omega
    · have := hin (S16.rowMajor.symm (x.cast hn.symm))
      rw [show (srcM s k hk).view.read (Elt F) gs (S16.rowMajor.symm (x.cast hn.symm)) = gs ((srcM s k hk).view.emb (S16.rowMajor.symm (x.cast hn.symm))) from
        (View.read_apply _ _).trans (cast_eq _ _), entry_emb s k hk x hn.symm] at this
      refine lt_of_eq_of_lt (congrArg (fun z => (gs (ix2 ⟨s.p, s.hp⟩ z)).toNat) (Fin.ext ?_)) this
      show k + ((S16x2x128.rowRect gathers_S1024x2x128_S16x2x128.axis' x).emb y 0).val = (k + x.val) % 64
      rw [h0]; omega
  | 2 =>
    refine Fin.ext ((Shape.Gathers.rowIdx_of_ne gathers_S1024x2x128_S16x2x128 _ y (1 : Fin 3) (by decide)).trans ?_)
    exact (Shape.rowRect_emb_of_ne (s := S16x2x128) 0 x y (b := (1 : Fin 3)) (by decide)).symm
  | 3 =>
    refine Fin.ext ((Shape.Gathers.rowIdx_of_ne gathers_S1024x2x128_S16x2x128 _ y (2 : Fin 3) (by decide)).trans ?_)
    exact (Shape.rowRect_emb_of_ne (s := S16x2x128) 0 x y (b := (2 : Fin 3)) (by decide)).symm

theorem wp_gather16 (s : Slot) (k : ℕ) (hk : k ≤ 48) (q : PosShare TreeShare) (gs : S3x64.Idx → BitVec 32) (fr : S3x64x2x128.Idx → F .f32) {n : ℕ} (hn : k + 16 ≤ n)
    (hsrc : ∀ t : Fin 64, (gs (ix2 ⟨s.p, s.hp⟩ t)).toNat < 1024) :
    iprop(bigSep Finset.univ (fun x : Fin 16 => ROW d i T s q gs fr (rf (k + x.val)))
        ∗ Transfers.Batch EC (thr d i) (.dma s.sG.sem) (default : HIx 1) 8192 (fun t : Fin n => ROW d i T s q gs (GAT i T gs) (rf t.val)) k 0)
      ⊢ tw d i (gather16 i s k hk) (fun _ => Transfers.Batch EC (thr d i) (.dma s.sG.sem) (default : HIx 1) 8192
          (fun t : Fin n => ROW d i T s q gs (GAT i T gs) (rf t.val)) (k + 16) 0) := by
  have hin : ∀ y, ((srcM s k hk).view.read (Elt F) gs y).toNat < 1024 := fun y => by
    rw [src_read]; exact hsrc _
  have hb : gather16 (F := F) i s k hk = gather16 i s k hk >>= pure := (bind_pure _).symm
  rw [hb]
  unfold gather16
  iintro ⟨HR, HB⟩
  iapply (wp_gatherBatch (defs := defs₀ (F := F)) EC 𝒱₀ (thr d i) none
    (qo := fullShare) (qk := fun x => pieceOf q 64 (by decide) (rf (k + x.val))) (fs := T) (fd := fun _ => fr) (fo := gs)
    (default : HIx 1) 8192 (D := fun t : Fin n => ROW d i T s q gs (GAT i T gs) (rf t.val)) (j := k) (u := 0)
    (row_credit s k hk) hn (Nat.zero_le _) hin (fun x => by
      rw [pointsTo_congr (row_value i T s k hk gs fr rfl hin x)]
      exact Entails.of_eq (row_views d i T s k hk q gs x (GAT i T gs)).symm)) $$ [HR HB]
  · isplitl [HR]
    · iapply (Entails.of_eq (bigSep_congr fun x _ => row_views d i T s k hk q gs x fr)) $$ HR
    · iexact HB
  iintro HB
  iapply (tw_pure d i) $$ HB

/-- The rows' parts together are the slot's rows, its source list and the table's share. -/
theorem rows_all (s : Slot) (q : PosShare TreeShare) (gs : S3x64.Idx → BitVec 32) (fr : S3x64x2x128.Idx → F .f32) :
    bigSep Finset.univ (ROW d i T s q gs fr)
      = iprop((((thr d i).loc cc1_scratch3 ↦[RS s.p]{fullShare} fr) ∗ SL (F := F) d i s gs) ∗ ((thr d i).loc main_v1_scv ↦[BS (i 1).val]{q} T)) := by
  have h3 : RS s.p = Finset.univ.biUnion (fun t : Fin 64 => RW s.p t.val) := by
    ext x
    simp only [Finset.mem_biUnion, mem_RS, mem_RW, Finset.mem_univ, true_and]
    exact ⟨fun h => ⟨x 1, h, rfl⟩, fun ⟨_, h, _⟩ => h⟩
  have h5 : SS s.p = Finset.univ.biUnion (fun t : Fin 64 => {(ix2 ⟨s.p, s.hp⟩ t : S3x64.Idx)}) := by
    ext x
    simp only [Finset.mem_biUnion, mem_SS, Finset.mem_univ, true_and, Finset.mem_singleton]
    constructor
    · intro h
      refine ⟨x 1, ?_⟩
      funext a
      match a with
      | 0 => exact Fin.ext h
      | 1 => rfl
    · rintro ⟨t, rfl⟩; rfl
  have e3 : ((thr d i).loc cc1_scratch3 ↦[RS s.p]{fullShare} fr : sProp 𝕄) = bigSep Finset.univ fun t : Fin 64 => (thr d i).loc cc1_scratch3 ↦[RW s.p t.val]{fullShare} fr := by
    rw [h3]
    refine pointsTo_biUnion _ _ ?_
    intro t _ t' _ hne
    rw [Finset.disjoint_left]
    intro x hx hx'
    exact hne (Fin.ext ((mem_RW.1 hx).2.symm.trans (mem_RW.1 hx').2))
  have e5 : (SL (F := F) d i s gs : sProp 𝕄) = bigSep Finset.univ fun t : Fin 64 => (thr d i).loc cc1_scratch5 ↦[{(ix2 ⟨s.p, s.hp⟩ t : S3x64.Idx)}]{fullShare} gs := by
    unfold SL
    rw [h5]
    refine pointsTo_biUnion _ _ ?_
    intro t _ t' _ hne
    rw [Finset.disjoint_left]
    intro x hx hx'
    rw [Finset.mem_singleton] at hx hx'
    exact hne (congrFun (hx.symm.trans hx') 1)
  have e1 : ((thr d i).loc main_v1_scv ↦[BS (i 1).val]{q} T : sProp 𝕄) = bigSep Finset.univ fun t : Fin 64 => (thr d i).loc main_v1_scv ↦[BS (i 1).val]{pieceOf q 64 (by decide) t} T :=
    pointsTo_piecesOf (Val := Elt F) (Ix := HIx 1) (Name := ℕ) (U := UU) (Lvl := ℕ) (ℓ := (thr d i).loc main_v1_scv) (BS (i 1).val) T (o := 64) (by decide) q
  exact (BI.bigSep_sep _ _ _).trans (congrArg₂ BI.BIBase.sep ((BI.bigSep_sep _ _ _).trans (congrArg₂ BI.BIBase.sep e3.symm e5.symm)) e1.symm)

/-! ## The transfers of a chunk's rows, and the waits -/

/-- What a subcore still owes: its debt, and waits beyond those it began with only of the index its own transfers take. -/
abbrev OWE (O : CellTallies nD τ sig (HIx 1)) (W : Waits sig (HIx 1)) : sProp 𝕄 := iprop(∃ W', ⌜∀ p ∈ W', p ∈ W ∨ p.2 = none⌝ ∗ owes (thr d i) O W')

variable (O : CellTallies nD τ sig (HIx 1)) (W : Waits sig (HIx 1))

/-- The fetch of a chunk's rows in flight, and what it lands. -/
abbrev FL (s : Slot) (f : ℕ) (q : PosShare TreeShare) (fb : S3x72x2x128.Idx → F .f32) : sProp 𝕄 :=
  Transfers.Flight EC (thr d i) (.dma s.sIn.sem) (default : HIx 1) 524288
    iprop(((thr d i).loc cc1_scratch2 ↦[LS s.p]{fullShare} fb) ∗ ((thr d i).loc main_v1_scv ↦[CS (i 1).val f]{q} T))

/-- A chunk's rows in a slot's slab: the table's rows from `f` on. -/
def FET (f : ℕ) : S3x72x2x128.Idx → F .f32 := fun x => T (ix4 (i 1) (rowAt (f + (x 1).val)) (x 2) (x 3))

theorem in_value (s : Slot) (ci : BitVec 32) (hc : ci.toNat < 8) (fb : S3x72x2x128.Idx → F .f32) :
    ∀ z ∈ (slabM s).view.set, (slabM s).view.write (Elt F) fb (ReadAs.same.apply ((tabM i ci hc).view.read (Elt F) T)) Finset.univ z
      = FET i T (512 * (i 0).val + 64 * ci.toNat) z := by
  intro z hz
  obtain ⟨y, -, rfl⟩ := Finset.mem_map.mp hz
  refine (View.write_emb_of_mem (v := (slabM s).view) _ _ (Finset.mem_univ y)).trans ((cast_eq _ _).trans ?_)
  refine (View.read_apply _ _).trans ((cast_eq _ _).trans ?_)
  rw [slabM_emb]
  exact congrArg T (chunk_emb i hc _ y)

theorem wp_copyIn (s : Slot) (ci : BitVec 32) (hc : ci.toNat < 8) (q : PosShare TreeShare) (fb : S3x72x2x128.Idx → F .f32) {f : ℕ} (hf : f = 512 * (i 0).val + 64 * ci.toNat) :
    iprop(((thr d i).loc main_v1_scv ↦[CS (i 1).val f]{q} T) ∗ ((thr d i).loc cc1_scratch2 ↦[LS s.p]{fullShare} fb) ∗ semVal (thr d i, .dma s.sIn.sem) 0)
      ⊢ tw d i (copyIn i s ci hc) (fun _ => FL d i T s f q (FET i T f)) := by
  have hb : copyIn (F := F) i s ci hc = copyIn i s ci hc >>= pure := (bind_pure _).symm
  rw [hb]
  unfold copyIn
  have hv := pointsTo_congr (Ix := HIx 1) (Name := ℕ) (U := UU) (Lvl := ℕ) (ℓ := (slabM s).view.loc (thr d i)) (q := fullShare) (in_value i T s ci hc fb)
  rw [hf, ← tabM_set i hc, ← slabM_set s]
  iintro H
  iapply (Transfers.wp_dmaLocal (defs := defs₀ (F := F)) EC 𝒱₀ (thr d i) none (src := tabM i ci hc) (dst := slabM s) (sm := .dma s.sIn.sem) (k := pure) (default : HIx 1) 524288 (slab_credit s) (by decide) (subset_rfl)) $$ H
  rw [hv, slabM_set, tabM_set i hc]
  iintro HF
  iapply (tw_pure d i)
  iexact HF

end Cert.Proof.Start
-- ==== Proof.Move.lean ====
/-
  A chunk's transfers as stages: the guarded gathers issued one after the other and awaited, and the write-back of the
  chunk's rows.
-/
module

public import proofs.«01_k».proof.Proof.Start

@[expose] public section

noncomputable section

namespace Cert.Proof.Move

open Cert.KernelIdeal Cert.Proof.Chunk Cert.Proof.Lists Cert.Proof.Kit Cert.Proof.Fill Cert.Proof.Gather Cert.Proof.Start
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords) (T : S16x1024x2x128.Idx → F .f32) (O : CellTallies nD τ sig (HIx 1)) (W : Waits sig (HIx 1))

/-- The evidence that a subcore may wait on its own transfers. -/
abbrev MW : sProp 𝕄 := Transfers.MayWaits (thr d i) (default : HIx 1) O

theorem wp_awaitIn (s : Slot) (ci : BitVec 32) (hc : ci.toNat < 8) (q : PosShare TreeShare) (fb : S3x72x2x128.Idx → F .f32) {f : ℕ} :
    iprop(FL d i T s f q fb ∗ MW (F := F) d i O ∗ OWE (F := F) d i O W)
      ⊢ tw d i (awaitIn i s ci hc) (fun _ => iprop((((thr d i).loc cc1_scratch2 ↦[LS s.p]{fullShare} fb) ∗ ((thr d i).loc main_v1_scv ↦[CS (i 1).val f]{q} T))
          ∗ semVal (thr d i, .dma s.sIn.sem) 0 ∗ OWE (F := F) d i O W)) := by
  have hb : awaitIn (F := F) i s ci hc = awaitIn i s ci hc >>= pure := (bind_pure _).symm
  rw [hb]
  unfold awaitIn
  iintro ⟨HF, #Hmw, %W', %hW, HO⟩
  iapply (Transfers.wp_waitLocalO (defs := defs₀ (F := F)) EC 𝒱₀ (thr d i) none (k := pure) (default : HIx 1) (slab_credit s)) $$ [HF HO]
  · isplitl [HF]; · iexact HF
    isplitl [HO]; · iexact HO
    iapply (Transfers.MayWaits.elim (SemLoc.dma s.sIn.sem)) $$ Hmw
  iintro ⟨HD, Hv, HO⟩
  iapply (tw_pure d i)
  isplitl [HD]; · iexact HD
  isplitl [Hv]; · iexact Hv
  iexists _
  isplitr
  swap; · iexact HO
  ipureintro
  intro p hp
  rcases Finset.mem_insert.mp hp with hp | hp
  · exact .inr (hp ▸ rfl)
  · exact hW p hp

/-- A chunk's write-back in flight, and what it lands. -/
abbrev FW (s : Slot) (f : ℕ) (fb : S3x72x2x128.Idx → F .f32) (R : S16x1024x2x128.Idx → F .f32) : sProp 𝕄 :=
  Transfers.Flight EC (thr d i) (.dma s.sOut.sem) (default : HIx 1) 524288
    iprop(((thr d i).loc main_v3_scv ↦[CS (i 1).val f]{fullShare} R) ∗ ((thr d i).loc cc1_scratch2 ↦[LS s.p]{fullShare} fb))

theorem out_value (s : Slot) (ci : BitVec 32) (hc : ci.toNat < 8) (fb : S3x72x2x128.Idx → F .f32) (fo R : S16x1024x2x128.Idx → F .f32)
    (hR : ∀ (y : S64x2x128.Idx), fb (ix4 ⟨s.p, s.hp⟩ ⟨(y 0).val, lt_trans (y 0).isLt (by decide)⟩ (y 1) (y 2)) = R (ix4 (i 1) (rowAt (512 * (i 0).val + 64 * ci.toNat + (y 0).val)) (y 1) (y 2))) :
    ∀ z ∈ (outM i ci hc).view.set, (outM i ci hc).view.write (Elt F) fo (ReadAs.same.apply ((slabM s).view.read (Elt F) fb)) Finset.univ z = R z := by
  intro z hz
  obtain ⟨y, -, rfl⟩ := Finset.mem_map.mp hz
  refine (View.write_emb_of_mem (v := (outM i ci hc).view) _ _ (Finset.mem_univ y)).trans ((cast_eq _ _).trans ?_)
  refine (View.read_apply _ _).trans ((cast_eq _ _).trans ?_)
  rw [slabM_emb, hR]
  exact congrArg R (chunk_emb i hc _ y).symm

theorem wp_copyOut (s : Slot) (ci : BitVec 32) (hc : ci.toNat < 8) (fb : S3x72x2x128.Idx → F .f32) (fo R : S16x1024x2x128.Idx → F .f32) {f : ℕ} (hf : f = 512 * (i 0).val + 64 * ci.toNat)
    (hR : ∀ (y : S64x2x128.Idx), fb (ix4 ⟨s.p, s.hp⟩ ⟨(y 0).val, lt_trans (y 0).isLt (by decide)⟩ (y 1) (y 2)) = R (ix4 (i 1) (rowAt (f + (y 0).val)) (y 1) (y 2))) :
    iprop(((thr d i).loc cc1_scratch2 ↦[LS s.p]{fullShare} fb) ∗ ((thr d i).loc main_v3_scv ↦[CS (i 1).val f]{fullShare} fo) ∗ semVal (thr d i, .dma s.sOut.sem) 0)
      ⊢ tw d i (copyOut i s ci hc) (fun _ => FW d i s f fb R) := by
  have hb : copyOut (F := F) i s ci hc = copyOut i s ci hc >>= pure := (bind_pure _).symm
  rw [hb]
  unfold copyOut
  subst hf
  have hv := pointsTo_congr (Val := Elt F) (Ix := HIx 1) (Name := ℕ) (U := UU) (Lvl := ℕ) (ℓ := (outM i ci hc).view.loc (thr d i)) (q := fullShare) (out_value i s ci hc fb fo R hR)
  rw [← outM_set i hc, ← slabM_set s]
  iintro H
  iapply (Transfers.wp_dmaLocal (defs := defs₀ (F := F)) EC 𝒱₀ (thr d i) none (src := slabM s) (dst := outM i ci hc) (sm := .dma s.sOut.sem) (k := pure) (default : HIx 1) 524288 (out_credit i ci hc) (by decide) (subset_rfl)) $$ H
  rw [hv, slabM_set, outM_set i hc]
  iintro HF
  iapply (tw_pure d i)
  iexact HF

theorem wp_drain (s : Slot) (ci : BitVec 32) (hc : ci.toNat < 8) (fb : S3x72x2x128.Idx → F .f32) (R : S16x1024x2x128.Idx → F .f32) {f : ℕ} :
    iprop(FW d i s f fb R ∗ MW (F := F) d i O ∗ OWE (F := F) d i O W)
      ⊢ tw d i (drain i s ci hc) (fun _ => iprop((((thr d i).loc main_v3_scv ↦[CS (i 1).val f]{fullShare} R) ∗ ((thr d i).loc cc1_scratch2 ↦[LS s.p]{fullShare} fb))
          ∗ semVal (thr d i, .dma s.sOut.sem) 0 ∗ OWE (F := F) d i O W)) := by
  have hb : drain (F := F) i s ci hc = drain i s ci hc >>= pure := (bind_pure _).symm
  rw [hb]
  unfold drain
  iintro ⟨HF, #Hmw, %W', %hW, HO⟩
  iapply (Transfers.wp_waitLocalO (defs := defs₀ (F := F)) EC 𝒱₀ (thr d i) none (k := pure) (default : HIx 1) (out_credit i ci hc)) $$ [HF HO]
  · isplitl [HF]; · iexact HF
    isplitl [HO]; · iexact HO
    iapply (Transfers.MayWaits.elim (SemLoc.dma s.sOut.sem)) $$ Hmw
  iintro ⟨HD, Hv, HO⟩
  iapply (tw_pure d i)
  isplitl [HD]; · iexact HD
  isplitl [Hv]; · iexact Hv
  iexists _
  isplitr
  swap; · iexact HO
  ipureintro
  intro p hp
  rcases Finset.mem_insert.mp hp with hp | hp
  · exact .inr (hp ▸ rfl)
  · exact hW p hp

/-! ## The gathers of a chunk, four at most -/

/-- How many gathers a list of `o` entries takes. -/
def GN (o : ℕ) : ℕ := (o + 15) / 16

theorem past_iff : ∀ (o : BitVec 32), o.toNat ≤ 64 → ∀ a : Fin 4, past o (16 * a.val) = 1#1 ↔ a.val < GN o.toNat := by
  have h : ∀ (n : Fin 65) (a : Fin 4), past (BitVec.ofNat 32 n.val) (16 * a.val) = 1#1 ↔ a.val < GN n.val := by decide
  intro o ho a
  have := h ⟨o.toNat, by omega⟩ a
  rwa [BitVec.ofNat_toNat, BitVec.setWidth_eq] at this

/-- The gathers' batch: of the rows the list's groups of sixteen name, `j` issued and `u` units awaited. -/
abbrev BT (s : Slot) (q : PosShare TreeShare) (gs : S3x64.Idx → BitVec 32) (o j u : ℕ) : sProp 𝕄 :=
  Transfers.Batch EC (thr d i) (.dma s.sG.sem) (default : HIx 1) 8192 (fun t : Fin (16 * GN o) => ROW d i T s q gs (GAT i T gs) (rf t.val)) j u

/-- The state before gather `a`. -/
abbrev GS (s : Slot) (q : PosShare TreeShare) (gs : S3x64.Idx → BitVec 32) (fr : S3x64x2x128.Idx → F .f32) (o a : ℕ) : sProp 𝕄 :=
  iprop(bigSep (Transfers.pending (n := 64) (16 * min a (GN o))) (ROW d i T s q gs fr) ∗ BT d i T s q gs o (16 * min a (GN o)) 0)

theorem gather_step (s : Slot) (q : PosShare TreeShare) (gs : S3x64.Idx → BitVec 32) (fr : S3x64x2x128.Idx → F .f32) {o : BitVec 32} (ho : o.toNat ≤ 64)
    (hsrc : ∀ t : Fin 64, (gs (ix2 ⟨s.p, s.hp⟩ t)).toNat < 1024) (a : Fin 4) {k : ℕ} (ek : k = 16 * a.val) (hk : k ≤ 48) (hp : past o k = 1#1) :
    GS d i T s q gs fr o.toNat a.val ⊢ tw d i (gather16 i s k hk) (fun _ => GS d i T s q gs fr o.toNat (a.val + 1)) := by
  subst ek
  have ha := a.isLt
  have hG := (past_iff o ho a).1 hp
  have hG' : GN o.toNat ≤ 4 := by unfold GN; omega
  have e0 : min a.val (GN o.toNat) = a.val := by omega
  have e1 : min (a.val + 1) (GN o.toNat) = a.val + 1 := by omega
  unfold GS
  rw [e0, e1]
  iintro ⟨HR, HB⟩
  ihave HR := (Entails.of_eq (bigSep_block (n := 64) (ROW d i T s q gs fr) (16 * a.val) 16 (by omega))) $$ HR
  icases HR with ⟨Hn, HR⟩
  have hb : gather16 (F := F) i s (16 * a.val) hk = gather16 i s (16 * a.val) hk >>= pure := (bind_pure _).symm
  rw [hb]
  iapply (tw_seq d i (wp_gather16 d i T s (16 * a.val) hk q gs fr (n := 16 * GN o.toNat) (by omega) hsrc)) $$ [Hn HB]
  · isplitl [Hn]
    · iapply (Entails.of_eq (bigSep_congr fun x _ => by
        congr 1; exact Fin.ext (Nat.mod_eq_of_lt (by have := x.isLt; omega)).symm)) $$ Hn
    · iexact HB
  iintro %x HB
  iapply (tw_pure d i)
  isplitl [HR]
  · iexact HR
  · iexact HB

theorem gather_skip (s : Slot) (q : PosShare TreeShare) (gs : S3x64.Idx → BitVec 32) (fr : S3x64x2x128.Idx → F .f32) {o : BitVec 32} (ho : o.toNat ≤ 64)
    (a : Fin 4) {k : ℕ} (ek : k = 16 * a.val) (hp : ¬ past o k = 1#1) :
    GS d i T s q gs fr o.toNat a.val ⊢ GS d i T s q gs fr o.toNat (a.val + 1) := by
  subst ek
  have hG : ¬ a.val < GN o.toNat := fun h => hp ((past_iff o ho a).2 h)
  have e0 : min a.val (GN o.toNat) = GN o.toNat := by omega
  have e1 : min (a.val + 1) (GN o.toNat) = GN o.toNat := by omega
  unfold GS
  rw [e0, e1]

/-- The state before the wait for gather `a`. -/
abbrev AS (s : Slot) (q : PosShare TreeShare) (gs : S3x64.Idx → BitVec 32) (o a : ℕ) : sProp 𝕄 :=
  iprop(BT d i T s q gs o (16 * GN o) (131072 * min a (GN o)) ∗ OWE (F := F) d i O W)

theorem await_step (s : Slot) (q : PosShare TreeShare) (gs : S3x64.Idx → BitVec 32) {o : BitVec 32} (ho : o.toNat ≤ 64)
    (a : Fin 4) {k : ℕ} (ek : k = 16 * a.val) (hk : k ≤ 48) (hp : past o k = 1#1) :
    iprop(MW (F := F) d i O ∗ AS d i T O W s q gs o.toNat a.val) ⊢ tw d i (await16 i s k hk) (fun _ => iprop(MW (F := F) d i O ∗ AS d i T O W s q gs o.toNat (a.val + 1))) := by
  subst ek
  have hG := (past_iff o ho a).1 hp
  have e0 : min a.val (GN o.toNat) = a.val := by omega
  have e1 : min (a.val + 1) (GN o.toNat) = a.val + 1 := by omega
  unfold AS
  rw [e0, e1]
  have hb : await16 (F := F) i s (16 * a.val) hk = await16 i s (16 * a.val) hk >>= pure := (bind_pure _).symm
  rw [hb]
  unfold await16
  iintro ⟨#Hmw, HB, %W', %hW, HO⟩
  iapply (Transfers.wp_waitBatchMulO (defs := defs₀ (F := F)) EC 𝒱₀ (thr d i) none (k := pure) (default : HIx 1) 16 (rows_credit s (16 * a.val) hk)
    (D := fun t : Fin (16 * GN o.toNat) => ROW d i T s q gs (GAT i T gs) (rf t.val)) (j := 16 * GN o.toNat) (u := 131072 * a.val) (by omega)) $$ [HB HO]
  · isplitl [HB]; · iexact HB
    isplitl [HO]; · iexact HO
    iapply (Transfers.MayWaits.elim (SemLoc.dma s.sG.sem)) $$ Hmw
  iintro ⟨HB, HO⟩
  iapply (tw_pure d i)
  isplitr; · iexact Hmw
  isplitl [HB]
  · rw [show 131072 * (a.val + 1) = 131072 * a.val + 16 * 8192 by omega]; iexact HB
  iexists _
  isplitr
  swap; · iexact HO
  ipureintro
  intro p hp
  rcases Finset.mem_insert.mp hp with hp | hp
  · exact .inr (hp ▸ rfl)
  · exact hW p hp

theorem await_skip (s : Slot) (q : PosShare TreeShare) (gs : S3x64.Idx → BitVec 32) {o : BitVec 32} (ho : o.toNat ≤ 64)
    (a : Fin 4) {k : ℕ} (ek : k = 16 * a.val) (hp : ¬ past o k = 1#1) :
    iprop(MW (F := F) d i O ∗ AS d i T O W s q gs o.toNat a.val) ⊢ iprop(MW (F := F) d i O ∗ AS d i T O W s q gs o.toNat (a.val + 1)) := by
  subst ek
  have hG : ¬ a.val < GN o.toNat := fun h => hp ((past_iff o ho a).2 h)
  have e0 : min a.val (GN o.toNat) = GN o.toNat := by omega
  have e1 : min (a.val + 1) (GN o.toNat) = GN o.toNat := by omega
  unfold AS
  rw [e0, e1]

/-- The gathered rows of a list of `o` entries, over what the slot's rows held. -/
def GOT (gs : S3x64.Idx → BitVec 32) (fr : S3x64x2x128.Idx → F .f32) (o : ℕ) : S3x64x2x128.Idx → F .f32 :=
  fun x => if (x 1).val < 16 * GN o then GAT i T gs x else fr x

theorem gathers_begin (s : Slot) (q : PosShare TreeShare) (gs : S3x64.Idx → BitVec 32) (fr : S3x64x2x128.Idx → F .f32) (o : ℕ) :
    iprop((((thr d i).loc cc1_scratch3 ↦[RS s.p]{fullShare} fr) ∗ SL (F := F) d i s gs) ∗ ((thr d i).loc main_v1_scv ↦[BS (i 1).val]{q} T) ∗ semVal (thr d i, .dma s.sG.sem) 0)
      ⊢ |={Set.univ}=> GS d i T s q gs fr o 0 := by
  iintro ⟨H1, H2, Hv⟩
  imod (Transfers.batch_alloc' EC (thr d i) (default : HIx 1) 8192 (fun t : Fin (16 * GN o) => ROW d i T s q gs (GAT i T gs) (rf t.val))) $$ Hv with HB
  imodintro
  unfold GS
  rw [Nat.zero_min, Nat.mul_zero]
  isplitl [H1 H2]
  · rw [Transfers.pending_zero]
    iapply (Entails.of_eq (rows_all d i T s q gs fr).symm)
    isplitl [H1] <;> iassumption
  · iexact HB

theorem gathers_end (s : Slot) (q : PosShare TreeShare) (gs : S3x64.Idx → BitVec 32) (fr : S3x64x2x128.Idx → F .f32) {o : ℕ} (ho : o ≤ 64) :
    iprop(bigSep (Transfers.pending (n := 64) (16 * GN o)) (ROW d i T s q gs fr) ∗ BT d i T s q gs o (16 * GN o) (131072 * min 4 (GN o)))
      ⊢ |={Set.univ}=> iprop(((((thr d i).loc cc1_scratch3 ↦[RS s.p]{fullShare} (GOT i T gs fr o)) ∗ SL (F := F) d i s gs) ∗ ((thr d i).loc main_v1_scv ↦[BS (i 1).val]{q} T))
        ∗ semVal (thr d i, .dma s.sG.sem) 0) := by
  have hG : GN o ≤ 4 := by unfold GN; omega
  rw [show 131072 * min 4 (GN o) = 8192 * (16 * GN o) by omega]
  iintro ⟨HR, HB⟩
  imod (Transfers.batch_collect' EC (thr d i) (by decide)) $$ HB with ⟨HD, Hv⟩
  imodintro
  isplitl [HR HD]
  swap; · iexact Hv
  have hrow : ∀ (t : Fin 64) (f g : S3x64x2x128.Idx → F .f32), (∀ x ∈ RW s.p t.val, f x = g x) → ROW d i T s q gs f t = ROW d i T s q gs g t := fun t f g h => by
    unfold ROW
    rw [pointsTo_congr (Val := Elt F) (Ix := HIx 1) (Name := ℕ) (U := UU) (Lvl := ℕ) (ℓ := (thr d i).loc cc1_scratch3) h]
  iapply (Entails.of_eq (rows_all d i T s q gs (GOT i T gs fr o)))
  have hb := bigSep_block (n := 64) (ROW d i T s q gs (GOT i T gs fr o)) 0 (16 * GN o) (by omega)
  rw [Transfers.pending_zero] at hb
  iapply (Entails.of_eq hb.symm)
  isplitl [HD]
  · iapply (Entails.of_eq (bigSep_congr fun x _ => by
      have hx := x.isLt
      have e : (rf x.val) = (⟨0 + x.val, by omega⟩ : Fin 64) := Fin.ext (by show x.val % 64 = 0 + x.val; omega)
      rw [e]
      refine hrow _ _ _ fun z hz => ?_
      have hz1 := (mem_RW.1 hz).2
      unfold GOT
      rw [if_pos (by rw [hz1]; show 0 + x.val < _; omega)])) $$ HD
  · rw [Nat.zero_add]
    iapply (Entails.of_eq (bigSep_congr fun t ht => by
      refine hrow _ _ _ fun z hz => ?_
      have hz1 := (mem_RW.1 hz).2
      have := (Finset.mem_filter.mp ht).2
      unfold GOT
      rw [if_neg (by omega)])) $$ HR

end Cert.Proof.Move
-- ==== Proof.Apply.lean ====
/-
  The additions of a chunk: every listed row's gathered row added onto its target row, entry by entry, and what a
  chunk's rows hold in the end.
-/
module

public import proofs.«01_k».proof.Proof.Move
public import Idealize.ShloMosaic.Lib.LoopRemainder

@[expose] public section

noncomputable section

namespace Cert.Proof.Apply

open Cert.KernelIdeal Cert.Proof.Chunk Cert.Proof.Lists Cert.Proof.Kit Cert.Proof.Fill Cert.Proof.Gather Cert.Proof.Start Cert.Proof.Move
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

/-! ## The numbers of the loops -/

theorem loop_trips : ∀ o : BitVec 32, o.toNat ≤ 64 → (k1_t2_loop o).trips = GN o.toNat ∧ (k1_t2_loop o).OK := by
  have h : ∀ n : Fin 65, (k1_t2_loop (BitVec.ofNat 32 n.val)).trips = GN n.val ∧ (k1_t2_loop (BitVec.ofNat 32 n.val)).OK := by decide
  intro o ho
  have := h ⟨o.toNat, by omega⟩
  rwa [show BitVec.ofNat 32 (⟨o.toNat, by omega⟩ : Fin 65).val = o from BitVec.ofNat_toNat 32 o |>.trans (BitVec.setWidth_eq o)] at this

theorem entry_toNat : ∀ (g : Fin 4) (l : Fin k1_t3_loop.trips), (entry (Scf.iv 0#32 1#32 g) l).toNat = 16 * g.val + l.val := by decide +kernel
theorem col_toNat : ∀ u : Fin k1_t4_loop.trips, (Scalar.indexCast (col u) : Index).toNat = 16 * u.val := by decide +kernel
theorem t3_trips : k1_t3_loop.trips = 16 := by decide +kernel
theorem t4_trips : k1_t4_loop.trips = 8 := by decide +kernel
theorem off64_eq (t : Fin k1_t1_loop.trips) (h : k1_cond7 t = 1#1) (w : BitVec 32) (hw : w.toNat < 72) (u : Fin k1_t4_loop.trips) :
    k1_off64 t w u = ![(slotOf (prev t) (prev_lt h)).p, w.toNat, 0, 16 * u.val] := by
  rw [← col_toNat]
  rfl
theorem off66_eq (t : Fin k1_t1_loop.trips) (h : k1_cond7 t = 1#1) (w : BitVec 32) (hw : w.toNat < 72) (u : Fin k1_t4_loop.trips) :
    k1_off66 t w u = ![(slotOf (prev t) (prev_lt h)).p, w.toNat, 1, 16 * u.val] := by
  rw [← col_toNat]
  rfl
theorem offCol_eq (p : ℕ) (e : BitVec 32) (he : e.toNat < 64) (h : ℕ) (u : Fin k1_t4_loop.trips) : offCol p e h u = ![p, e.toNat, h, 16 * u.val] := by
  unfold offCol
  rw [col_toNat]; rfl
theorem offEntry_eq (p : ℕ) (e : BitVec 32) (he : e.toNat < 64) : offEntry p e = ![p, e.toNat] := by
  rfl

theorem row16_inb {p w h u n : ℕ} (hp : p < 3) (hw : w < n) (hh : h < 2) (hu : u < 8) :
    ∀ a, (![p, w, h, 16 * u] : Fin 4 → ℕ) a + S1x1x1x16.size a ≤ (![3, n, 2, 128] : Fin 4 → ℕ) a := fun a => match a with
  | 0 => by show p + 1 ≤ 3; omega
  | 1 => by show w + 1 ≤ n; omega
  | 2 => by show h + 1 ≤ 2; omega
  | 3 => by show 16 * u + 16 ≤ 128; omega

theorem chk6 (t : Fin k1_t1_loop.trips) (w : BitVec 32) (hw : w.toNat < 72) : k1_chk6 t w := by
  refine ⟨fun u h => ?_, fun u h => ?_⟩
  · rw [off64_eq t h w hw]; exact row16_inb (slotOf (prev t) (prev_lt h)).hp hw (by decide) (lt_of_lt_of_eq u.isLt t4_trips)
  · rw [off66_eq t h w hw]; exact row16_inb (slotOf (prev t) (prev_lt h)).hp hw (by decide) (lt_of_lt_of_eq u.isLt t4_trips)

theorem entry_lt {o : BitVec 32} (ho : o.toNat ≤ 64) (g : Fin (k1_t2_loop o).trips) (l : Fin k1_t3_loop.trips) :
    (entry (Scf.iv (k1_t2_loop o).lb (k1_t2_loop o).st g) l).toNat = 16 * g.val + l.val ∧ 16 * g.val + l.val < 64 := by
  have h1 : g.val < GN o.toNat := lt_of_lt_of_eq g.isLt (loop_trips o ho).1
  have h2 : l.val < 16 := lt_of_lt_of_eq l.isLt t3_trips
  have h3 : GN o.toNat ≤ 4 := by unfold GN; omega
  exact ⟨entry_toNat ⟨g.val, by omega⟩ l, by omega⟩

theorem no_trip (o : BitVec 32) (k : Fin (k1_t5_loop o).trips) : False := Scf.rem_no_trip _ _ k

theorem chk5 (t : Fin k1_t1_loop.trips) (o : BitVec 32) (ho : o.toNat ≤ 64) : k1_chk5 t o := by
  refine ⟨fun _ => (loop_trips o ho).2, fun g l h => ?_, fun g l u h => ?_, fun g l u h => ?_, fun _ => Scf.rem_ok _ _,
    fun k => (no_trip o k).elim, fun k => (no_trip o k).elim, fun k => (no_trip o k).elim⟩
  · obtain ⟨e1, e2⟩ := entry_lt ho g l
    have e : k1_off63 t o g l = ![(slotOf (prev t) (prev_lt h)).p, 16 * g.val + l.val] := by rw [← e1, ← offEntry_eq _ _ (by omega)]; rfl
    rw [e]; exact dump_inb (slotOf (prev t) (prev_lt h)).hp e2.le
  · obtain ⟨e1, e2⟩ := entry_lt ho g l
    have e : k1_off65 t o g l u = ![(slotOf (prev t) (prev_lt h)).p, 16 * g.val + l.val, 0, 16 * u.val] := by rw [← e1, ← offCol_eq _ _ (by omega)]; rfl
    rw [e]; exact row16_inb (slotOf (prev t) (prev_lt h)).hp e2 (by decide) (lt_of_lt_of_eq u.isLt t4_trips)
  · obtain ⟨e1, e2⟩ := entry_lt ho g l
    have e : k1_off67 t o g l u = ![(slotOf (prev t) (prev_lt h)).p, 16 * g.val + l.val, 1, 16 * u.val] := by rw [← e1, ← offCol_eq _ _ (by omega)]; rfl
    rw [e]; exact row16_inb (slotOf (prev t) (prev_lt h)).hp e2 (by decide) (lt_of_lt_of_eq u.isLt t4_trips)

/-! ## The additions' values -/

/-- A slab with a row's part added: at row `w`, where `P` has the half and the column, the gathered row `n`. -/
def PART (P : ℕ → ℕ → Bool) (fb : S3x72x2x128.Idx → F .f32) (fr : S3x64x2x128.Idx → F .f32) (w : ℕ) (n : Fin 64) : S3x72x2x128.Idx → F .f32 := fun x =>
  if (x 1).val = w ∧ P (x 2).val (x 3).val = true then FloatOps.addf (fb x) (fr (ix4 (x 0) n (x 2) (x 3))) else fb x

/-- A slab after `n` entries of a list of targets. -/
def ADDS (fb : S3x72x2x128.Idx → F .f32) (fr : S3x64x2x128.Idx → F .f32) (dn : ℕ → BitVec 32) : ℕ → S3x72x2x128.Idx → F .f32
  | 0 => fb
  | n + 1 => PART (fun _ _ => true) (ADDS fb fr dn n) fr (dn n).toNat (rf n)

theorem ADDS_miss {fb : S3x72x2x128.Idx → F .f32} {fr : S3x64x2x128.Idx → F .f32} {dn : ℕ → BitVec 32} {x : S3x72x2x128.Idx} :
    ∀ n, (∀ n' < n, (dn n').toNat ≠ (x 1).val) → ADDS fb fr dn n x = fb x
  | 0, _ => rfl
  | n + 1, h => by
    show PART _ _ _ _ _ x = _
    unfold PART
    rw [if_neg fun e => h n (Nat.lt_succ_self n) e.1.symm]
    exact ADDS_miss n fun n' hn => h n' (Nat.lt_succ_of_lt hn)
theorem ADDS_hit {fb : S3x72x2x128.Idx → F .f32} {fr : S3x64x2x128.Idx → F .f32} {dn : ℕ → BitVec 32} {x : S3x72x2x128.Idx} {n₀ : ℕ} (h0 : (dn n₀).toNat = (x 1).val) :
    ∀ n, n₀ < n → (∀ n' < n, (dn n').toNat = (x 1).val → n' = n₀) → ADDS fb fr dn n x = FloatOps.addf (fb x) (fr (ix4 (x 0) (rf n₀) (x 2) (x 3)))
  | 0, h, _ => absurd h (Nat.not_lt_zero _)
  | n + 1, h, hu => by
    show PART _ _ _ _ _ x = _
    unfold PART
    by_cases hn : n₀ = n
    · subst hn
      rw [if_pos ⟨h0.symm, rfl⟩, ADDS_miss n₀ fun n' hn' e => absurd (hu n' (Nat.lt_succ_of_lt hn') e) (by omega)]
    · rw [if_neg fun e => hn (hu n (Nat.lt_succ_self n) e.1.symm).symm]
      exact ADDS_hit h0 n (by omega) fun n' hn' => hu n' (Nat.lt_succ_of_lt hn')

/-- What a chunk's row `j` holds in the end. -/
def FIN (i : grid1.Coords) (T : S16x1024x2x128.Idx → F .f32) (lv : ℕ → Prop) [DecidablePred lv] (po : ℕ → BitVec 32) (j : ℕ) (x₁ : Fin 1024) (x₂ : Fin 2) (x₃ : Fin 128) : F .f32 :=
  if lv j then FloatOps.addf (T (ix4 (i 1) x₁ x₂ x₃)) (T (ix4 (i 1) (rowAt (po j).toNat) x₂ x₃)) else T (ix4 (i 1) x₁ x₂ x₃)

theorem adds_fin (i : grid1.Coords) (T : S16x1024x2x128.Idx → F .f32) {lv : ℕ → Prop} [DecidablePred lv] {po : ℕ → BitVec 32} {o : ℕ} (s : Slot)
    {gd : S3x80.Idx → BitVec 32} {gs : S3x64.Idx → BitVec 32} (hL : Lists lv po 64 o (nth (dl s gd)) (nth (sl s gs)))
    (fb : S3x72x2x128.Idx → F .f32) (fr : S3x64x2x128.Idx → F .f32) {x : S3x72x2x128.Idx} (hx : (x 0).val = s.p) (hx1 : (x 1).val < 64) (x₁ : Fin 1024)
    (hfb : fb x = T (ix4 (i 1) x₁ (x 2) (x 3))) :
    ADDS fb (GOT i T gs fr o) (nth (dl s gd)) (16 * GN o) x = FIN i T lv po (x 1).val x₁ (x 2) (x 3) := by
  have hle := hL.le
  have hG : 16 * GN o ≤ 64 := by unfold GN; omega
  have hG' : o ≤ 16 * GN o := by unfold GN; omega
  unfold FIN
  by_cases hl : lv (x 1).val
  · obtain ⟨n₀, hn₀, e₀⟩ := hL.all _ hx1 hl
    rw [if_pos hl, ADDS_hit e₀ _ (by omega), hfb]
    · congr 1
      unfold GOT
      have hr : (rf n₀).val = n₀ := Nat.mod_eq_of_lt (by omega)
      refine (if_pos (show (rf n₀).val < 16 * GN o by omega)).trans ?_
      have hsrc := hL.src n₀ hn₀
      rw [e₀] at hsrc
      rw [← hsrc]
      have : nth (sl s gs) n₀ = gs (ix2 (x 0) (rf n₀)) := by
        unfold nth; rw [dif_pos (show n₀ < 64 by omega)]; unfold sl
        congr 1
        funext a
        match a with
        | 0 => exact Fin.ext hx.symm
        | 1 => exact Fin.ext hr.symm
      rw [this]
      rfl
    · intro n' hn' e
      by_cases hlt : n' < o
      · exact hL.inj n' hlt n₀ hn₀ (BitVec.eq_of_toNat_eq (e.trans e₀.symm))
      · rw [hL.rest n' (by omega) (by omega)] at e
        change 64 = _ at e
        omega
  · rw [if_neg hl, ADDS_miss, hfb]
    intro n' hn' e
    by_cases hlt : n' < o
    · exact hl (e ▸ (hL.tgt n' hlt).2)
    · rw [hL.rest n' (by omega) (by omega)] at e
      change 64 = _ at e
      omega

/-! ## Sixteen columns -/

variable (d : Dev nD) (i : grid1.Coords)

/-- A slot's rows of the slab, spare rows included. -/
def PS (p : ℕ) : Finset S3x72x2x128.Idx := Finset.univ.filter fun x => (x 0).val = p
theorem mem_PS {p : ℕ} {x : S3x72x2x128.Idx} : x ∈ PS p ↔ (x 0).val = p := by simp [PS]

theorem slab16_rect {p w h u : ℕ} {hb} {x : S3x72x2x128.Idx} :
    x ∈ (Rect.unit (s := S3x72x2x128) ![p, w, h, u] S1x1x1x16.size hb).set ↔ (x 0).val = p ∧ (x 1).val = w ∧ (x 2).val = h ∧ u ≤ (x 3).val ∧ (x 3).val < u + 16 := by
  rw [Rect.mem_set_unit, forall4]
  show ((p ≤ (x 0).val ∧ (x 0).val < p + 1) ∧ (w ≤ (x 1).val ∧ (x 1).val < w + 1) ∧ (h ≤ (x 2).val ∧ (x 2).val < h + 1) ∧ u ≤ (x 3).val ∧ (x 3).val < u + 16) ↔ _
  omega
theorem rows16_rect {p w h u : ℕ} {hb} {x : S3x64x2x128.Idx} :
    x ∈ (Rect.unit (s := S3x64x2x128) ![p, w, h, u] S1x1x1x16.size hb).set ↔ (x 0).val = p ∧ (x 1).val = w ∧ (x 2).val = h ∧ u ≤ (x 3).val ∧ (x 3).val < u + 16 := by
  rw [Rect.mem_set_unit, forall4]
  show ((p ≤ (x 0).val ∧ (x 0).val < p + 1) ∧ (w ≤ (x 1).val ∧ (x 1).val < w + 1) ∧ (h ≤ (x 2).val ∧ (x 2).val < h + 1) ∧ u ≤ (x 3).val ∧ (x 3).val < u + 16) ↔ _
  omega

abbrev SLB (s : Slot) (fb : S3x72x2x128.Idx → F .f32) : sProp 𝕄 := (thr d i).loc cc1_scratch2 ↦[PS s.p]{fullShare} fb
abbrev RWS (s : Slot) (fr : S3x64x2x128.Idx → F .f32) : sProp 𝕄 := (thr d i).loc cc1_scratch3 ↦[RS s.p]{fullShare} fr

theorem add16_val (s : Slot) (w : ℕ) (n : Fin 64) (h u : ℕ) (ho) (ho')
    (P P' : ℕ → ℕ → Bool) (h0 : ∀ b, 16 * u ≤ b → b < 16 * u + 16 → P h b = false)
    (h1 : ∀ a b, a < 2 → P' a b = (P a b || (decide (a = h) && decide (16 * u ≤ b) && decide (b < 16 * u + 16))))
    (fb : S3x72x2x128.Idx → F .f32) (fr : S3x64x2x128.Idx → F .f32) (x : S3x72x2x128.Idx) (hx : x ∈ PS s.p) :
    (slabB.access (Rect.unit (s := S3x72x2x128) ![s.p, w, h, 16 * u] S1x1x1x16.size ho)).write (Elt F) (PART P fb fr w n)
      (shapeCast S1x1x1x16 (addf
        (shapeCast S16 ((slabB.access (Rect.unit (s := S3x72x2x128) ![s.p, w, h, 16 * u] S1x1x1x16.size ho)).read (Elt F) (PART P fb fr w n)) shapeCasts_S1x1x1x16_S16)
        (shapeCast S16 ((rowsB.access (Rect.unit (s := S3x64x2x128) ![s.p, n.val, h, 16 * u] S1x1x1x16.size ho')).read (Elt F) fr) shapeCasts_S1x1x1x16_S16)) shapeCasts_S16_S1x1x1x16)
      Finset.univ x = PART P' fb fr w n x := by
  have hx0 := mem_PS.1 hx
  have hx2 : (x 2).val < 2 := (x 2).isLt
  have e1 := h1 (x 2).val (x 3).val hx2
  by_cases hm : x ∈ (Rect.unit (s := S3x72x2x128) ![s.p, w, h, 16 * u] S1x1x1x16.size ho).set
  · have hm' := slab16_rect.1 hm
    rw [← Rect.map_emb_univ] at hm
    obtain ⟨y, -, hy⟩ := Finset.mem_map.1 hm
    have hv := wr_in (F := F) (b := cc1_scratch2) (Rect.unit (s := S3x72x2x128) ![s.p, w, h, 16 * u] S1x1x1x16.size ho) (PART P fb fr w n)
      (shapeCast S1x1x1x16 (addf
        (shapeCast S16 ((slabB.access (Rect.unit (s := S3x72x2x128) ![s.p, w, h, 16 * u] S1x1x1x16.size ho)).read (Elt F) (PART P fb fr w n)) shapeCasts_S1x1x1x16_S16)
        (shapeCast S16 ((rowsB.access (Rect.unit (s := S3x64x2x128) ![s.p, n.val, h, 16 * u] S1x1x1x16.size ho')).read (Elt F) fr) shapeCasts_S1x1x1x16_S16)) shapeCasts_S16_S1x1x1x16) y
    refine Eq.trans (congrArg _ hy.symm) (hv.trans ?_)
    have ey : Shape.reshapeEquiv shapeCasts_S1x1x1x16_S16 (Shape.reshapeEquiv shapeCasts_S16_S1x1x1x16 y) = y := by
      rw [Shape.reshapeEquiv_reshapeEquiv]; exact Shape.reshapeEquiv_self _ _
    have ez : (Rect.unit (s := S3x64x2x128) ![s.p, n.val, h, 16 * u] S1x1x1x16.size ho').emb y = (ix4 (x 0) n (x 2) (x 3) : S3x64x2x128.Idx) := by
      rw [← hy]
      have y1 : (y 1).val = 0 := Nat.lt_one_iff.1 (y 1).isLt
      funext a
      apply Fin.ext
      rw [Rect.emb_apply]
      match a with
      | 0 => rfl
      | 1 => show n.val + 1 * (y 1).val = n.val; omega
      | 2 => rfl
      | 3 => rfl
    show FloatOps.addf (PART P fb fr w n ((Rect.unit (s := S3x72x2x128) ![s.p, w, h, 16 * u] S1x1x1x16.size ho).emb (Shape.reshapeEquiv _ (Shape.reshapeEquiv _ y))))
      (fr ((Rect.unit (s := S3x64x2x128) ![s.p, n.val, h, 16 * u] S1x1x1x16.size ho').emb (Shape.reshapeEquiv _ (Shape.reshapeEquiv _ y)))) = _
    rw [ey, ez, show (Rect.unit (s := S3x72x2x128) ![s.p, w, h, 16 * u] S1x1x1x16.size ho).emb y = x from hy]
    unfold PART
    rw [if_neg (show ¬ ((x 1).val = w ∧ P (x 2).val (x 3).val = true) from fun e => by
      have := h0 (x 3).val hm'.2.2.2.1 hm'.2.2.2.2
      rw [← hm'.2.2.1, e.2] at this; exact Bool.noConfusion this), if_pos ⟨hm'.2.1, by
        rw [e1]; simp [hm'.2.2.1, hm'.2.2.2.1, hm'.2.2.2.2]⟩]
  · refine (wr_out (F := F) (b := cc1_scratch2) _ _ _ hm).trans ?_
    unfold PART
    refine if_congr (and_congr_right fun hw => ?_) rfl rfl
    rw [e1]
    have : ¬ ((x 2).val = h ∧ 16 * u ≤ (x 3).val ∧ (x 3).val < 16 * u + 16) := fun e => hm (slab16_rect.2 ⟨hx0, hw, e⟩)
    simp only [Bool.or_eq_true, Bool.and_eq_true, decide_eq_true_eq]
    tauto

theorem wp_add16 (s : Slot) (w : ℕ) (n : Fin 64) (h u : ℕ) (o o' : Fin 4 → ℕ) (ho) (ho') (eo : o = ![s.p, w, h, 16 * u]) (eo' : o' = ![s.p, n.val, h, 16 * u])
    (P P' : ℕ → ℕ → Bool) (h0 : ∀ b, 16 * u ≤ b → b < 16 * u + 16 → P h b = false)
    (h1 : ∀ a b, a < 2 → P' a b = (P a b || (decide (a = h) && decide (16 * u ≤ b) && decide (b < 16 * u + 16))))
    (fb : S3x72x2x128.Idx → F .f32) (fr : S3x64x2x128.Idx → F .f32) :
    iprop(SLB d i s (PART P fb fr w n) ∗ RWS d i s fr) ⊢ tw d i (add16 i o o' ho ho') (fun _ => iprop(SLB d i s (PART P' fb fr w n) ∗ RWS d i s fr)) := by
  subst eo eo'
  have hs1 : (slabB.access (Rect.unit (s := S3x72x2x128) ![s.p, w, h, 16 * u] S1x1x1x16.size ho)).set ⊆ PS s.p := fun x hx => by
    rw [View.set_slice_whole] at hx
    exact mem_PS.2 (slab16_rect.1 hx).1
  have hs2 : (rowsB.access (Rect.unit (s := S3x64x2x128) ![s.p, n.val, h, 16 * u] S1x1x1x16.size ho')).set ⊆ RS s.p := fun x hx => by
    rw [View.set_slice_whole] at hx
    exact mem_RS.2 (rows16_rect.1 hx).1
  unfold add16
  iintro ⟨HS, HR⟩
  iapply (tw_load d i hs1) $$ HS
  iintro HS
  iapply (tw_load d i hs2) $$ HR
  iintro HR
  iapply (tw_load d i hs1) $$ HS
  iintro HS
  iapply (tw_store d i (k := pure) hs1) $$ HS
  iintro HS
  iapply (tw_pure d i)
  isplitr [HR]
  swap; · iexact HR
  have e := pointsTo_congr (Val := Elt F) (Ix := HIx 1) (Name := ℕ) (U := UU) (Lvl := ℕ) (ℓ := (thr d i).loc cc1_scratch2) (q := fullShare)
    (fun x hx => add16_val (F := F) s w n h u ho ho' P P' h0 h1 fb fr x hx)
  rw [show SLB d i s (PART P' fb fr w n) = _ from e.symm]
  iexact HS

/-! ## One entry, and all of them -/

theorem wp_cols (t : Fin k1_t1_loop.trips) (h : k1_cond7 t = 1#1) (s : Slot) (es : s = slotOf (prev t) (prev_lt h)) (e : BitVec 32) (he : e.toNat < 64)
    (w : BitVec 32) (hw : w.toNat < 72) (hc : k1_chk6 t w)
    (h2 : ∀ (t : Fin k1_t4_loop.trips) a, offCol s.p e 0 t a + S1x1x1x16.size a ≤ S3x64x2x128.size a)
    (h3 : ∀ (t : Fin k1_t4_loop.trips) a, offCol s.p e 1 t a + S1x1x1x16.size a ≤ S3x64x2x128.size a) (fb : S3x72x2x128.Idx → F .f32) (fr : S3x64x2x128.Idx → F .f32) :
    iprop(SLB d i s fb ∗ RWS d i s fr)
      ⊢ tw d i (Scf.Loop.for k1_t4_loop (k1_t4_ok t h) (⟨⟩ : PUnit.{1}) fun u _ => do
          add16 i (k1_off64 t w u) (offCol s.p e 0 u) (hc.1 u h) (h2 u)
          add16 i (k1_off66 t w u) (offCol s.p e 1 u) (hc.2 u h) (h3 u)
          pure ⟨⟩) (fun _ => iprop(SLB d i s (PART (fun _ _ => true) fb fr w.toNat (rf e.toNat)) ∗ RWS d i s fr)) := by
  iintro ⟨HS, HR⟩
  have hrf : (rf e.toNat).val = e.toNat := Nat.mod_eq_of_lt he
  iapply (Scf.wp_for frame _ _ k1_t4_loop.lb k1_t4_loop.ub k1_t4_loop.st (k1_t4_ok t h) _ _
    (fun u _ => iprop(SLB (F := F) d i s (PART (fun _ b => decide (b < 16 * u)) fb fr w.toNat (rf e.toNat)) ∗ RWS d i s fr)) (fun u _ => ?_))
  · have hu : u.val < 8 := lt_of_lt_of_eq u.isLt t4_trips
    iintro H
    iapply (tw_seq d i (wp_add16 d i s w.toNat (rf e.toNat) 0 u.val _ _ _ _ ((off64_eq t h w hw u).trans (by rw [es])) ((offCol_eq s.p e he 0 u).trans (by rw [hrf]))
      (fun _ b => decide (b < 16 * u.val)) (fun a b => decide (b < 16 * u.val) || (decide (a = 0) && decide (16 * u.val ≤ b) && decide (b < 16 * u.val + 16)))
      (fun b h _ => by simp; omega) (fun a b _ => rfl) fb fr)) $$ H
    iintro %_ H
    iapply (tw_seq d i (wp_add16 d i s w.toNat (rf e.toNat) 1 u.val _ _ _ _ ((off66_eq t h w hw u).trans (by rw [es])) ((offCol_eq s.p e he 1 u).trans (by rw [hrf]))
      (fun a b => decide (b < 16 * u.val) || (decide (a = 0) && decide (16 * u.val ≤ b) && decide (b < 16 * u.val + 16))) (fun _ b => decide (b < 16 * (u.val + 1)))
      (fun b h _ => by simp; omega) (fun a b ha => by rw [Bool.eq_iff_iff]; simp; omega) fb fr)) $$ H
    iintro %_ H
    iapply (tw_pure d i)
    iexact H
  isplitl [HS HR]
  · isplitl [HS]
    · have e0 : PART (fun _ b => decide (b < 16 * 0)) fb fr w.toNat (rf e.toNat) = fb := funext fun x => if_neg (by simp)
      rw [e0]; iexact HS
    · iexact HR
  iintro %_ ⟨HS, HR⟩
  isplitr [HR]
  swap; · iexact HR
  have e1 : PART (fun _ b => decide (b < 16 * k1_t4_loop.trips)) fb fr w.toNat (rf e.toNat) = PART (fun _ _ => true) fb fr w.toNat (rf e.toNat) := funext fun x => by
    have h3 : (x 3).val < 128 := (x 3).isLt
    unfold PART
    rw [t4_trips]
    simp [h3]
  rw [← e1]
  iexact HS

theorem wp_addRow (t : Fin k1_t1_loop.trips) (h : k1_cond7 t = 1#1) (s : Slot) (es : s = slotOf (prev t) (prev_lt h)) (e : BitVec 32) (he : e.toNat < 64) (h1) (h2) (h3)
    (gd : S3x80.Idx → BitVec 32) (hw : (nth (dl s gd) e.toNat).toNat < 72) (fb : S3x72x2x128.Idx → F .f32) (fr : S3x64x2x128.Idx → F .f32) :
    iprop(DL d i s gd ∗ SLB d i s fb ∗ RWS d i s fr)
      ⊢ tw d i (addRow i t h s.p e h1 h2 h3) (fun _ => iprop(DL d i s gd ∗ SLB d i s (PART (fun _ _ => true) fb fr (nth (dl s gd) e.toNat).toNat (rf e.toNat)) ∗ RWS d i s fr)) := by
  have hsub : (dstB.access (Rect.unit (s := S3x80) (offEntry s.p e) S1x16.size h1)).set ⊆ DS s.p := fun x hx => by
    rw [View.set_slice_whole] at hx
    exact mem_DS.2 (dst_rect (p := s.p) (k := e.toNat) (n := 16) (h := dump_inb s.hp he.le) |>.1 hx).1
  have ht : target (F := F) ((dstB.access (Rect.unit (s := S3x80) (offEntry s.p e) S1x16.size h1)).read (Elt F) gd) = nth (dl s gd) e.toNat := by
    unfold nth
    rw [dif_pos (show e.toNat < 80 by omega)]
    show gd ((Rect.unit (s := S3x80) (offEntry s.p e) S1x16.size h1).emb (Shape.reshapeEquiv (s' := S16) _ _)) = gd _
    rw [Shape.reshapeEquiv_cons_one (n := 1) (d := ![16])]
    congr 1
    funext a
    match a with
    | 0 => exact Fin.ext (Nat.add_zero _)
    | 1 => exact Fin.ext (Nat.add_zero _)
  unfold addRow
  iintro ⟨HD, HS, HR⟩
  iapply (tw_load d i hsub) $$ HD
  iintro HD
  rw [← ht] at hw ⊢
  clear ht
  iapply (tw_assume d i (chk6 t _ hw))
  iapply (tw_seq d i (wp_cols d i t h s es e he (target ((dstB.access (Rect.unit (s := S3x80) (offEntry s.p e) S1x16.size h1)).read (Elt F) gd)) hw (chk6 t _ hw) h2 h3 fb fr)) $$ [HS HR]
  · isplitl [HS] <;> iassumption
  iintro %_ ⟨HS, HR⟩
  iapply (tw_pure d i)
  isplitl [HD]; · iexact HD
  isplitl [HS] <;> iassumption

theorem wp_addRows (t : Fin k1_t1_loop.trips) (h : k1_cond7 t = 1#1) (s : Slot) (es : s = slotOf (prev t) (prev_lt h)) (o : BitVec 32) (ho : o.toNat ≤ 64) (ok) (h1) (h2) (h3)
    (gd : S3x80.Idx → BitVec 32) (hw : ∀ n < 64, (nth (dl s gd) n).toNat < 72) (fb : S3x72x2x128.Idx → F .f32) (fr : S3x64x2x128.Idx → F .f32) :
    iprop(DL d i s gd ∗ SLB d i s fb ∗ RWS d i s fr)
      ⊢ tw d i (addRows i t h s.p (k1_t2_loop o) ok h1 h2 h3) (fun _ => iprop(DL d i s gd ∗ SLB d i s (ADDS fb fr (nth (dl s gd)) (16 * GN o.toNat)) ∗ RWS d i s fr)) := by
  unfold addRows
  iintro ⟨HD, HS, HR⟩
  iapply (Scf.wp_for frame _ _ (k1_t2_loop o).lb (k1_t2_loop o).ub (k1_t2_loop o).st ok _ _
    (fun g _ => iprop(DL d i s gd ∗ SLB (F := F) d i s (ADDS fb fr (nth (dl s gd)) (16 * g)) ∗ RWS d i s fr)) (fun g _ => ?_))
  · iintro H
    iapply (Scf.wp_for_bind frame _ _ k1_t3_loop.lb k1_t3_loop.ub k1_t3_loop.st (k1_t3_ok t h) _ _
      (fun l _ => iprop(DL d i s gd ∗ SLB (F := F) d i s (ADDS fb fr (nth (dl s gd)) (16 * g.val + l)) ∗ RWS d i s fr)) (fun l _ => ?_)) $$ [H]
    · obtain ⟨e1, e2⟩ := entry_lt ho g l
      have hR := wp_addRow d i t h s es (entry (Scf.iv (k1_t2_loop o).lb (k1_t2_loop o).st g) l) (by omega) (h1 g l) (h2 g l) (h3 g l) gd (hw _ (by omega))
        (ADDS fb fr (nth (dl s gd)) (16 * g.val + l.val)) fr
      rw [e1] at hR
      exact hR
    · iexact H
    iintro %_ H
    iapply (tw_pure d i)
    iexact H
  · isplitl [HD HS HR]
    · isplitl [HD]; · iexact HD
      isplitl [HS]; · iexact HS
      iexact HR
    iintro %_ H
    rw [← (loop_trips o ho).1]
    iexact H

theorem wp_addRest (t : Fin k1_t1_loop.trips) (h : k1_cond7 t = 1#1) (p : ℕ) (o : BitVec 32) (ok) (h1) (h2) (h3) {P : sProp 𝕄} :
    P ⊢ tw d i (addRows i t h p (k1_t5_loop o) ok h1 h2 h3) (fun _ => P) := by
  unfold addRows
  iintro H
  iapply (Scf.wp_for frame _ _ (k1_t5_loop o).lb (k1_t5_loop o).ub (k1_t5_loop o).st ok _ _ (fun _ _ => P) (fun g _ => (no_trip o g).elim))
  isplitl [H]; · iexact H
  iintro %_ H
  iexact H

end Cert.Proof.Apply
-- ==== Proof.Stage.lean ====
/-
  A chunk's two halves as stages: it is started on a free slot of buffers, and finished into a write-back in flight.
-/
module

public import proofs.«01_k».proof.Proof.Apply

@[expose] public section

noncomputable section

namespace Cert.Proof.Stage

open Cert.KernelIdeal Cert.Proof.Chunk Cert.Proof.Lists Cert.Proof.Kit Cert.Proof.Fill Cert.Proof.Gather Cert.Proof.Start Cert.Proof.Move Cert.Proof.Apply
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords)

/-- A program with resources it does not touch set aside. -/
theorem tw_frame {α : Type} {p : Tile F i α} {P : sProp 𝕄} {R : α → sProp 𝕄} (h : P ⊢ tw d i p R) (X : sProp 𝕄) :
    iprop(X ∗ P) ⊢ tw d i p (fun a => iprop(X ∗ R a)) := by
  iintro ⟨HX, HP⟩
  ihave H := h $$ HP
  iapply (wp_wand frame _ _) $$ H
  iintro %a HR
  isplitl [HX] <;> iassumption

variable (T VO : S16x1024x2x128.Idx → F .f32) (SC : S1024.Idx → F .f32) (PO : S1024.Idx → BitVec 32)
variable (O : CellTallies nD τ sig (HIx 1)) (W : Waits sig (HIx 1))

/-- What the kernel writes: a cell of scale other than zero gets its indexed row added. -/
def OUT : S16x1024x2x128.Idx → F .f32 := fun x =>
  if liveN SC (x 1).val then FloatOps.addf (T x) (T (ix4 (x 0) (rowAt (poN PO (x 1).val).toNat) (x 2) (x 3))) else T x

/-- Where a chunk's rows begin. -/
def fof (i : grid1.Coords) (c : ℕ) : ℕ := 512 * (i 0).val + 64 * c

/-- The table's batch, and a chunk's rows of the output. -/
abbrev TAB (q : PosShare TreeShare) : sProp 𝕄 := (thr d i).loc main_v1_scv ↦[BS (i 1).val]{q} T
abbrev TBR (q : PosShare TreeShare) (f : ℕ) : sProp 𝕄 := (thr d i).loc main_v1_scv ↦[BS (i 1).val \ CS (i 1).val f]{q} T
abbrev VOC (f : ℕ) (v : S16x1024x2x128.Idx → F .f32) : sProp 𝕄 := (thr d i).loc main_v3_scv ↦[CS (i 1).val f]{fullShare} v
abbrev SLD (s : Slot) (fb : S3x72x2x128.Idx → F .f32) : sProp 𝕄 := (thr d i).loc cc1_scratch2 ↦[LD s.p]{fullShare} fb

theorem tab_split (q : PosShare TreeShare) (f : ℕ) : TAB d i T q ⊣⊢ iprop(((thr d i).loc main_v1_scv ↦[CS (i 1).val f]{q} T) ∗ TBR d i T q f) :=
  pointsTo_split_subset fun x hx => mem_BS.2 (mem_CS.1 hx).1

theorem slab_split (s : Slot) (fb : S3x72x2x128.Idx → F .f32) : SLB d i s fb ⊢ iprop(((thr d i).loc cc1_scratch2 ↦[LS s.p]{fullShare} fb) ∗ SLD d i s fb) := by
  have e : PS s.p = LS s.p ∪ LD s.p := by
    ext x; rw [Finset.mem_union, mem_PS, mem_LS, mem_LD]; omega
  unfold SLB
  rw [e]
  exact (pointsTo_union (Finset.disjoint_left.2 fun x h h' => by have := (mem_LS.1 h).2; have := (mem_LD.1 h').2; omega)).1
theorem slab_join (s : Slot) (fb fb' : S3x72x2x128.Idx → F .f32) :
    iprop(((thr d i).loc cc1_scratch2 ↦[LS s.p]{fullShare} fb) ∗ SLD d i s fb') ⊢ SLB d i s (fun x => if (x 1).val < 64 then fb x else fb' x) := by
  have e : PS s.p = LS s.p ∪ LD s.p := by
    ext x; rw [Finset.mem_union, mem_PS, mem_LS, mem_LD]; omega
  unfold SLB
  rw [e]
  refine (pointsTo_join (Finset.disjoint_left.2 fun x h h' => by have := (mem_LS.1 h).2; have := (mem_LD.1 h').2; omega)).trans (Entails.of_eq ?_)
  refine pointsTo_congr fun x hx => ?_
  rw [Finset.mem_union] at hx
  by_cases h : (x 1).val < 64
  · rw [if_pos h, Finset.piecewise_eq_of_notMem _ _ _ fun h' => absurd (mem_LD.1 h').2 (by omega)]
  · rw [if_neg h, Finset.piecewise_eq_of_mem _ _ _ (hx.resolve_left fun h' => h (mem_LS.1 h').2)]

/-- A slot no chunk is on. -/
def FREE (s : Slot) : sProp 𝕄 :=
  iprop(∃ (fb : S3x72x2x128.Idx → F .f32) (fr : S3x64x2x128.Idx → F .f32) (gd : S3x80.Idx → BitVec 32) (gs : S3x64.Idx → BitVec 32),
    SLB d i s fb ∗ RWS d i s fr ∗ DL d i s gd ∗ SL d i s gs ∗ semVal (thr d i, .dma s.sIn.sem) 0 ∗ semVal (thr d i, .dma s.sG.sem) 0 ∗ semVal (thr d i, .dma s.sOut.sem) 0)
/-- A chunk started: its fetch and its gathers in flight. -/
def GATH (s : Slot) (f : ℕ) (qa qb : PosShare TreeShare) (o : BitVec 32) : sProp 𝕄 :=
  iprop(∃ (fb : S3x72x2x128.Idx → F .f32) (fr : S3x64x2x128.Idx → F .f32) (gd : S3x80.Idx → BitVec 32) (gs : S3x64.Idx → BitVec 32),
    ⌜Lists (lvC SC f) (poC PO f) 64 o.toNat (nth (dl s gd)) (nth (sl s gs))⌝
      ∗ FL d i T s f qa (FET i T f) ∗ TBR d i T qa f ∗ GS d i T s qb gs fr o.toNat 4 ∗ DL d i s gd ∗ SLD d i s fb ∗ semVal (thr d i, .dma s.sOut.sem) 0 ∗ VOC d i f VO)
/-- A chunk finished: its write-back in flight. -/
def WRIT (s : Slot) (f : ℕ) (qa qb : PosShare TreeShare) : sProp 𝕄 :=
  iprop(∃ (fb fb' : S3x72x2x128.Idx → F .f32) (fr : S3x64x2x128.Idx → F .f32) (gd : S3x80.Idx → BitVec 32) (gs : S3x64.Idx → BitVec 32),
    FW d i s f fb (OUT T SC PO) ∗ SLD d i s fb' ∗ TAB d i T qa ∗ TAB d i T qb ∗ RWS d i s fr ∗ DL d i s gd ∗ SL d i s gs
      ∗ semVal (thr d i, .dma s.sIn.sem) 0 ∗ semVal (thr d i, .dma s.sG.sem) 0)

theorem wp_free (s : Slot) (ci : BitVec 32) (hc : ci.toNat < 8) (f : ℕ) (qa qb : PosShare TreeShare) :
    iprop(WRIT d i T SC PO s f qa qb ∗ MW (F := F) d i O ∗ OWE (F := F) d i O W)
      ⊢ tw d i (drain i s ci hc) (fun _ => iprop((FREE d i s ∗ OWE (F := F) d i O W) ∗ TAB d i T qa ∗ TAB d i T qb ∗ VOC d i f (OUT T SC PO))) := by
  unfold WRIT FREE
  iintro ⟨⟨%fb, %fb', %fr, %gd, %gs, HF, HL, Ha, Hb, HR, HD, HS, Hi, Hg⟩, #Hmw, HO⟩
  have hb : drain (F := F) i s ci hc = drain i s ci hc >>= pure := (bind_pure _).symm
  rw [hb]
  iapply (tw_seq d i (wp_drain d i O W s ci hc fb (OUT T SC PO) (f := f))) $$ [HF HO]
  · isplitl [HF]; · iexact HF
    isplitr; · iexact Hmw
    iexact HO
  iintro %_ ⟨⟨HV, HS2⟩, Ho, HO⟩
  iapply (tw_pure d i)
  isplitr [Ha Hb HV]
  swap
  · isplitl [Ha]; · iexact Ha
    isplitl [Hb] <;> iassumption
  isplitr [HO]
  swap; · iexact HO
  iexists _, fr, gd, gs
  isplitl [HL HS2]
  · iapply (slab_join d i s fb fb')
    isplitl [HS2] <;> iassumption
  isplitl [HR]; · iexact HR
  isplitl [HD]; · iexact HD
  isplitl [HS]; · iexact HS
  isplitl [Hi]; · iexact Hi
  isplitl [Hg] <;> iassumption

/-- A slot with a chunk's fetch issued and the first part of its lists cleared. -/
def HEAD (s : Slot) (f : ℕ) (qa : PosShare TreeShare) : sProp 𝕄 :=
  iprop(∃ (fb : S3x72x2x128.Idx → F .f32) (fr : S3x64x2x128.Idx → F .f32) (gd : S3x80.Idx → BitVec 32) (gs : S3x64.Idx → BitVec 32),
    ⌜∀ n < 48, nth (dl s gd) n = 64#32⌝ ∗ (DL d i s gd ∗ SL d i s gs) ∗ FL d i T s f qa (FET i T f) ∗ TBR d i T qa f ∗ RWS d i s fr ∗ SLD d i s fb
      ∗ semVal (thr d i, .dma s.sG.sem) 0 ∗ semVal (thr d i, .dma s.sOut.sem) 0)

theorem wp_head (t : Fin k1_t1_loop.trips) (h : k1_cond1 t = 1#1) (s : Slot) (es : s = slotOf (now t) (now_lt h)) (qa : PosShare TreeShare) {P X : sProp 𝕄}
    (h1 : ∀ h2 : k1_cond2 t = 1#1, P ⊢ tw d i (drain i (slotOf (old t) (old_lt h2)) (old t) (old_lt h2)) (fun _ => iprop(FREE d i s ∗ X)))
    (h2 : ¬ k1_cond2 t = 1#1 → P ⊢ iprop(FREE d i s ∗ X)) :
    iprop(P ∗ TAB d i T qa) ⊢ tw d i (head i t h) (fun p => iprop(⌜p.2.2 = broadcast S16 64#32⌝ ∗ HEAD d i T s (fof i t.val) qa ∗ X)) := by
  subst es
  have rest : iprop((FREE d i (slotOf (now t) (now_lt h)) ∗ X) ∗ TAB d i T qa) ⊢ tw d i (do
      copyIn (F := F) i (slotOf (now t) (now_lt h)) (now t) (now_lt h)
      fillD i (slotOf (now t) (now_lt h)) 0 (by decide) (broadcast S16 64#32)
      fillD i (slotOf (now t) (now_lt h)) 16 (by decide) (broadcast S16 64#32)
      fillD i (slotOf (now t) (now_lt h)) 32 (by decide) (broadcast S16 64#32)
      pure (⟨Scalar.remsi (now t) 3#32, Scalar.addi (base i) (Scalar.muli (now t) 64#32), broadcast S16 64#32⟩ : Σ' (_ : BitVec 32) (_ : BitVec 32), IVec S16 32))
      (fun p => iprop(⌜p.2.2 = broadcast S16 64#32⌝ ∗ HEAD d i T (slotOf (now t) (now_lt h)) (fof i t.val) qa ∗ X)) := by
    unfold FREE HEAD
    generalize slotOf (now t) (now_lt h) = s
    iintro ⟨⟨⟨%fb, %fr, %gd, %gs, HB, HR, HD, HS, Hi, Hg, Ho⟩, HX⟩, HT⟩
    ihave HB := (slab_split d i s fb) $$ HB
    icases HB with ⟨HB, HL⟩
    ihave HT := (tab_split d i T qa (fof i t.val)).1 $$ HT
    icases HT with ⟨HT, HTr⟩
    iapply (tw_seq d i (wp_copyIn d i T s (now t) (now_lt h) qa fb (f := fof i t.val) (by rw [now_eq]; rfl))) $$ [HT HB Hi]
    · isplitl [HT]; · iexact HT
      isplitl [HB] <;> iassumption
    iintro %_ HF
    iapply (tw_seq d i (wp_fillD d i s 0 _ 64#32 gd)) $$ HD
    iintro %_ ⟨%g1, %e1, HD⟩
    iapply (tw_seq d i (wp_fillD d i s 16 _ 64#32 g1)) $$ HD
    iintro %_ ⟨%g2, %e2, HD⟩
    iapply (tw_seq d i (wp_fillD d i s 32 _ 64#32 g2)) $$ HD
    iintro %_ ⟨%g3, %e3, HD⟩
    iapply (tw_pure d i)
    isplitr; · ipureintro; rfl
    isplitr [HX]
    swap; · iexact HX
    iexists fb, fr, g3, gs
    isplitr
    · ipureintro
      intro n hn
      rw [e3, e2, e1]
      split_ifs <;> first | rfl | omega
    isplitl [HD HS]
    · isplitl [HD] <;> iassumption
    isplitl [HF]; · iexact HF
    isplitl [HTr]; · iexact HTr
    isplitl [HR]; · iexact HR
    isplitl [HL]; · iexact HL
    isplitl [Hg] <;> iassumption
  unfold head
  by_cases hc : k1_cond2 t = 1#1
  · rw [dif_pos hc]
    iintro ⟨HP, HT⟩
    iapply (tw_seq d i (h1 hc)) $$ HP
    iintro %_ HP
    iapply rest
    isplitl [HP] <;> iassumption
  · rw [dif_neg hc]
    iintro ⟨HP, HT⟩
    ihave HP := (h2 hc) $$ HP
    iapply rest
    isplitl [HP] <;> iassumption

theorem wp_lists (t : Fin k1_t1_loop.trips) (h : k1_cond1 t = 1#1) (s : Slot) (es : s = slotOf (now t) (now_lt h)) (gd : S3x80.Idx → BitVec 32) (gs : S3x64.Idx → BitVec 32)
    (hd : ∀ n < 48, nth (dl s gd) n = 64#32) :
    iprop((DL d i s gd ∗ SL d i s gs) ∗ SCB d i SC ∗ POB (F := F) d i PO)
      ⊢ tw d i (lists i t h (broadcast S16 64#32)) (fun n => iprop(∃ gd' gs', ⌜Lists (lvC SC (fof i t.val)) (poC PO (fof i t.val)) 64 n.toNat (nth (dl s gd')) (nth (sl s gs'))⌝
          ∗ SCB d i SC ∗ POB (F := F) d i PO ∗ DL d i s gd' ∗ SL d i s gs')) := by
  subst es
  unfold lists
  have hf : fof i t.val = 512 * (i 0).val + 64 * (now t).toNat := by rw [now_eq]; rfl
  generalize slotOf (now t) (now_lt h) = s at hd ⊢
  iintro ⟨⟨HD, HS⟩, HC, HP⟩
  iapply (tw_seq d i (wp_fillD d i s 48 _ 64#32 gd)) $$ HD
  iintro %_ ⟨%g1, %e1, HD⟩
  iapply (tw_seq d i (wp_fillD d i s 64 _ 64#32 g1)) $$ HD
  iintro %_ ⟨%g2, %e2, HD⟩
  iapply (tw_seq d i (wp_fillS d i s 0 _ 0#32 gs)) $$ HS
  iintro %_ ⟨%s1, %c1, HS⟩
  iapply (tw_seq d i (wp_fillS d i s 16 _ 0#32 s1)) $$ HS
  iintro %_ ⟨%s2, %c2, HS⟩
  iapply (tw_seq d i (wp_fillS d i s 32 _ 0#32 s2)) $$ HS
  iintro %_ ⟨%s3, %c3, HS⟩
  iapply (tw_seq d i (wp_fillS d i s 48 _ 0#32 s3)) $$ HS
  iintro %_ ⟨%s4, %c4, HS⟩
  have hL : Lists (lvC SC (fof i t.val)) (poC PO (fof i t.val)) 0 (0#32).toNat (nth (dl s g2)) (nth (sl s s4)) :=
    { le := Nat.le_refl 0
      tgt := fun n hn => absurd hn (Nat.not_lt_zero n)
      inj := fun n hn => absurd hn (Nat.not_lt_zero n)
      all := fun n hn => absurd hn (Nat.not_lt_zero n)
      rest := fun n _ hn => by
        rw [e2, e1]
        split_ifs <;> first | rfl | exact hd n (by omega)
      src := fun n hn => absurd hn (Nat.not_lt_zero n)
      zero := fun n _ hn => by
        rw [c4, c3, c2, c1]
        split_ifs <;> first | rfl | omega }
  iapply (tw_seq d i (wp_list16 d i t h s (now t) (now_lt h) 0 _ 0#32 SC PO hf g2 s4 hL)) $$ [HC HP HD HS]
  · isplitl [HC]; · iexact HC
    isplitl [HP]; · iexact HP
    isplitl [HD] <;> iassumption
  iintro %n0 ⟨%a0, %b0, %hL0, H⟩
  iapply (tw_seq d i (wp_list16 d i t h s (now t) (now_lt h) 16 _ n0 SC PO hf a0 b0 hL0)) $$ H
  iintro %n1 ⟨%a1, %b1, %hL1, H⟩
  iapply (tw_seq d i (wp_list16 d i t h s (now t) (now_lt h) 32 _ n1 SC PO hf a1 b1 hL1)) $$ H
  iintro %n2 ⟨%a2, %b2, %hL2, H⟩
  iapply (wp_list16 d i t h s (now t) (now_lt h) 48 _ n2 SC PO hf a2 b2 hL2) $$ H

/-- A guarded gather, and what follows it. -/
theorem gather_if {α : Type} (s : Slot) (q : PosShare TreeShare) (gs : S3x64.Idx → BitVec 32) (fr : S3x64x2x128.Idx → F .f32) {o : BitVec 32} (ho : o.toNat ≤ 64)
    (hsrc : ∀ t : Fin 64, (gs (ix2 ⟨s.p, s.hp⟩ t)).toNat < 1024) (a b : ℕ) (ha : a < 4) (hb : b = a + 1) (k : ℕ) (ek : k = 16 * a) (hk : k ≤ 48) {X : sProp 𝕄} {K : Tile F i α} {Q : α → sProp 𝕄}
    (hK : iprop(X ∗ GS d i T s q gs fr o.toNat b) ⊢ tw d i K Q) :
    iprop(X ∗ GS d i T s q gs fr o.toNat a) ⊢ tw d i (if past o k = 1#1 then gather16 i s k hk >>= fun _ : PUnit.{1} => K else K) Q := by
  subst hb
  exact tw_if d i (k := fun _ : PUnit.{1} => K) (fun hp => tw_frame d i (gather_step d i T s q gs fr ho hsrc ⟨a, ha⟩ ek hk hp) X)
    (fun hp => sep_mono .rfl (gather_skip d i T s q gs fr ho ⟨a, ha⟩ ek hp)) hK

/-- The start of a chunk on a free slot, and what follows it at the list's length. -/
def starting {α : Type} (i : grid1.Coords) (t : Fin k1_t1_loop.trips) (h : k1_cond1 t = 1#1) (k : BitVec 32 → Tile F i α) : Tile F i α := do
  let p : Σ' (_ : BitVec 32) (_ : BitVec 32), IVec S16 32 ← head i t h
  let n ← lists i t h p.2.2
  if past n 0 = 1#1 then do
    gather16 i (slotOf (now t) (now_lt h)) 0 (by decide)
    pure ⟨⟩
  else do
    pure ⟨⟩
  if past n 16 = 1#1 then do
    gather16 i (slotOf (now t) (now_lt h)) 16 (by decide)
    pure ⟨⟩
  else do
    pure ⟨⟩
  if past n 32 = 1#1 then do
    gather16 i (slotOf (now t) (now_lt h)) 32 (by decide)
    pure ⟨⟩
  else do
    pure ⟨⟩
  if past n 48 = 1#1 then do
    gather16 i (slotOf (now t) (now_lt h)) 48 (by decide)
    pure ⟨⟩
  else do
    pure ⟨⟩
  k n

theorem wp_starting {α : Type} {k : BitVec 32 → Tile F i α} {Q : α → sProp 𝕄} (hPO : ∀ x, (PO x).toNat < 1024) (t : Fin k1_t1_loop.trips) (h : k1_cond1 t = 1#1) (s : Slot) (es : s = slotOf (now t) (now_lt h)) (qa qb : PosShare TreeShare) {P X : sProp 𝕄}
    (h1 : ∀ h2 : k1_cond2 t = 1#1, P ⊢ tw d i (drain i (slotOf (old t) (old_lt h2)) (old t) (old_lt h2)) (fun _ => iprop(FREE d i s ∗ X)))
    (h2 : ¬ k1_cond2 t = 1#1 → P ⊢ iprop(FREE d i s ∗ X)) :
    iprop(P ∗ (TAB d i T qa ∗ TAB d i T qb ∗ VOC d i (fof i t.val) VO) ∗ SCB d i SC ∗ POB (F := F) d i PO)
      ⊢ iprop((∀ n : BitVec 32, (⌜n.toNat ≤ 64⌝ ∗ X ∗ GATH d i T VO SC PO s (fof i t.val) qa qb n ∗ SCB d i SC ∗ POB (F := F) d i PO) -∗ tw d i (k n) Q)
        -∗ tw d i (starting i t h k) Q) := by
  unfold starting
  iintro ⟨HP, ⟨Ha, Hb, Hv⟩, HC, HI⟩ HK
  iapply (tw_seq d i (wp_head d i T t h s es qa h1 h2)) $$ [HP Ha]
  · isplitl [HP] <;> iassumption
  iintro %p ⟨%hp, HH, HX⟩
  rw [hp]
  unfold HEAD
  icases HH with ⟨%fb, %fr, %gd, %gs, %hd, HDS, HF, HTr, HR, HL, Hg, Ho⟩
  iapply (tw_seq d i (wp_lists d i SC PO t h s es gd gs hd)) $$ [HDS HC HI]
  · isplitl [HDS]; · iexact HDS
    isplitl [HC] <;> iassumption
  iintro %n ⟨%gd', %gs', %hL, HC, HI, HD, HS⟩
  have ho : n.toNat ≤ 64 := hL.le
  have hsrc : ∀ r : Fin 64, (gs' (ix2 ⟨s.p, s.hp⟩ r)).toNat < 1024 := fun r => by
    have e : nth (sl s gs') r.val = gs' (ix2 ⟨s.p, s.hp⟩ r) := dif_pos r.isLt
    rw [← e]
    by_cases hr : r.val < n.toNat
    · rw [hL.src _ hr]; exact hPO _
    · rw [hL.zero _ (by omega) r.isLt]; decide
  imod (gathers_begin d i T s qb gs' fr n.toNat) $$ [HR HS Hb Hg] with HG
  · isplitl [HR HS]
    · isplitl [HR] <;> iassumption
    isplitl [Hb] <;> iassumption
  subst es
  have key : iprop((GS d i T (slotOf (now t) (now_lt h)) qb gs' fr n.toNat 4 -∗ tw d i (k n) Q) ∗ GS d i T (slotOf (now t) (now_lt h)) qb gs' fr n.toNat 0) ⊢ tw d i (do
      if past n 0 = 1#1 then do
        gather16 i (slotOf (now t) (now_lt h)) 0 (by decide)
        pure ⟨⟩
      else do
        pure ⟨⟩
      if past n 16 = 1#1 then do
        gather16 i (slotOf (now t) (now_lt h)) 16 (by decide)
        pure ⟨⟩
      else do
        pure ⟨⟩
      if past n 32 = 1#1 then do
        gather16 i (slotOf (now t) (now_lt h)) 32 (by decide)
        pure ⟨⟩
      else do
        pure ⟨⟩
      if past n 48 = 1#1 then do
        gather16 i (slotOf (now t) (now_lt h)) 48 (by decide)
        pure ⟨⟩
      else do
        pure ⟨⟩
      k n) Q := by
    refine gather_if d i T _ qb gs' fr ho hsrc 0 1 (by decide) rfl 0 rfl _ ?_
    refine gather_if d i T _ qb gs' fr ho hsrc 1 2 (by decide) rfl 16 rfl _ ?_
    refine gather_if d i T _ qb gs' fr ho hsrc 2 3 (by decide) rfl 32 rfl _ ?_
    refine gather_if d i T _ qb gs' fr ho hsrc 3 4 (by decide) rfl 48 rfl _ ?_
    iintro ⟨HK, H⟩
    iapply HK $$ H
  iapply key
  isplitr [HG]
  swap; · iexact HG
  iintro HG
  iapply HK
  isplitr; · ipureintro; exact ho
  isplitl [HX]; · iexact HX
  isplitr [HC HI]
  swap
  · isplitl [HC] <;> iassumption
  unfold GATH
  iexists fb, fr, gd', gs'
  isplitr; · ipureintro; exact hL
  isplitl [HF]; · iexact HF
  isplitl [HTr]; · iexact HTr
  isplitl [HG]; · iexact HG
  isplitl [HD]; · iexact HD
  isplitl [HL]; · iexact HL
  isplitl [Ho] <;> iassumption

end Cert.Proof.Stage
-- ==== Proof.Finish.lean ====
/-
  A chunk's second half: its transfers awaited, the listed rows added, the rows written back.
-/
module

public import proofs.«01_k».proof.Proof.Stage

@[expose] public section

noncomputable section

namespace Cert.Proof.Finish

open Cert.KernelIdeal Cert.Proof.Chunk Cert.Proof.Lists Cert.Proof.Kit Cert.Proof.Fill Cert.Proof.Gather Cert.Proof.Start Cert.Proof.Move Cert.Proof.Apply Cert.Proof.Stage
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords)

variable (T VO : S16x1024x2x128.Idx → F .f32) (SC : S1024.Idx → F .f32) (PO : S1024.Idx → BitVec 32)
variable (O : CellTallies nD τ sig (HIx 1)) (W : Waits sig (HIx 1))

/-- A guarded wait for a gather, and what follows it. -/
theorem await_if {α : Type} (s : Slot) (q : PosShare TreeShare) (gs : S3x64.Idx → BitVec 32) {o : BitVec 32} (ho : o.toNat ≤ 64)
    (a b : ℕ) (ha : a < 4) (hb : b = a + 1) (k : ℕ) (ek : k = 16 * a) (hk : k ≤ 48) {X : sProp 𝕄} {K : Tile F i α} {Q : α → sProp 𝕄}
    (hK : iprop(X ∗ MW (F := F) d i O ∗ AS d i T O W s q gs o.toNat b) ⊢ tw d i K Q) :
    iprop(X ∗ MW (F := F) d i O ∗ AS d i T O W s q gs o.toNat a) ⊢ tw d i (if past o k = 1#1 then await16 i s k hk >>= fun _ : PUnit.{1} => K else K) Q := by
  subst hb
  exact tw_if d i (k := fun _ : PUnit.{1} => K) (fun hp => tw_frame d i (await_step d i T O W s q gs ho ⟨a, ha⟩ ek hk hp) X)
    (fun hp => sep_mono .rfl (await_skip d i T O W s q gs ho ⟨a, ha⟩ ek hp)) hK

theorem wp_tail (t : Fin k1_t1_loop.trips) (h : k1_cond7 t = 1#1) (s : Slot) (es : s = slotOf (prev t) (prev_lt h)) (f : ℕ) (qa qb : PosShare TreeShare)
    (gs : S3x64.Idx → BitVec 32) (fb : S3x72x2x128.Idx → F .f32) {o : BitVec 32} (ho : o.toNat ≤ 64) :
    iprop((FL d i T s f qa fb ∗ OWE (F := F) d i O W) ∗ MW (F := F) d i O ∗ BT d i T s qb gs o.toNat (16 * GN o.toNat) 0)
      ⊢ tw d i (tail i t h o) (fun _ => iprop(((((thr d i).loc cc1_scratch2 ↦[LS s.p]{fullShare} fb) ∗ ((thr d i).loc main_v1_scv ↦[CS (i 1).val f]{qa} T)) ∗ semVal (thr d i, .dma s.sIn.sem) 0)
          ∗ MW (F := F) d i O ∗ AS d i T O W s qb gs o.toNat 4)) := by
  subst es
  unfold tail
  iintro ⟨⟨HF, HO⟩, #Hmw, HB⟩
  iapply (tw_seq d i (wp_awaitIn d i T O W (slotOf (prev t) (prev_lt h)) (prev t) (prev_lt h) qa fb (f := f))) $$ [HF HO]
  · isplitl [HF]; · iexact HF
    isplitr; · iexact Hmw
    iexact HO
  iintro %_ ⟨HL, Hi, HO⟩
  have key : iprop(((((thr d i).loc cc1_scratch2 ↦[LS (slotOf (prev t) (prev_lt h)).p]{fullShare} fb) ∗ ((thr d i).loc main_v1_scv ↦[CS (i 1).val f]{qa} T))
      ∗ semVal (thr d i, .dma (slotOf (prev t) (prev_lt h)).sIn.sem) 0) ∗ MW (F := F) d i O ∗ AS d i T O W (slotOf (prev t) (prev_lt h)) qb gs o.toNat 0) ⊢ tw d i (do
        if past o 0 = 1#1 then do
          await16 (F := F) i (slotOf (prev t) (prev_lt h)) 0 (by decide)
          pure ⟨⟩
        else do
          pure ⟨⟩
        if past o 16 = 1#1 then do
          await16 i (slotOf (prev t) (prev_lt h)) 16 (by decide)
          pure ⟨⟩
        else do
          pure ⟨⟩
        if past o 32 = 1#1 then do
          await16 i (slotOf (prev t) (prev_lt h)) 32 (by decide)
          pure ⟨⟩
        else do
          pure ⟨⟩
        if past o 48 = 1#1 then do
          await16 i (slotOf (prev t) (prev_lt h)) 48 (by decide)
          pure ⟨⟩
        else do
          pure ⟨⟩
        pure (⟨prev t, Scalar.remsi (prev t) 3#32, Scalar.subi (Scalar.addi o 16#32) 1#32, 16#32, Scalar.divsi (Scalar.subi (Scalar.addi o 16#32) 1#32) 16#32⟩ :
          Σ' (_ : BitVec 32) (_ : BitVec 32) (_ : BitVec 32) (_ : BitVec 32), BitVec 32))
      (fun _ => iprop(((((thr d i).loc cc1_scratch2 ↦[LS (slotOf (prev t) (prev_lt h)).p]{fullShare} fb) ∗ ((thr d i).loc main_v1_scv ↦[CS (i 1).val f]{qa} T))
        ∗ semVal (thr d i, .dma (slotOf (prev t) (prev_lt h)).sIn.sem) 0) ∗ MW (F := F) d i O ∗ AS d i T O W (slotOf (prev t) (prev_lt h)) qb gs o.toNat 4)) := by
    refine await_if d i T O W _ qb gs ho 0 1 (by decide) rfl 0 rfl _ ?_
    refine await_if d i T O W _ qb gs ho 1 2 (by decide) rfl 16 rfl _ ?_
    refine await_if d i T O W _ qb gs ho 2 3 (by decide) rfl 32 rfl _ ?_
    refine await_if d i T O W _ qb gs ho 3 4 (by decide) rfl 48 rfl _ ?_
    exact tw_pure d i _
  iapply key
  isplitl [HL Hi]
  · isplitl [HL] <;> iassumption
  isplitr; · iexact Hmw
  isplitl [HB]
  · rw [Nat.zero_min, Nat.mul_zero]; iexact HB
  · iexact HO

/-- The finish of a chunk. -/
def finishing (i : grid1.Coords) (t : Fin k1_t1_loop.trips) (h : k1_cond7 t = 1#1) (off : BitVec 32) (hw : k1_chk5 t off) : Tile F i PUnit := do
  let _p : Σ' (_ : BitVec 32) (_ : BitVec 32) (_ : BitVec 32) (_ : BitVec 32), BitVec 32 ← tail i t h off
  close i t h off hw

theorem wp_finishing (t : Fin k1_t1_loop.trips) (h : k1_cond7 t = 1#1) (s : Slot) (es : s = slotOf (prev t) (prev_lt h)) (f : ℕ) (hf : f = fof i (t.val - 1)) (qa qb : PosShare TreeShare)
    {o : BitVec 32} (ho : o.toNat ≤ 64) (hw : k1_chk5 t o) :
    iprop(GATH d i T VO SC PO s f qa qb o ∗ MW (F := F) d i O ∗ OWE (F := F) d i O W)
      ⊢ tw d i (finishing i t h o hw) (fun _ => iprop(WRIT d i T SC PO s f qa qb ∗ OWE (F := F) d i O W)) := by
  have hcf : f = 512 * (i 0).val + 64 * (prev t).toNat := by rw [prev_eq t ((cond7_iff t).1 h), hf]; rfl
  have hp8 := prev_lt h
  have hc2 := core_lt i
  unfold finishing GATH WRIT close
  iintro ⟨⟨%fb, %fr, %gd, %gs, %hL, HF, HTr, ⟨HR, HB⟩, HD, HL, Ho, HV⟩, #Hmw, HO⟩
  have hG : min 4 (GN o.toNat) = GN o.toNat := by unfold GN; omega
  iapply (tw_seq d i (wp_tail d i T O W t h s es f qa qb gs (FET i T f) ho)) $$ [HF HO HB]
  · isplitl [HF HO]
    · isplitl [HF] <;> iassumption
    isplitr; · iexact Hmw
    rw [← congrArg (16 * ·) hG]; iexact HB
  iintro %_ ⟨⟨⟨HLS, HT⟩, Hi⟩, -, HB, HO⟩
  imod (gathers_end d i T s qb gs fr ho) $$ [HR HB] with ⟨⟨⟨HR, HS⟩, HTb⟩, Hg⟩
  · isplitl [HR]
    · rw [← congrArg (16 * ·) hG]; iexact HR
    · iexact HB
  ihave HTa := (tab_split d i T qa f).2 $$ [HT HTr]
  · isplitl [HT] <;> iassumption
  ihave HB := (slab_join d i s (FET i T f) fb) $$ [HLS HL]
  · isplitl [HLS] <;> iassumption
  have hw72 : ∀ n < 64, (nth (dl s gd) n).toNat < 72 := fun n hn => by
    by_cases hno : n < o.toNat
    · have := (hL.tgt n hno).1; omega
    · rw [hL.rest n (by omega) (by omega)]; decide
  subst es
  iapply (tw_seq d i (wp_addRows d i t h _ rfl o ho _ _ _ _ gd hw72 _ (GOT i T gs fr o.toNat))) $$ [HD HB HR]
  · isplitl [HD]; · iexact HD
    isplitl [HB] <;> iassumption
  iintro %_ H
  iapply (tw_seq d i (wp_addRest d i t h _ o _ _ _ _)) $$ H
  iintro %_ ⟨HD, HB, HR⟩
  ihave HB := (slab_split d i _ _) $$ HB
  icases HB with ⟨HB, HL⟩
  have hR : ∀ (y : S64x2x128.Idx), ADDS (fun x => if (x 1).val < 64 then FET i T f x else fb x) (GOT i T gs fr o.toNat) (nth (dl (slotOf (prev t) (prev_lt h)) gd)) (16 * GN o.toNat)
        (ix4 ⟨(slotOf (prev t) (prev_lt h)).p, (slotOf (prev t) (prev_lt h)).hp⟩ ⟨(y 0).val, lt_trans (y 0).isLt (by decide)⟩ (y 1) (y 2))
      = OUT T SC PO (ix4 (i 1) (rowAt (f + (y 0).val)) (y 1) (y 2)) := fun y => by
    have hy : (y 0).val < 64 := (y 0).isLt
    have hv : (rowAt (f + (y 0).val)).val = f + (y 0).val := Nat.mod_eq_of_lt (by omega)
    refine (adds_fin i T _ hL _ fr rfl hy (rowAt (f + (y 0).val)) (if_pos hy)).trans ?_
    unfold FIN OUT
    show (if liveN SC (f + (y 0).val) then _ else _) = if liveN SC (rowAt (f + (y 0).val)).val then _ else _
    rw [hv]
    show (if liveN SC (f + (y 0).val) then _ else _) = if liveN SC (f + (y 0).val) then FloatOps.addf _ (T (ix4 _ (rowAt (poN PO (rowAt (f + (y 0).val)).val).toNat) _ _)) else _
    rw [hv]
    rfl
  iapply (tw_seq d i (wp_copyOut d i (slotOf (prev t) (prev_lt h)) (prev t) (prev_lt h) _ VO (OUT T SC PO) (f := f) hcf hR)) $$ [HB HV Ho]
  · isplitl [HB]; · iexact HB
    isplitl [HV] <;> iassumption
  iintro %_ HF
  iapply (tw_pure d i)
  isplitr [HO]
  swap; · iexact HO
  iexists _, _, _, gd, gs
  isplitl [HF]; · iexact HF
  isplitl [HL]; · iexact HL
  isplitl [HTa]; · iexact HTa
  isplitl [HTb]; · iexact HTb
  isplitl [HR]; · iexact HR
  isplitl [HD]; · iexact HD
  isplitl [HS]; · iexact HS
  isplitl [Hi] <;> iassumption

end Cert.Proof.Finish
-- ==== Proof.Steps.lean ====
/-
  The chunk loop: where each chunk stands before a step, and the step from there to the next.
-/
module

public import proofs.«01_k».proof.Proof.Finish

@[expose] public section

noncomputable section

namespace Cert.Proof.Steps

open Cert.KernelIdeal Cert.Proof.Chunk Cert.Proof.Lists Cert.Proof.Kit Cert.Proof.Fill Cert.Proof.Gather Cert.Proof.Start Cert.Proof.Move Cert.Proof.Apply Cert.Proof.Stage Cert.Proof.Finish
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords)

variable (T VO : S16x1024x2x128.Idx → F .f32) (SC : S1024.Idx → F .f32) (PO : S1024.Idx → BitVec 32)
variable (O : CellTallies nD τ sig (HIx 1)) (W : Waits sig (HIx 1)) (qa qb : Fin 8 → PosShare TreeShare)

/-- Where a chunk stands. -/
inductive Ph where
  | init | gath (o : BitVec 32) | writ | done

/-- The slot of chunk `n`. -/
def slotN (n : ℕ) : Slot := ⟨n % 3, Nat.mod_lt _ (by decide)⟩
theorem slotN_eq {ci : BitVec 32} (h : ci.toNat < 8) {n : ℕ} (e : n % 3 = ci.toNat % 3) : slotN n = slotOf ci h := by
  have e' : n % 3 = (Scalar.remsi ci 3#32).toNat := by rw [slot_eq h, e]
  unfold slotN slotOf
  congr 1

/-- What a chunk holds where it stands; the slots no chunk has been on yet stand with the first three chunks. -/
def RES (c : Fin 8) : Ph → sProp 𝕄
  | .init => iprop((TAB d i T (qa c) ∗ TAB d i T (qb c) ∗ VOC d i (fof i c.val) VO) ∗ (if c.val < 3 then FREE d i (slotN c.val) else emp))
  | .gath o => iprop(⌜o.toNat ≤ 64⌝ ∗ GATH d i T VO SC PO (slotN c.val) (fof i c.val) (qa c) (qb c) o)
  | .writ => WRIT d i T SC PO (slotN c.val) (fof i c.val) (qa c) (qb c)
  | .done => iprop(TAB d i T (qa c) ∗ TAB d i T (qb c) ∗ VOC d i (fof i c.val) (OUT T SC PO))

theorem res_gath (c : Fin 8) (o : BitVec 32) : RES d i T VO SC PO qa qb c (.gath o)
    = iprop(⌜o.toNat ≤ 64⌝ ∗ GATH d i T VO SC PO (slotN c.val) (fof i c.val) (qa c) (qb c) o) := rfl
theorem res_writ (c : Fin 8) : RES d i T VO SC PO qa qb c .writ = WRIT d i T SC PO (slotN c.val) (fof i c.val) (qa c) (qb c) := rfl
theorem res_done (c : Fin 8) : RES d i T VO SC PO qa qb c .done
    = iprop(TAB d i T (qa c) ∗ TAB d i T (qb c) ∗ VOC d i (fof i c.val) (OUT T SC PO)) := rfl

abbrev ALL (σ : Fin 8 → Ph) : sProp 𝕄 := bigSep Finset.univ fun c => RES d i T VO SC PO qa qb c (σ c)

theorem all_take (σ : Fin 8 → Ph) (c : Fin 8) :
    ALL d i T VO SC PO qa qb σ = iprop(RES d i T VO SC PO qa qb c (σ c) ∗ bigSep (Finset.univ.erase c) fun c => RES d i T VO SC PO qa qb c (σ c)) :=
  SparseCore.bigSep_erase' (Finset.mem_univ c)
/-- One chunk moved on, the others as they stand. -/
theorem all_put (σ σ' : Fin 8 → Ph) (c : Fin 8) (h : ∀ c', c' ≠ c → σ c' = σ' c') :
    iprop(RES d i T VO SC PO qa qb c (σ' c) ∗ bigSep (Finset.univ.erase c) fun c => RES d i T VO SC PO qa qb c (σ c)) ⊢ ALL d i T VO SC PO qa qb σ' := by
  rw [all_take d i T VO SC PO qa qb σ' c]
  iintro ⟨H, HR⟩
  isplitl [H]; · iexact H
  iapply (Entails.of_eq (bigSep_congr fun c' hc' => by rw [h c' (Finset.ne_of_mem_erase hc')])) $$ HR

abbrev OTHERS (σ : Fin 8 → Ph) (c : Fin 8) : sProp 𝕄 := bigSep (Finset.univ.erase c) fun c => RES d i T VO SC PO qa qb c (σ c)
abbrev OTHERS2 (σ : Fin 8 → Ph) (a c : Fin 8) : sProp 𝕄 := bigSep ((Finset.univ.erase c).erase a) fun c => RES d i T VO SC PO qa qb c (σ c)

/-- Two of them. -/
theorem all_take2 (σ : Fin 8 → Ph) (a c : Fin 8) (h : a ≠ c) :
    ALL d i T VO SC PO qa qb σ = iprop(RES d i T VO SC PO qa qb c (σ c) ∗ RES d i T VO SC PO qa qb a (σ a) ∗ OTHERS2 d i T VO SC PO qa qb σ a c) := by
  rw [all_take d i T VO SC PO qa qb σ c, SparseCore.bigSep_erase' (Finset.mem_erase.2 ⟨h, Finset.mem_univ a⟩)]
theorem all_put2 (σ σ' : Fin 8 → Ph) (a c : Fin 8) (h : a ≠ c) (e : ∀ c', c' ≠ a → c' ≠ c → σ c' = σ' c') :
    iprop(RES d i T VO SC PO qa qb c (σ' c) ∗ RES d i T VO SC PO qa qb a (σ' a) ∗ OTHERS2 d i T VO SC PO qa qb σ a c) ⊢ ALL d i T VO SC PO qa qb σ' := by
  rw [all_take2 d i T VO SC PO qa qb σ' a c h]
  iintro ⟨H, Ha, HR⟩
  isplitl [H]; · iexact H
  isplitl [Ha]; · iexact Ha
  iapply (Entails.of_eq (bigSep_congr fun c' hc' => by rw [e c' (Finset.ne_of_mem_erase hc') (Finset.ne_of_mem_erase (Finset.mem_of_mem_erase hc'))])) $$ HR

/-- Where the chunks stand before step `t`, the last started list being of length `o`; and after its first half. -/
def phase (t : ℕ) (o : BitVec 32) (c : Fin 8) : Ph :=
  if t ≤ c.val then .init else if c.val + 1 = t then .gath o else if c.val + 4 ≤ t ∧ c.val < 5 then .done else .writ
def mid (t : ℕ) (o n : BitVec 32) (c : Fin 8) : Ph :=
  if t < c.val then .init else if c.val = t then .gath n else if c.val + 1 = t then .gath o else if c.val + 3 ≤ t ∧ c.val < 5 then .done else .writ
abbrev FIX : sProp 𝕄 := iprop(SCB d i SC ∗ POB (F := F) d i PO)

theorem wp_first {α : Type} {k : BitVec 32 → Tile F i α} {Q : α → sProp 𝕄} (hPO : ∀ x, (PO x).toNat < 1024) (t : Fin k1_t1_loop.trips) (h : k1_cond1 t = 1#1) (o : BitVec 32) :
    iprop(ALL d i T VO SC PO qa qb (phase t.val o) ∗ MW (F := F) d i O ∗ OWE (F := F) d i O W ∗ FIX d i SC PO)
      ⊢ iprop((∀ n : BitVec 32, (⌜n.toNat ≤ 64⌝ ∗ ALL d i T VO SC PO qa qb (mid t.val o n) ∗ OWE (F := F) d i O W ∗ FIX d i SC PO) -∗ tw d i (k n) Q)
        -∗ tw d i (starting i t h k) Q) := by
  have ht := (cond1_iff t).1 h
  have es : slotN t.val = slotOf (now t) (now_lt h) := slotN_eq (now_lt h) (by rw [now_eq])
  -- from the state with the slot free to the next
  have e0 : phase t.val o ⟨t.val, ht⟩ = .init := if_pos (Nat.le_refl _)
  have e1 : ∀ n, mid t.val o n ⟨t.val, ht⟩ = .gath n := fun n => by unfold mid; rw [if_neg (Nat.lt_irrefl _), if_pos rfl]
  by_cases h2 : k1_cond2 t = 1#1
  · have ht3 := (cond2_iff t).1 h2
    have es3 : slotN (t.val - 3) = slotOf (old t) (old_lt h2) := slotN_eq (old_lt h2) (by rw [old_eq t ht3])
    have es' : slotN t.val = slotN (t.val - 3) := by unfold slotN; congr 1; omega
    have ea : t.val - 3 < 8 := by omega
    have hne : (⟨t.val - 3, ea⟩ : Fin 8) ≠ ⟨t.val, ht⟩ := fun e => absurd (congrArg Fin.val e) (show ¬ t.val - 3 = t.val by omega)
    have f0 : phase t.val o ⟨t.val - 3, ea⟩ = .writ := by
      unfold phase
      rw [if_neg (show ¬ t.val ≤ t.val - 3 by omega), if_neg (show ¬ t.val - 3 + 1 = t.val by omega), if_neg (show ¬ (t.val - 3 + 4 ≤ t.val ∧ t.val - 3 < 5) by omega)]
    have f1 : ∀ n, mid t.val o n ⟨t.val - 3, ea⟩ = .done := fun n => by
      unfold mid
      rw [if_neg (show ¬ t.val < t.val - 3 by omega), if_neg (show ¬ t.val - 3 = t.val by omega), if_neg (show ¬ t.val - 3 + 1 = t.val by omega), if_pos (show t.val - 3 + 3 ≤ t.val ∧ t.val - 3 < 5 by omega)]
    have hm := fun n => all_put2 d i T VO SC PO qa qb (phase t.val o) (mid t.val o n) ⟨t.val - 3, ea⟩ ⟨t.val, ht⟩ hne (fun c hc hc' => by
      have hc1 : c.val ≠ t.val - 3 := fun e => hc (Fin.ext e)
      have hc2 : c.val ≠ t.val := fun e => hc' (Fin.ext e)
      unfold phase mid
      split_ifs <;> first | rfl | (exfalso; omega))
    have hd := tw_frame d i (wp_free d i T SC PO O W (slotN (t.val - 3)) (old t) (old_lt h2) (fof i (t.val - 3)) (qa ⟨t.val - 3, ea⟩) (qb ⟨t.val - 3, ea⟩))
        (OTHERS2 d i T VO SC PO qa qb (phase t.val o) ⟨t.val - 3, ea⟩ ⟨t.val, ht⟩)
    have e2 : RES d i T VO SC PO qa qb ⟨t.val, ht⟩ .init = iprop((TAB d i T (qa ⟨t.val, ht⟩) ∗ TAB d i T (qb ⟨t.val, ht⟩) ∗ VOC d i (fof i t.val) VO) ∗ emp) := by
      unfold RES
      rw [if_neg (show ¬ t.val < 3 by omega)]
    have hst := wp_starting (k := k) (Q := Q) d i T VO SC PO hPO t h (slotN t.val) es (qa ⟨t.val, ht⟩) (qb ⟨t.val, ht⟩)
      (X := iprop(OWE (F := F) d i O W ∗ OTHERS2 d i T VO SC PO qa qb (phase t.val o) ⟨t.val - 3, ea⟩ ⟨t.val, ht⟩ ∗ RES d i T VO SC PO qa qb ⟨t.val - 3, ea⟩ .done))
      (P := iprop(OTHERS2 d i T VO SC PO qa qb (phase t.val o) ⟨t.val - 3, ea⟩ ⟨t.val, ht⟩ ∗ RES d i T VO SC PO qa qb ⟨t.val - 3, ea⟩ .writ ∗ MW (F := F) d i O ∗ OWE (F := F) d i O W))
      (fun _ => by
        rw [← es3, es']
        refine Entails.trans hd (wp_mono frame _ _ fun _ => ?_)
        iintro ⟨HA, ⟨HF, HO⟩, HD⟩
        isplitl [HF]; · iexact HF
        isplitl [HO]; · iexact HO
        isplitl [HA]; · iexact HA
        iapply (Entails.of_eq (res_done d i T VO SC PO qa qb _).symm) $$ HD) (fun hn => absurd h2 hn)
    rw [all_take2 d i T VO SC PO qa qb (phase t.val o) ⟨t.val - 3, ea⟩ ⟨t.val, ht⟩ hne, e0, e2, f0]
    iintro ⟨⟨⟨HT, -⟩, HW, HA⟩, #Hmw, HO, HS, HP⟩ HK
    iapply hst $$ [HT HW HA HO HS HP]
    · isplitl [HW HA HO]
      · isplitl [HA]; · iexact HA
        isplitl [HW]; · iexact HW
        isplitr; · iexact Hmw
        iexact HO
      isplitl [HT]; · iexact HT
      isplitl [HS] <;> iassumption
    iintro %n ⟨%ho, ⟨HO, HA, HD⟩, HG, HS, HP⟩
    iapply HK
    isplitr; · ipureintro; exact ho
    isplitr [HO HS HP]
    swap
    · isplitl [HO]; · iexact HO
      isplitl [HS] <;> iassumption
    iapply (hm n)
    rw [e1 n, f1 n]
    isplitl [HG]
    · iapply (Entails.of_eq (res_gath d i T VO SC PO qa qb _ _).symm)
      isplitr; · ipureintro; exact ho
      iexact HG
    isplitl [HD] <;> iassumption
  · have ht3 : t.val < 3 := by
      by_contra hc
      exact h2 ((cond2_iff t).2 (by omega))
    have hm := fun n => all_put d i T VO SC PO qa qb (phase t.val o) (mid t.val o n) ⟨t.val, ht⟩ (fun c hc => by
      have hc' : c.val ≠ t.val := fun e => hc (Fin.ext e)
      unfold phase mid
      split_ifs <;> first | rfl | (exfalso; omega))
    have e2 : RES d i T VO SC PO qa qb ⟨t.val, ht⟩ .init = iprop((TAB d i T (qa ⟨t.val, ht⟩) ∗ TAB d i T (qb ⟨t.val, ht⟩) ∗ VOC d i (fof i t.val) VO) ∗ FREE d i (slotN t.val)) := by
      unfold RES
      rw [if_pos ht3]
    have hst := wp_starting (k := k) (Q := Q) d i T VO SC PO hPO t h (slotN t.val) es (qa ⟨t.val, ht⟩) (qb ⟨t.val, ht⟩)
      (P := iprop(FREE d i (slotN t.val) ∗ OTHERS d i T VO SC PO qa qb (phase t.val o) ⟨t.val, ht⟩ ∗ OWE (F := F) d i O W)) (X := iprop(OTHERS d i T VO SC PO qa qb (phase t.val o) ⟨t.val, ht⟩ ∗ OWE (F := F) d i O W)) (fun hp => absurd hp h2) (fun _ => .rfl)
    rw [all_take d i T VO SC PO qa qb (phase t.val o) ⟨t.val, ht⟩, e0, e2]
    iintro ⟨⟨⟨HT, HF⟩, HA⟩, #Hmw, HO, HS, HP⟩ HK
    iapply hst $$ [HT HF HA HO HS HP]
    · isplitl [HF HA HO]
      · isplitl [HF]; · iexact HF
        isplitl [HA] <;> iassumption
      isplitl [HT]; · iexact HT
      isplitl [HS] <;> iassumption
    iintro %n ⟨%ho, ⟨HA, HO⟩, HG, HS, HP⟩
    iapply HK
    isplitr; · ipureintro; exact ho
    isplitr [HO HS HP]
    swap
    · isplitl [HO]; · iexact HO
      isplitl [HS] <;> iassumption
    iapply (hm n)
    rw [e1 n]
    isplitl [HG]
    swap; · iexact HA
    iapply (Entails.of_eq (res_gath d i T VO SC PO qa qb _ _).symm)
    isplitr; · ipureintro; exact ho
    iexact HG

/-- The second half of step `t`: the chunk before, its list of length `o`, finished and on its way out. -/
theorem wp_second (t : Fin k1_t1_loop.trips) (h : k1_cond7 t = 1#1) {o : BitVec 32} (ho : o.toNat ≤ 64) (n : BitVec 32) (hw : k1_chk5 t o) :
    iprop(ALL d i T VO SC PO qa qb (mid t.val o n) ∗ MW (F := F) d i O ∗ OWE (F := F) d i O W)
      ⊢ tw d i (finishing i t h o hw) (fun _ => iprop(ALL d i T VO SC PO qa qb (phase (t.val + 1) n) ∗ OWE (F := F) d i O W)) := by
  have ht1 := (cond7_iff t).1 h
  have ht9 := trips_le t
  have ea : t.val - 1 < 8 := by omega
  have es : slotN (t.val - 1) = slotOf (prev t) (prev_lt h) := slotN_eq (prev_lt h) (by rw [prev_eq t ht1])
  have f0 : mid t.val o n ⟨t.val - 1, ea⟩ = .gath o := by
    unfold mid
    rw [if_neg (show ¬ t.val < t.val - 1 by omega), if_neg (show ¬ t.val - 1 = t.val by omega), if_pos (show t.val - 1 + 1 = t.val by omega)]
  have f1 : phase (t.val + 1) n ⟨t.val - 1, ea⟩ = .writ := by
    unfold phase
    rw [if_neg (show ¬ t.val + 1 ≤ t.val - 1 by omega), if_neg (show ¬ t.val - 1 + 1 = t.val + 1 by omega), if_neg (show ¬ (t.val - 1 + 4 ≤ t.val + 1 ∧ t.val - 1 < 5) by omega)]
  have hm := all_put d i T VO SC PO qa qb (mid t.val o n) (phase (t.val + 1) n) ⟨t.val - 1, ea⟩ (fun c hc => by
    have hc' : c.val ≠ t.val - 1 := fun e => hc (Fin.ext e)
    unfold mid phase
    split_ifs <;> first | rfl | (exfalso; omega))
  rw [f1] at hm
  have hf := tw_frame d i (wp_finishing d i T VO SC PO O W t h (slotN (t.val - 1)) es (fof i (t.val - 1)) rfl (qa ⟨t.val - 1, ea⟩) (qb ⟨t.val - 1, ea⟩) ho hw)
    (OTHERS d i T VO SC PO qa qb (mid t.val o n) ⟨t.val - 1, ea⟩)
  refine Entails.trans (Entails.trans ?_ hf) (wp_mono frame _ _ fun _ => ?_)
  · rw [all_take d i T VO SC PO qa qb (mid t.val o n) ⟨t.val - 1, ea⟩, f0, res_gath]
    iintro ⟨⟨⟨-, HG⟩, HA⟩, HM, HO⟩
    isplitl [HA]; · iexact HA
    isplitl [HG]; · iexact HG
    isplitl [HM] <;> iassumption
  · iintro ⟨HA, HW, HO⟩
    isplitr [HO]; swap; · iexact HO
    iapply hm
    isplitl [HW]
    · iapply (Entails.of_eq (res_writ d i T VO SC PO qa qb ⟨t.val - 1, ea⟩).symm) $$ HW
    iexact HA

/-- What stands before step `t`, the last started list of length `o`. -/
def INV (t : ℕ) (o : BitVec 32) : sProp 𝕄 :=
  iprop(⌜o.toNat ≤ 64⌝ ∗ ALL d i T VO SC PO qa qb (phase t o) ∗ MW (F := F) d i O ∗ OWE (F := F) d i O W ∗ FIX d i SC PO)

/-- What a step does after its first half, at the length `n` of the list it started. -/
def after (i : grid1.Coords) (t : Fin k1_t1_loop.trips) (o : BitVec 32) (hw : k1_chk5 t o) (n : BitVec 32) : Tile F i (BitVec 32) := do
  if h : k1_cond7 t = 1#1 then do
    let _p : Σ' (_ : BitVec 32) (_ : BitVec 32) (_ : BitVec 32) (_ : BitVec 32), BitVec 32 ← tail i t h o
    close i t h o hw
    pure ⟨⟩
  else do
    pure ⟨⟩
  pure n

theorem wp_after (t : Fin k1_t1_loop.trips) {o : BitVec 32} (ho : o.toNat ≤ 64) (n : BitVec 32) (hn : n.toNat ≤ 64) (hw : k1_chk5 t o) :
    iprop(ALL d i T VO SC PO qa qb (mid t.val o n) ∗ MW (F := F) d i O ∗ OWE (F := F) d i O W ∗ FIX d i SC PO)
      ⊢ tw d i (after i t o hw n) (fun n => INV d i T VO SC PO O W qa qb (t.val + 1) n) := by
  unfold after INV
  by_cases h7 : k1_cond7 t = 1#1
  · rw [dif_pos h7]
    have e : ∀ K : Tile F i (BitVec 32), (tail i t h7 o >>= fun _ => close i t h7 o hw >>= fun _ => K) = (finishing i t h7 o hw >>= fun _ => K) := fun K => by
      unfold finishing
      rw [bind_assoc]
    refine Entails.trans ?_ (Entails.of_eq (congrArg (fun p => tw d i p _) (e (pure n)).symm))
    iintro ⟨HA, #Hmw, HO, HF⟩
    iapply (tw_seq d i (wp_second d i T VO SC PO O W qa qb t h7 ho n hw)) $$ [HA HO]
    · isplitl [HA]; · iexact HA
      isplitr; · iexact Hmw
      iexact HO
    iintro %_ ⟨HA, HO⟩
    iapply (tw_pure d i)
    isplitr; · ipureintro; exact hn
    isplitl [HA]; · iexact HA
    isplitr; · iexact Hmw
    isplitl [HO] <;> iassumption
  · rw [dif_neg h7]
    have ht : t.val = 0 := by
      by_contra hc
      exact h7 ((cond7_iff t).2 (by omega))
    have hph : mid t.val o n = phase (t.val + 1) n := funext fun c => by
      unfold mid phase
      split_ifs <;> first | rfl | (exfalso; omega)
    rw [hph]
    iintro ⟨HA, #Hmw, HO, HF⟩
    iapply (tw_pure d i)
    isplitr; · ipureintro; exact hn
    isplitl [HA]; · iexact HA
    isplitr; · iexact Hmw
    isplitl [HO] <;> iassumption

theorem step_eq (t : Fin k1_t1_loop.trips) (o : BitVec 32) : step (F := F) i t o
    = (Prog.lift (TpuEff.assume (k1_chk5 t o) (k1_chk5.dec t o)) >>= fun hw =>
        if h : k1_cond1 t = 1#1 then starting i t h (after i t o hw.down) else after i t o hw.down 0#32) := by
  unfold step
  refine congrArg _ (funext fun hw => ?_)
  by_cases h : k1_cond1 t = 1#1
  · rw [dif_pos h, dif_pos h]
    exact congrArg (starting i t h) (funext fun n => pure_bind n (after i t o hw.down))
  · rw [dif_neg h, dif_neg h]
    exact pure_bind (0#32 : BitVec 32) (after i t o hw.down)

theorem wp_step (hPO : ∀ x, (PO x).toNat < 1024) (t : Fin k1_t1_loop.trips) (o : BitVec 32) :
    INV d i T VO SC PO O W qa qb t.val o ⊢ tw d i (step i t o) (fun n => INV d i T VO SC PO O W qa qb (t.val + 1) n) := by
  have ht9 := trips_le t
  rw [step_eq]
  unfold INV
  iintro ⟨%ho, HA, #Hmw, HO, HF⟩
  iapply (tw_assume d i (chk5 t o ho))
  by_cases h : k1_cond1 t = 1#1
  · rw [dif_pos h]
    iapply (wp_first d i T VO SC PO O W qa qb hPO t h o) $$ [HA HO HF]
    · isplitl [HA]; · iexact HA
      isplitr; · iexact Hmw
      isplitl [HO] <;> iassumption
    iintro %n ⟨%hn, HA, HO, HF⟩
    iapply (wp_after d i T VO SC PO O W qa qb t ho n hn (chk5 t o ho))
    isplitl [HA]; · iexact HA
    isplitr; · iexact Hmw
    isplitl [HO] <;> iassumption
  · rw [dif_neg h]
    have ht : t.val = 8 := by
      by_contra hc
      exact h ((cond1_iff t).2 (by omega))
    have hph : phase t.val o = mid t.val o 0#32 := funext fun c => by
      have hc := c.isLt
      unfold mid phase
      split_ifs <;> first | rfl | (exfalso; omega)
    rw [hph]
    iapply (wp_after d i T VO SC PO O W qa qb t ho 0#32 (by decide) (chk5 t o ho))
    isplitl [HA]; · iexact HA
    isplitr; · iexact Hmw
    isplitl [HO] <;> iassumption

end Cert.Proof.Steps
-- ==== Proof.Body.lean ====
/-
  The whole body of one subcore: the two fetches, the chunk loop, and the waits for the last three write-backs.
-/
module

public import proofs.«01_k».proof.Proof.Steps

@[expose] public section

noncomputable section

namespace Cert.Proof.Body

open Cert.KernelIdeal Cert.Proof.Chunk Cert.Proof.Lists Cert.Proof.Kit Cert.Proof.Fill Cert.Proof.Gather Cert.Proof.Start Cert.Proof.Move Cert.Proof.Apply Cert.Proof.Stage Cert.Proof.Finish Cert.Proof.Steps
open Cert.KernelIdeal.Facts₀ Cert.KernelIdeal.Facts
open Idealize.ShloMosaic Idealize.ShloMosaic.SparseCore
open Idealize.ShloMosaic.SparseCore.Cfg (HIx)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords)

variable (O : CellTallies nD τ sig (HIx 1)) (W : Waits sig (HIx 1))

/-- A whole array copied in: what the destination then holds. -/
theorem wp_fetch {e : EltTy} (src : Memref sig .scVector .hbm S1024 e) (hs : src.IsWhole) (dst : Memref sig .scVector .vmem S1024 e) (hd : dst.IsWhole) (sem : DmaSems sig S_)
    (q : PosShare TreeShare) (fs : Buf (Elt F) (src.view.loc (thr d i))) (fd : Buf (Elt F) (dst.view.loc (thr d i))) (hN : dst.view.dmaCredit = 32768) :
    iprop((src.view.loc (thr d i) ↦[src.view.set]{q} fs) ∗ (dst.view.loc (thr d i) ↦[dst.view.set]{fullShare} fd) ∗ semVal (thr d i, .dma sem.sem) 0 ∗ MW (F := F) d i O ∗ OWE (F := F) d i O W)
      ⊢ tw d i (fetch i src hs dst hd sem) (fun _ => iprop((src.view.loc (thr d i) ↦[src.view.set]{q} fs)
          ∗ (dst.view.loc (thr d i) ↦[dst.view.set]{fullShare} dst.view.write (Elt F) fd (ReadAs.same.apply (src.view.read (Elt F) fs)) Finset.univ)
          ∗ semVal (thr d i, .dma sem.sem) 0 ∗ OWE (F := F) d i O W)) := by
  have hb : fetch (F := F) i src hs dst hd sem = fetch i src hs dst hd sem >>= pure := (bind_pure _).symm
  rw [hb]
  unfold fetch
  iintro ⟨Hs, Hd, Hv, #Hmw, %W', %hW, HO⟩
  iapply (Transfers.wp_dmaLocal (defs := defs₀ (F := F)) EC 𝒱₀ (thr d i) none (src := src) (dst := dst) (sm := .dma sem.sem) (default : HIx 1) 32768 hN (by decide) (subset_rfl)) $$ [Hs Hd Hv]
  · isplitl [Hs]; · iexact Hs
    isplitl [Hd] <;> iassumption
  iintro HF
  iapply (Transfers.wp_waitLocalO (defs := defs₀ (F := F)) EC 𝒱₀ (thr d i) none (default : HIx 1) hN) $$ [HF HO]
  · isplitl [HF]; · iexact HF
    isplitl [HO]; · iexact HO
    iapply (Transfers.MayWaits.elim (SemLoc.dma sem.sem)) $$ Hmw
  iintro ⟨⟨Hd, Hs⟩, Hv, HO⟩
  iapply (tw_pure d i)
  isplitl [Hs]; · iexact Hs
  isplitl [Hd]; · iexact Hd
  isplitl [Hv]; · iexact Hv
  iexists _
  isplitr
  swap; · iexact HO
  ipureintro
  intro p hp
  rcases Finset.mem_insert.mp hp with hp | hp
  · exact .inr (hp ▸ rfl)
  · exact hW p hp

/-- The index array and the scale array, in the shared memory and in the subcore's own. -/
abbrev POV (q : PosShare TreeShare) (PO : S1024.Idx → BitVec 32) : sProp 𝕄 := (thr d i).loc main_arg3_scv ↦[Finset.univ]{q} PO
abbrev SCV (q : PosShare TreeShare) (SC : S1024.Idx → F .f32) : sProp 𝕄 := (thr d i).loc main_v2_scv ↦[Finset.univ]{q} SC

theorem wp_fetchI (q : PosShare TreeShare) (PO fd : S1024.Idx → BitVec 32) :
    iprop(POV (F := F) d i q PO ∗ POB (F := F) d i fd ∗ semVal (thr d i, .dma cc1_scoped0.sem) 0 ∗ MW (F := F) d i O ∗ OWE (F := F) d i O W)
      ⊢ tw d i (fetch i poiV (Memref.isWhole_whole _) poiB (Memref.isWhole_whole _) cc1_scoped0) (fun _ => iprop(POV (F := F) d i q PO
          ∗ POB (F := F) d i PO ∗ semVal (thr d i, .dma cc1_scoped0.sem) 0 ∗ OWE (F := F) d i O W)) := by
  have h := wp_fetch (F := F) d i O W poiV (Memref.isWhole_whole _) poiB (Memref.isWhole_whole _) cc1_scoped0 q PO fd (by decide)
  have e1 : (poiV).view.set = Finset.univ := View.set_whole _
  have e2 : (poiB).view.set = Finset.univ := View.set_whole _
  rw [e1, e2] at h
  rw [show (poiB).view.write (Elt F) fd (ReadAs.same.apply ((poiV).view.read (Elt F) PO)) Finset.univ = PO from View.write_whole_univ _ _ _] at h
  exact h

theorem wp_fetchS (q : PosShare TreeShare) (SC fd : S1024.Idx → F .f32) :
    iprop(SCV d i q SC ∗ SCB d i fd ∗ semVal (thr d i, .dma cc1_scoped1.sem) 0 ∗ MW (F := F) d i O ∗ OWE (F := F) d i O W)
      ⊢ tw d i (fetch i sclV (Memref.isWhole_whole _) sclB (Memref.isWhole_whole _) cc1_scoped1) (fun _ => iprop(SCV d i q SC
          ∗ SCB d i SC ∗ semVal (thr d i, .dma cc1_scoped1.sem) 0 ∗ OWE (F := F) d i O W)) := by
  have h := wp_fetch d i O W sclV (Memref.isWhole_whole _) sclB (Memref.isWhole_whole _) cc1_scoped1 q SC fd (by decide)
  have e1 : (sclV).view.set = Finset.univ := View.set_whole _
  have e2 : (sclB).view.set = Finset.univ := View.set_whole _
  rw [e1, e2] at h
  rw [show (sclB).view.write (Elt F) fd (ReadAs.same.apply ((sclV).view.read (Elt F) SC)) Finset.univ = SC from View.write_whole_univ _ _ _] at h
  exact h

variable (T VO : S16x1024x2x128.Idx → F .f32) (SC : S1024.Idx → F .f32) (PO : S1024.Idx → BitVec 32) (qa qb : Fin 8 → PosShare TreeShare)

/-- The last wait of a chunk, its slot then free for good. -/
theorem wp_last (σ σ' : Fin 8 → Ph) (c : Fin 8) (ci : BitVec 32) (hc : ci.toNat < 8) (ec : ci.toNat = c.val) (h0 : σ c = .writ) (h1 : σ' c = .done)
    (h : ∀ c', c' ≠ c → σ c' = σ' c') :
    iprop(ALL d i T VO SC PO qa qb σ ∗ MW (F := F) d i O ∗ OWE (F := F) d i O W)
      ⊢ tw d i (drain i (slotOf ci hc) ci hc) (fun _ => iprop(FREE d i (slotN c.val) ∗ ALL d i T VO SC PO qa qb σ' ∗ OWE (F := F) d i O W)) := by
  have es : slotN c.val = slotOf ci hc := slotN_eq hc (by rw [ec])
  rw [← es]
  have hm := all_put d i T VO SC PO qa qb σ σ' c h
  rw [h1] at hm
  have hd := tw_frame d i (wp_free d i T SC PO O W (slotN c.val) ci hc (fof i c.val) (qa c) (qb c)) (OTHERS d i T VO SC PO qa qb σ c)
  refine Entails.trans (Entails.trans ?_ hd) (wp_mono frame _ _ fun _ => ?_)
  · rw [all_take d i T VO SC PO qa qb σ c, h0, res_writ]
    iintro ⟨⟨HW, HA⟩, HM, HO⟩
    isplitl [HA]; · iexact HA
    isplitl [HW]; · iexact HW
    isplitl [HM] <;> iassumption
  · iintro ⟨HA, ⟨HF, HO⟩, HD⟩
    isplitl [HF]; · iexact HF
    isplitr [HO]; swap; · iexact HO
    iapply hm
    isplitl [HD]
    · iapply (Entails.of_eq (res_done d i T VO SC PO qa qb c).symm) $$ HD
    iexact HA

/-- What the subcore holds through its body besides the chunks. -/
abbrev SIDE (qp qs : PosShare TreeShare) : sProp 𝕄 :=
  iprop((POV (F := F) d i qp PO ∗ SCV d i qs SC) ∗ semVal (thr d i, .dma cc1_scoped0.sem) 0 ∗ semVal (thr d i, .dma cc1_scoped1.sem) 0)

theorem loop_trips9 : k1_t1_loop.trips = 9 := by decide +kernel

theorem wp_run (qp qs : PosShare TreeShare) (hPO : ∀ x, (PO x).toNat < 1024) (fi : S1024.Idx → BitVec 32) (fs : S1024.Idx → F .f32) :
    iprop(SIDE d i SC PO qp qs ∗ POB (F := F) d i fi ∗ SCB d i fs ∗ ALL d i T VO SC PO qa qb (fun _ => .init) ∗ MW (F := F) d i O ∗ OWE (F := F) d i O W)
      ⊢ tw d i (runWith i (step i)) (fun _ => iprop(SIDE d i SC PO qp qs ∗ ∃ o, INV d i T VO SC PO O W qa qb 9 o)) := by
  unfold runWith
  iintro ⟨⟨⟨HP, HS⟩, H0, H1⟩, HI, HC, HA, #Hmw, HO⟩
  iapply (tw_seq d i (wp_fetchI d i O W qp PO fi)) $$ [HP HI H0 HO]
  · isplitl [HP]; · iexact HP
    isplitl [HI]; · iexact HI
    isplitl [H0]; · iexact H0
    isplitr; · iexact Hmw
    iexact HO
  iintro %_ ⟨HP, HI, H0, HO⟩
  iapply (tw_seq d i (wp_fetchS d i O W qs SC fs)) $$ [HS HC H1 HO]
  · isplitl [HS]; · iexact HS
    isplitl [HC]; · iexact HC
    isplitl [H1]; · iexact H1
    isplitr; · iexact Hmw
    iexact HO
  iintro %_ ⟨HS, HC, H1, HO⟩
  have hph : (fun _ => Ph.init) = phase 0 0#32 := funext fun c => by
    unfold phase
    rw [if_pos (Nat.zero_le _)]
  rw [hph]
  iapply (Scf.wp_for_bind frame _ _ k1_t1_loop.lb k1_t1_loop.ub k1_t1_loop.st k1_t1_ok 0#32 _ (fun t o => INV d i T VO SC PO O W qa qb t o)
    (fun t o => wp_step d i T VO SC PO O W qa qb hPO t o)) $$ [HA HO HC HI]
  · unfold INV
    isplitr; · ipureintro; decide
    isplitl [HA]; · iexact HA
    isplitr; · iexact Hmw
    isplitl [HO]; · iexact HO
    isplitl [HC] <;> iassumption
  iintro %o HV
  iapply (tw_pure d i)
  isplitl [HP HS H0 H1]
  · isplitl [HP HS]
    · isplitl [HP] <;> iassumption
    isplitl [H0] <;> iassumption
  iexists o
  iapply (Entails.of_eq (congrArg (fun t => INV d i T VO SC PO O W qa qb t o) loop_trips9)) $$ HV

/-- The chunks with the first `5 + n` done and the rest on their way out. -/
def outs (n : ℕ) (c : Fin 8) : Ph := if c.val < 5 + n then .done else .writ

theorem wp_body (qp qs : PosShare TreeShare) (hPO : ∀ x, (PO x).toNat < 1024) (fi : S1024.Idx → BitVec 32) (fs : S1024.Idx → F .f32) :
    iprop(SIDE d i SC PO qp qs ∗ POB (F := F) d i fi ∗ SCB d i fs ∗ ALL d i T VO SC PO qa qb (fun _ => .init) ∗ MW (F := F) d i O ∗ OWE (F := F) d i O W)
      ⊢ tw d i (printed i) (fun _ => iprop(SIDE d i SC PO qp qs ∗ POB (F := F) d i PO ∗ SCB d i SC ∗ ALL d i T VO SC PO qa qb (fun _ => .done)
          ∗ (FREE d i (slotN 0) ∗ FREE d i (slotN 1) ∗ FREE d i (slotN 2)) ∗ OWE (F := F) d i O W)) := by
  rw [body_eq]
  unfold body
  iintro H
  iapply (tw_seq d i (wp_run d i O W T VO SC PO qa qb qp qs hPO fi fs)) $$ H
  iintro %_ ⟨HS, %o, HV⟩
  unfold INV
  icases HV with ⟨-, HA, #Hmw, HO, HC, HI⟩
  have hph : phase 9 o = outs 0 := funext fun c => by
    have hc := c.isLt
    unfold phase outs
    split_ifs <;> first | rfl | (exfalso; omega)
  have hend : outs 3 = (fun _ => Ph.done) := funext fun c => if_pos c.isLt
  have hstep : ∀ (n m : ℕ) (c : Fin 8), c.val = 5 + n → m = n + 1 → ∀ c', c' ≠ c → outs n c' = outs m c' := fun n m c ec em c' hne => by
    have hc' : c'.val ≠ c.val := fun e => hne (Fin.ext e)
    unfold outs
    split_ifs <;> first | rfl | (exfalso; omega)
  rw [hph]
  iapply (tw_seq d i (wp_last d i O W T VO SC PO qa qb (outs 0) (outs 1) 5 5#32 _ rfl rfl rfl (hstep 0 1 5 rfl rfl))) $$ [HA HO]
  · isplitl [HA]; · iexact HA
    isplitr; · iexact Hmw
    iexact HO
  iintro %_ ⟨HF2, HA, HO⟩
  iapply (tw_seq d i (wp_last d i O W T VO SC PO qa qb (outs 1) (outs 2) 6 6#32 _ rfl rfl rfl (hstep 1 2 6 rfl rfl))) $$ [HA HO]
  · isplitl [HA]; · iexact HA
    isplitr; · iexact Hmw
    iexact HO
  iintro %_ ⟨HF0, HA, HO⟩
  iapply (tw_seq d i (wp_last d i O W T VO SC PO qa qb (outs 2) (outs 3) 7 7#32 _ rfl rfl rfl (hstep 2 3 7 rfl rfl))) $$ [HA HO]
  · isplitl [HA]; · iexact HA
    isplitr; · iexact Hmw
    iexact HO
  iintro %_ ⟨HF1, HA, HO⟩
  rw [hend]
  iapply (tw_pure d i)
  isplitl [HS]; · iexact HS
  isplitl [HI]; · iexact HI
  isplitl [HC]; · iexact HC
  isplitl [HA]; · iexact HA
  isplitr [HO]; swap; · iexact HO
  isplitl [HF0]; · iexact HF0
  isplitl [HF1]; · iexact HF1
  iexact HF2

end Cert.Proof.Body
-- ==== Proof.Tile.lean ====
/-
  One subcore's task: its own buffers and semaphores cut into the slots, its rows of the output into the chunks, its share
  of the table into two shares for each chunk; then the body; then all of it together again.
-/
module

public import proofs.«01_k».proof.Proof.Body
public import Idealize.ShloMosaic.Lib.Pipeline.Kit

@[expose] public section

noncomputable section

namespace Cert.Proof.Tile

open Cert.KernelIdeal Cert.Proof.Chunk Cert.Proof.Lists Cert.Proof.Kit Cert.Proof.Fill Cert.Proof.Gather Cert.Proof.Start Cert.Proof.Move Cert.Proof.Apply Cert.Proof.Stage Cert.Proof.Finish Cert.Proof.Steps Cert.Proof.Body
open Cert.KernelIdeal.Facts₀ Cert.KernelIdeal.Facts
open Idealize.ShloMosaic Idealize.ShloMosaic.SparseCore
open Idealize.ShloMosaic.SparseCore.Cfg (HIx ownBufs ownSems0 ownCells ownRefs mem_ownCells mem_ownRefs)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

variable (d : Dev nD) (i : grid1.Coords)

/-! ## Taking a listed part of a family -/

theorem take_list {I : Type} [DecidableEq I] (s : Finset I) (l : List I) (hs : ∀ x ∈ l, x ∈ s) (hl : l.Nodup) (Φ : I → sProp 𝕄) :
    bigSep s Φ = iprop(BI.bigSepL l Φ ∗ bigSep (s \ l.toFinset) Φ) := by
  rw [SparseCore.bigSep_sdiff_split' (s := s) (t := l.toFinset) (fun x hx => hs x (List.mem_toFinset.1 hx)), BI.bigSep_eq_bigSepL_of_eq l rfl hl]

theorem list_cons {I : Type} (x y : I) (l : List I) (Φ : I → sProp 𝕄) : BI.bigSepL (x :: y :: l) Φ = iprop(Φ x ∗ BI.bigSepL (y :: l) Φ) := rfl
theorem list_one {I : Type} (x : I) (Φ : I → sProp 𝕄) : BI.bigSepL [x] Φ = Φ x := rfl

/-! ## The subcore's semaphores and buffers -/

/-- Its DMA semaphores: each slot's three, then the two of the array fetches. -/
def semList : List (DmaSem sig) :=
  [(slotN 0).sIn.sem, (slotN 0).sG.sem, (slotN 0).sOut.sem, (slotN 1).sIn.sem, (slotN 1).sG.sem, (slotN 1).sOut.sem,
    (slotN 2).sIn.sem, (slotN 2).sG.sem, (slotN 2).sOut.sem, cc1_scoped0.sem, cc1_scoped1.sem]
theorem semAt_val (b : ℕ) (h : b + S3.numel ≤ 18) (s : Slot) : Fin.val ((semAt (SemArray.consecutive b S3 h) s).sem) = b + s.p := by
  show b + (S3.rowMajor ((Rect.unit (s := S3) ![s.p] S1.size (sem_inb s.hp)).emb _)).val = b + s.p
  rw [Shape.rowMajor_val_one]
  have e : ∀ j : S1.Idx, (((Rect.unit (s := S3) ![s.p] S1.size (sem_inb s.hp)).emb j) 0).val = s.p := fun j => by
    have h0 : (j 0).val < 1 := (j 0).isLt
    show s.p + 1 * (j 0).val = s.p
    omega
  rw [e]
theorem scoped_val (b : ℕ) (h : b + S_.numel ≤ 18) : Fin.val ((SemArray.consecutive b S_ h).sem) = b := by
  show b + (S_.rowMajor _).val = b
  have := (S_.rowMajor (fun i => i.elim0)).isLt
  have e : S_.numel = 1 := by decide
  omega
theorem semList_map : semList.map (fun x : Fin 18 => x.val) = [7, 10, 13, 8, 11, 14, 9, 12, 15, 16, 17] := by
  simp only [semList, List.map_cons, List.map_nil]
  rw [show Fin.val ((slotN 0).sIn.sem) = 7 from semAt_val 7 _ _, show Fin.val ((slotN 0).sG.sem) = 10 from semAt_val 10 _ _, show Fin.val ((slotN 0).sOut.sem) = 13 from semAt_val 13 _ _,
    show Fin.val ((slotN 1).sIn.sem) = 8 from semAt_val 7 _ _, show Fin.val ((slotN 1).sG.sem) = 11 from semAt_val 10 _ _, show Fin.val ((slotN 1).sOut.sem) = 14 from semAt_val 13 _ _,
    show Fin.val ((slotN 2).sIn.sem) = 9 from semAt_val 7 _ _, show Fin.val ((slotN 2).sG.sem) = 12 from semAt_val 10 _ _, show Fin.val ((slotN 2).sOut.sem) = 15 from semAt_val 13 _ _,
    show Fin.val (cc1_scoped0.sem) = 16 from scoped_val 16 _, show Fin.val (cc1_scoped1.sem) = 17 from scoped_val 17 _]
theorem semList_nodup : semList.Nodup := List.Nodup.of_map (fun x : Fin 18 => x.val) (by rw [semList_map]; decide)
theorem dma_scoped : ∀ x : Fin 18, 7 ≤ x.val → (SemLoc.dma x : SemLoc sig).isScoped .scVector = true := by decide +kernel
theorem semList_scoped : ∀ x ∈ semList, (SemLoc.dma x : SemLoc sig).isScoped .scVector = true := fun x hx => dma_scoped x (by
  have h := List.mem_map_of_mem (f := fun x : Fin 18 => x.val) hx
  rw [semList_map] at h
  revert h
  generalize (x : Fin 18).val = n
  intro h
  simp only [List.mem_cons, List.mem_nil_iff, _root_.or_false] at h
  omega)

theorem cells_nodup (thr : Thread nD τ) : (semList.map fun x => ((thr, SemLoc.dma x) : GSem nD τ sig)).Nodup :=
  semList_nodup.map fun a b h => SemLoc.dma.inj (Prod.mk.inj h).2

abbrev SREST : sProp 𝕄 := bigSep (ownCells (thr d i) \ (semList.map fun x => ((thr d i, SemLoc.dma x) : GSem nD τ sig)).toFinset) fun g => semVal g 0
abbrev SEM (s : Slot) : sProp 𝕄 :=
  iprop(semVal (thr d i, .dma s.sIn.sem) 0 ∗ semVal (thr d i, .dma s.sG.sem) 0 ∗ semVal (thr d i, .dma s.sOut.sem) 0)

theorem own_sems : (ownSems0 (thr d i) : sProp 𝕄)
    ⊣⊢ iprop((SEM (F := F) d i (slotN 0) ∗ SEM (F := F) d i (slotN 1) ∗ SEM (F := F) d i (slotN 2)) ∗ (semVal (thr d i, .dma cc1_scoped0.sem) 0 ∗ semVal (thr d i, .dma cc1_scoped1.sem) 0) ∗ SREST (F := F) d i) := by
  have h := take_list (F := F) (ownCells (thr d i)) (semList.map fun x => ((thr d i, SemLoc.dma x) : GSem nD τ sig))
    (fun g hg => by
      obtain ⟨x, hx, rfl⟩ := List.mem_map.1 hg
      exact mem_ownCells.2 ⟨rfl, semList_scoped x hx⟩) (cells_nodup (thr d i)) (fun g => semVal g 0)
  unfold ownSems0
  rw [h]
  simp only [semList, List.map_cons, List.map_nil, list_cons, list_one]
  constructor
  · iintro ⟨⟨a0, a1, a2, b0, b1, b2, c0, c1, c2, x0, x1⟩, HR⟩
    isplitl [a0 a1 a2 b0 b1 b2 c0 c1 c2]
    · isplitl [a0 a1 a2]
      · isplitl [a0]; · iexact a0
        isplitl [a1] <;> iassumption
      isplitl [b0 b1 b2]
      · isplitl [b0]; · iexact b0
        isplitl [b1] <;> iassumption
      isplitl [c0]; · iexact c0
      isplitl [c1] <;> iassumption
    isplitl [x0 x1]
    · isplitl [x0] <;> iassumption
    iexact HR
  · iintro ⟨⟨⟨a0, a1, a2⟩, ⟨b0, b1, b2⟩, c0, c1, c2⟩, ⟨x0, x1⟩, HR⟩
    isplitr [HR]; swap; · iexact HR
    isplitl [a0]; · iexact a0
    isplitl [a1]; · iexact a1
    isplitl [a2]; · iexact a2
    isplitl [b0]; · iexact b0
    isplitl [b1]; · iexact b1
    isplitl [b2]; · iexact b2
    isplitl [c0]; · iexact c0
    isplitl [c1]; · iexact c1
    isplitl [c2]; · iexact c2
    isplitl [x0] <;> iassumption

/-- Its six scratch buffers. -/
def bufList : List (Ref sig .scVector) := [cc1_scratch0, cc1_scratch1, cc1_scratch2, cc1_scratch3, cc1_scratch4, cc1_scratch5]
theorem bufList_nodup : bufList.Nodup := by decide +kernel

abbrev PROC (i : grid1.Coords) : Proc τ := .scVector ((i 0).castLE hcore1) ((i 1).castLE hsub1)
abbrev BREST : sProp 𝕄 := bigSep (ownRefs (PROC i) \ (bufList.map fun b => (PROC i).devRef b).toFinset) fun b => iprop(∃ f, ((d, b) : Loc nD τ sig) ↦{fullShare} f)
abbrev SOME (b : Ref sig .scVector) : sProp 𝕄 := iprop(∃ f, (thr d i).loc b ↦{fullShare} f)

theorem own_bufs : (ownBufs (thr d i) : sProp 𝕄)
    = iprop((SOME (F := F) d i cc1_scratch0 ∗ SOME (F := F) d i cc1_scratch1 ∗ SOME (F := F) d i cc1_scratch2 ∗ SOME (F := F) d i cc1_scratch3 ∗ SOME (F := F) d i cc1_scratch4 ∗ SOME (F := F) d i cc1_scratch5) ∗ BREST (F := F) d i) := by
  have hown : ∀ b ∈ bufList, ((PROC i).devRef b).owner = .proc (PROC i) := by
    intro b hb
    simp only [bufList, List.mem_cons, List.mem_nil_iff, _root_.or_false] at hb
    rcases hb with rfl | rfl | rfl | rfl | rfl | rfl <;> rfl
  have h := take_list (F := F) (ownRefs (PROC i)) (bufList.map fun b => (PROC i).devRef b)
    (fun g hg => by
      obtain ⟨x, hx, rfl⟩ := List.mem_map.1 hg
      exact SparseCore.Cfg.mem_ownRefs_of_owner (hown x hx)) (bufList_nodup.map (Proc.devRef_injective _)) (fun b => iprop(∃ f, ((d, b) : Loc nD τ sig) ↦{fullShare} f))
  unfold ownBufs
  rw [h]
  simp only [bufList, List.map_cons, List.map_nil, list_cons, list_one]
  rfl

/-! ## A buffer cut into three slots -/

theorem three_split {ℓ : Loc nD τ sig} {q : PosShare TreeShare} (K : Fin 3 → Finset (Idx ℓ)) (hd : ∀ a b, a ≠ b → Disjoint (K a) (K b))
    (hc : Finset.univ.biUnion K = Finset.univ) (f : Buf (Elt F) ℓ) :
    (ℓ ↦[Finset.univ]{q} f : sProp 𝕄) ⊢ iprop((ℓ ↦[K 0]{q} f) ∗ (ℓ ↦[K 1]{q} f) ∗ (ℓ ↦[K 2]{q} f)) := by
  rw [← hc, pointsTo_biUnion Finset.univ K (fun a _ b _ h => hd a b h), BI.bigSep_univ_eq_bigSepL [0, 1, 2] (by decide) (by decide)]
  exact Entails.of_eq rfl

theorem three_join {ℓ : Loc nD τ sig} {q : PosShare TreeShare} (K : Fin 3 → Finset (Idx ℓ)) (hd : ∀ a b, a ≠ b → Disjoint (K a) (K b))
    (hc : Finset.univ.biUnion K = Finset.univ) (f0 f1 f2 : Buf (Elt F) ℓ) :
    iprop((ℓ ↦[K 0]{q} f0) ∗ (ℓ ↦[K 1]{q} f1) ∗ (ℓ ↦[K 2]{q} f2)) ⊢ (iprop(∃ g, ℓ ↦[Finset.univ]{q} g) : sProp 𝕄) := by
  have h := pointsTo_biUnion_join (Val := Elt F) (Ix := HIx 1) (Name := ℕ) (U := UU) (Lvl := ℕ) (ℓ := ℓ) (q := q) Finset.univ K
    (fun a => match a with | 0 => f0 | 1 => f1 | 2 => f2) f0 (fun a _ b _ h => hd a b h)
  rw [hc, BI.bigSep_univ_eq_bigSepL [0, 1, 2] (by decide) (by decide)] at h
  simp only [list_cons, list_one] at h
  refine h.trans ?_
  iintro ⟨%g, _, H⟩
  iexists g
  iexact H

def Cut {A : Type} [Fintype A] [DecidableEq A] (K : Fin 3 → Finset A) : Prop :=
  (∀ a b, a ≠ b → Disjoint (K a) (K b)) ∧ Finset.univ.biUnion K = Finset.univ
theorem by_slot {A : Type} [Fintype A] [DecidableEq A] (p : A → ℕ) (hp : ∀ x, p x < 3) (K : Fin 3 → Finset A) (hK : ∀ a x, x ∈ K a ↔ p x = a.val) :
    Cut K := by
  constructor
  · intro a b h
    rw [Finset.disjoint_left]
    intro x ha hb
    exact h (Fin.ext (((hK a x).1 ha).symm.trans ((hK b x).1 hb)))
  · ext x
    simp only [Finset.mem_biUnion, Finset.mem_univ, _root_.true_and, iff_true]
    exact ⟨⟨p x, hp x⟩, (hK _ x).2 rfl⟩

theorem cut2 : Cut fun a : Fin 3 => PS a.val := by_slot (A := S3x72x2x128.Idx) (fun x => (x 0).val) (fun x => (x 0).isLt) (fun a => PS a.val) (fun a x => mem_PS)
theorem cut3 : Cut fun a : Fin 3 => RS a.val := by_slot (A := S3x64x2x128.Idx) (fun x => (x 0).val) (fun x => (x 0).isLt) (fun a => RS a.val) (fun a x => mem_RS)
theorem cut4 : Cut fun a : Fin 3 => DS a.val := by_slot (A := S3x80.Idx) (fun x => (x 0).val) (fun x => (x 0).isLt) (fun a => DS a.val) (fun a x => mem_DS)
theorem cut5 : Cut fun a : Fin 3 => SS a.val := by_slot (A := S3x64.Idx) (fun x => (x 0).val) (fun x => (x 0).isLt) (fun a => SS a.val) (fun a x => mem_SS)

abbrev SLOTS : sProp 𝕄 := iprop(FREE d i (slotN 0) ∗ FREE d i (slotN 1) ∗ FREE d i (slotN 2))
abbrev SCR : sProp 𝕄 := iprop(SOME (F := F) d i cc1_scratch2 ∗ SOME (F := F) d i cc1_scratch3 ∗ SOME (F := F) d i cc1_scratch4 ∗ SOME (F := F) d i cc1_scratch5)
abbrev SEMS : sProp 𝕄 := iprop(SEM (F := F) d i (slotN 0) ∗ SEM (F := F) d i (slotN 1) ∗ SEM (F := F) d i (slotN 2))

theorem slots_of : iprop(SCR (F := F) d i ∗ SEMS (F := F) d i) ⊢ SLOTS (F := F) d i := by
  iintro ⟨⟨⟨%f2, H2⟩, ⟨%f3, H3⟩, ⟨%f4, H4⟩, ⟨%f5, H5⟩⟩, S0, S1, S2⟩
  ihave H2 := (three_split (ℓ := (thr d i).loc cc1_scratch2) (fun a => PS a.val) cut2.1 cut2.2 f2) $$ H2
  ihave H3 := (three_split (ℓ := (thr d i).loc cc1_scratch3) (fun a => RS a.val) cut3.1 cut3.2 f3) $$ H3
  ihave H4 := (three_split (ℓ := (thr d i).loc cc1_scratch4) (fun a => DS a.val) cut4.1 cut4.2 f4) $$ H4
  ihave H5 := (three_split (ℓ := (thr d i).loc cc1_scratch5) (fun a => SS a.val) cut5.1 cut5.2 f5) $$ H5
  icases H2 with ⟨A2, B2, C2⟩
  icases H3 with ⟨A3, B3, C3⟩
  icases H4 with ⟨A4, B4, C4⟩
  icases H5 with ⟨A5, B5, C5⟩
  isplitl [S0 A2 A3 A4 A5]
  · unfold FREE
    iexists f2; iexists f3; iexists f4; iexists f5
    isplitl [A2]; · iexact A2
    isplitl [A3]; · iexact A3
    isplitl [A4]; · iexact A4
    isplitl [A5]; · iexact A5
    iexact S0
  isplitl [S1 B2 B3 B4 B5]
  · unfold FREE
    iexists f2; iexists f3; iexists f4; iexists f5
    isplitl [B2]; · iexact B2
    isplitl [B3]; · iexact B3
    isplitl [B4]; · iexact B4
    isplitl [B5]; · iexact B5
    iexact S1
  unfold FREE
  iexists f2; iexists f3; iexists f4; iexists f5
  isplitl [C2]; · iexact C2
  isplitl [C3]; · iexact C3
  isplitl [C4]; · iexact C4
  isplitl [C5]; · iexact C5
  iexact S2

theorem of_slots : SLOTS (F := F) d i ⊢ iprop(SCR (F := F) d i ∗ SEMS (F := F) d i) := by
  unfold SLOTS FREE
  iintro ⟨⟨%a2, %a3, %a4, %a5, A2, A3, A4, A5, S0⟩, ⟨%b2, %b3, %b4, %b5, B2, B3, B4, B5, S1⟩, ⟨%c2, %c3, %c4, %c5, C2, C3, C4, C5, S2⟩⟩
  isplitr [S0 S1 S2]; swap
  · isplitl [S0]; · iexact S0
    isplitl [S1]; · iexact S1
    iexact S2
  isplitl [A2 B2 C2]
  · iapply (three_join (ℓ := (thr d i).loc cc1_scratch2) (fun a => PS a.val) cut2.1 cut2.2 a2 b2 c2)
    isplitl [A2]; · iexact A2
    isplitl [B2]; · iexact B2
    iexact C2
  isplitl [A3 B3 C3]
  · iapply (three_join (ℓ := (thr d i).loc cc1_scratch3) (fun a => RS a.val) cut3.1 cut3.2 a3 b3 c3)
    isplitl [A3]; · iexact A3
    isplitl [B3]; · iexact B3
    iexact C3
  isplitl [A4 B4 C4]
  · iapply (three_join (ℓ := (thr d i).loc cc1_scratch4) (fun a => DS a.val) cut4.1 cut4.2 a4 b4 c4)
    isplitl [A4]; · iexact A4
    isplitl [B4]; · iexact B4
    iexact C4
  iapply (three_join (ℓ := (thr d i).loc cc1_scratch5) (fun a => SS a.val) cut5.1 cut5.2 a5 b5 c5)
  isplitl [A5]; · iexact A5
  isplitl [B5]; · iexact B5
  iexact C5

/-! ## The chunks -/

/-- The subcore's half of its batch's rows of the output. -/
def HB (b c : ℕ) : Finset S16x1024x2x128.Idx := Finset.univ.filter fun x => (x 0).val = b ∧ 512 * c ≤ (x 1).val ∧ (x 1).val < 512 * c + 512
theorem mem_HB {b c : ℕ} {x : S16x1024x2x128.Idx} : x ∈ HB b c ↔ (x 0).val = b ∧ 512 * c ≤ (x 1).val ∧ (x 1).val < 512 * c + 512 := by simp [HB]

theorem half_chunks : (HB (i 1).val (i 0).val) = Finset.univ.biUnion fun c : Fin 8 => CS (i 1).val (fof i c.val) := by
  ext x
  simp only [Finset.mem_biUnion, Finset.mem_univ, _root_.true_and, mem_HB, mem_CS, fof]
  constructor
  · rintro ⟨h, h1, h2⟩
    exact ⟨⟨((x 1).val - 512 * (i 0).val) / 64, by omega⟩, h, by show 512 * (i 0).val + 64 * (((x 1).val - 512 * (i 0).val) / 64) ≤ _; omega, by show _ < 512 * (i 0).val + 64 * (((x 1).val - 512 * (i 0).val) / 64) + 64; omega⟩
  · rintro ⟨c, h, h1, h2⟩
    have := c.isLt
    exact ⟨h, by omega, by omega⟩
theorem chunks_disjoint (a b : Fin 8) (h : a ≠ b) : Disjoint (CS (i 1).val (fof i a.val)) (CS (i 1).val (fof i b.val)) := by
  rw [Finset.disjoint_left]
  intro x ha hb
  have ha := mem_CS.1 ha
  have hb := mem_CS.1 hb
  unfold fof at ha hb
  exact h (Fin.ext (by omega))

theorem voc_split (v : S16x1024x2x128.Idx → F .f32) :
    ((thr d i).loc main_v3_scv ↦[HB (i 1).val (i 0).val]{fullShare} v : sProp 𝕄) = bigSep Finset.univ fun c : Fin 8 => VOC d i (fof i c.val) v := by
  rw [half_chunks]
  exact pointsTo_biUnion (ℓ := (thr d i).loc main_v3_scv) Finset.univ _ (fun a _ b _ h => chunks_disjoint i a b h)

theorem eight_pos : 0 < 8 := Nat.succ_pos 7
abbrev QA (q : PosShare TreeShare) (c : Fin 8) : PosShare TreeShare := pieceOf q.left 8 eight_pos c
abbrev QB (q : PosShare TreeShare) (c : Fin 8) : PosShare TreeShare := pieceOf q.right 8 eight_pos c

variable (T VO : S16x1024x2x128.Idx → F .f32) (SC : S1024.Idx → F .f32) (PO : S1024.Idx → BitVec 32) (q : PosShare TreeShare)

theorem cut_share {ℓ : Loc nD τ sig} (I : Finset (Idx ℓ)) (f : Buf (Elt F) ℓ) {o : ℕ} (ho : 0 < o) (q' : PosShare TreeShare) :
    (ℓ ↦[I]{q'} f : sProp 𝕄) = bigSep Finset.univ fun c : Fin o => ℓ ↦[I]{pieceOf q' o ho c} f :=
  pointsTo_piecesOf I f ho q'
theorem tab_pieces (q' : PosShare TreeShare) : (TAB d i T q' : sProp 𝕄) = bigSep Finset.univ fun c : Fin 8 => TAB d i T (pieceOf q' 8 eight_pos c) := by
  unfold TAB
  exact cut_share _ _ _ _

theorem tab_shares : (TAB d i T q : sProp 𝕄) ⊣⊢ iprop((bigSep Finset.univ fun c : Fin 8 => TAB d i T (QA q c)) ∗ bigSep Finset.univ fun c : Fin 8 => TAB d i T (QB q c)) := by
  have h : (TAB d i T q : sProp 𝕄) ⊣⊢ iprop(TAB d i T q.left ∗ TAB d i T q.right) := pointsTo_share (PosShare.mem_left_op_right q)
  rw [tab_pieces d i T q.left, tab_pieces d i T q.right] at h
  exact h

theorem first_slots : (bigSep Finset.univ fun c : Fin 8 => (if c.val < 3 then FREE (F := F) d i (slotN c.val) else emp : sProp 𝕄)) ⊣⊢ SLOTS (F := F) d i := by
  rw [BI.bigSep_univ_eq_bigSepL [0, 1, 2, 3, 4, 5, 6, 7] (by decide) (by decide)]
  simp only [list_cons, list_one]
  show iprop(FREE (F := F) d i (slotN 0) ∗ FREE (F := F) d i (slotN 1) ∗ FREE (F := F) d i (slotN 2) ∗ emp ∗ emp ∗ emp ∗ emp ∗ emp) ⊣⊢ _
  constructor
  · iintro ⟨a, b, c, _⟩
    isplitl [a]; · iexact a
    isplitl [b] <;> iassumption
  · iintro ⟨a, b, c⟩
    isplitl [a]; · iexact a
    isplitl [b]; · iexact b
    isplitl [c]; · iexact c
    isplitr; · iempintro
    isplitr; · iempintro
    isplitr; · iempintro
    isplitr; · iempintro
    iempintro

theorem all_init : iprop(TAB d i T q ∗ ((thr d i).loc main_v3_scv ↦[HB (i 1).val (i 0).val]{fullShare} VO) ∗ SLOTS (F := F) d i)
    ⊢ ALL d i T VO SC PO (QA q) (QB q) (fun _ => .init) := by
  rw [voc_split]
  refine (sep_mono (tab_shares d i T q).1 (sep_mono (Entails.rfl) (first_slots d i).2)).trans ?_
  rw [show ALL d i T VO SC PO (QA q) (QB q) (fun _ => .init) = bigSep Finset.univ fun c : Fin 8 => iprop((TAB d i T (QA q c) ∗ TAB d i T (QB q c) ∗ VOC d i (fof i c.val) VO) ∗ (if c.val < 3 then FREE (F := F) d i (slotN c.val) else emp)) from rfl]
  rw [BI.bigSep_sep', BI.bigSep_sep', BI.bigSep_sep']
  iintro ⟨⟨A, B⟩, C, D⟩
  isplitr [D]; swap; · iexact D
  isplitl [A]; · iexact A
  isplitl [B] <;> iassumption

theorem all_done : ALL d i T VO SC PO (QA q) (QB q) (fun _ => .done)
    ⊢ iprop(TAB d i T q ∗ ((thr d i).loc main_v3_scv ↦[HB (i 1).val (i 0).val]{fullShare} (OUT T SC PO))) := by
  rw [voc_split]
  refine Entails.trans ?_ (sep_mono (tab_shares d i T q).2 Entails.rfl)
  rw [show ALL d i T VO SC PO (QA q) (QB q) (fun _ => .done) = bigSep Finset.univ fun c : Fin 8 => iprop(TAB d i T (QA q c) ∗ TAB d i T (QB q c) ∗ VOC d i (fof i c.val) (OUT T SC PO)) from rfl]
  rw [BI.bigSep_sep', BI.bigSep_sep']
  iintro ⟨A, B, C⟩
  isplitr [C]; swap; · iexact C
  isplitl [A] <;> iassumption

/-! ## The task -/

abbrev ΛP : Labels := Pipeline.Sig Λ₀ (Fin 1) fun p => (pcfgs (F := F) p).Adm
abbrev K : SparseCore.Cfg τ sig (ΛP (F := F)) 1 := sc (F := F)

/-- What a subcore is handed, the output's part at `v`: shares of the positions, of the scale and of its batch of the
    table, and its half of its batch's rows of the output. -/
abbrev OPS (v : S16x1024x2x128.Idx → F .f32) (qp qs : PosShare TreeShare) : sProp 𝕄 :=
  iprop(POV (F := F) d i qp PO ∗ SCV d i qs SC ∗ TAB d i T q ∗ ((thr d i).loc main_v3_scv ↦[HB (i 1).val (i 0).val]{fullShare} v))

theorem body_some (hPO : ∀ x, (PO x).toNat < 1024) (qp qs : PosShare TreeShare) (O : CellTallies nD τ sig (HIx 1)) (W : Waits sig (HIx 1)) :
    iprop(SIDE d i SC PO qp qs ∗ SOME (F := F) d i cc1_scratch0 ∗ SOME (F := F) d i cc1_scratch1 ∗ ALL d i T VO SC PO (QA q) (QB q) (fun _ => .init) ∗ MW (F := F) d i O ∗ OWE (F := F) d i O W)
      ⊢ tw d i (printed i) (fun _ => iprop(SIDE d i SC PO qp qs ∗ POB (F := F) d i PO ∗ SCB d i SC ∗ ALL d i T VO SC PO (QA q) (QB q) (fun _ => .done)
        ∗ SLOTS (F := F) d i ∗ OWE (F := F) d i O W)) := by
  iintro ⟨HS, ⟨%fi, H0⟩, ⟨%fs, H1⟩, HA, HM, HO⟩
  iapply (wp_body d i O W T VO SC PO (QA q) (QB q) qp qs hPO fi fs)
  isplitl [HS]; · iexact HS
  isplitl [H0]; · iexact H0
  isplitl [H1]; · iexact H1
  isplitl [HA]; · iexact HA
  isplitl [HM] <;> iassumption

/-- The subcore's buffers at a task's start, sorted out; and at its end, put back. -/
theorem bufs_sems_out : iprop((ownBufs (thr d i) : sProp 𝕄) ∗ ownSems0 (thr d i))
    ⊢ iprop((BREST (F := F) d i ∗ SREST (F := F) d i) ∗ (SOME (F := F) d i cc1_scratch0 ∗ SOME (F := F) d i cc1_scratch1)
      ∗ (semVal (thr d i, .dma cc1_scoped0.sem) 0 ∗ semVal (thr d i, .dma cc1_scoped1.sem) 0) ∗ SLOTS (F := F) d i) := by
  rw [own_bufs d i]
  refine (sep_mono Entails.rfl (own_sems d i).1).trans ?_
  iintro ⟨⟨⟨H0, H1, H2, H3, H4, H5⟩, HBR⟩, HS, HX, HSR⟩
  isplitl [HBR HSR]; · isplitl [HBR] <;> iassumption
  isplitl [H0 H1]; · isplitl [H0] <;> iassumption
  isplitl [HX]; · iexact HX
  iapply (slots_of d i)
  isplitr [HS]; swap; · iexact HS
  isplitl [H2]; · iexact H2
  isplitl [H3]; · iexact H3
  isplitl [H4] <;> iassumption

theorem bufs_sems_in : iprop((BREST (F := F) d i ∗ SREST (F := F) d i) ∗ (SOME (F := F) d i cc1_scratch0 ∗ SOME (F := F) d i cc1_scratch1)
      ∗ (semVal (thr d i, .dma cc1_scoped0.sem) 0 ∗ semVal (thr d i, .dma cc1_scoped1.sem) 0) ∗ SLOTS (F := F) d i)
    ⊢ iprop((ownBufs (thr d i) : sProp 𝕄) ∗ ownSems0 (thr d i)) := by
  rw [own_bufs d i]
  refine Entails.trans ?_ (sep_mono Entails.rfl (own_sems d i).2)
  iintro ⟨⟨HBR, HSR⟩, ⟨H0, H1⟩, HX, HF⟩
  ihave HF := (of_slots d i) $$ HF
  icases HF with ⟨⟨H2, H3, H4, H5⟩, HS⟩
  isplitr [HS HX HSR]; swap
  · isplitl [HS]; · iexact HS
    isplitl [HX] <;> iassumption
  isplitr [HBR]; swap; · iexact HBR
  isplitl [H0]; · iexact H0
  isplitl [H1]; · iexact H1
  isplitl [H2]; · iexact H2
  isplitl [H3]; · iexact H3
  isplitl [H4] <;> iassumption

theorem tile_body (hF : (K (F := F)).Facts) (hPO : ∀ x, (PO x).toNat < 1024) (qp qs : PosShare TreeShare) (O : CellTallies nD τ sig (HIx 1)) (W : Waits sig (HIx 1))
    (hO : ∀ g, O g none = 0) :
    iprop(levAts (K (F := F)).L (K (F := F)).lev ∗ emp ∗ OPS d i T SC PO q VO qp qs
        ∗ scopedBufs (thr d i) ∗ scopedSems0 (thr d i) ∗ owes (thr d i) O W)
      ⊢ tw d i (printed i) fun _ => iprop(OPS d i T SC PO q (OUT T SC PO) qp qs
            ∗ scopedBufs (thr d i) ∗ scopedSems0 (thr d i)
            ∗ ∃ W', ⌜∀ p ∈ W', p ∈ W ∨ p.2 = none⌝ ∗ owes (thr d i) O W') := by
  have eb : (scopedBufs (thr d i) : sProp 𝕄) = ownBufs (thr d i) := (K (F := F)).scopedBufs_V hF d ((i 0).castLE hcore1) ((i 1).castLE hsub1)
  have es : (scopedSems0 (thr d i) : sProp 𝕄) = ownSems0 (thr d i) := SparseCore.Cfg.scopedSems0_V (Val := Elt F) d ((i 0).castLE hcore1) ((i 1).castLE hsub1)
  rw [eb, es]
  refine Entails.trans (Entails.trans ?_ (tw_frame d i (body_some d i T VO SC PO q hPO qp qs O W) iprop(BREST (F := F) d i ∗ SREST (F := F) d i))) (wp_mono frame _ _ fun _ => ?_)
  · iintro ⟨#Hlv, _, ⟨Hp, Hs, Ht, Ho⟩, HB, HS, HO⟩
    ihave Hmw := (show levAts (K (F := F)).L (K (F := F)).lev ⊢ MW (F := F) d i O from
      (K (F := F)).mayWaits_none (thr := thr d i) hO) $$ Hlv
    ihave H := (bufs_sems_out d i) $$ [HB HS]; · isplitl [HB] <;> iassumption
    icases H with ⟨HR, ⟨H0, H1⟩, HX, HF⟩
    ihave HA := (all_init d i T VO SC PO q) $$ [Ht Ho HF]
    · isplitl [Ht]; · iexact Ht
      isplitl [Ho] <;> iassumption
    isplitl [HR]; · iexact HR
    isplitl [Hp Hs HX]
    · isplitl [Hp Hs]
      · isplitl [Hp] <;> iassumption
      iexact HX
    isplitl [H0]; · iexact H0
    isplitl [H1]; · iexact H1
    isplitl [HA]; · iexact HA
    isplitl [Hmw]; · iexact Hmw
    iexists W
    isplitr
    · ipureintro; exact fun p hp => .inl hp
    iexact HO
  · iintro ⟨HR, ⟨⟨Hp, Hs⟩, HX⟩, H0, H1, HA, HF, HO⟩
    ihave HA := (all_done d i T VO SC PO q) $$ HA
    icases HA with ⟨Ht, Ho⟩
    isplitl [Hp Hs Ht Ho]
    · isplitl [Hp]; · iexact Hp
      isplitl [Hs]; · iexact Hs
      isplitl [Ht] <;> iassumption
    ihave H := (bufs_sems_in d i) $$ [HR H0 H1 HX HF]
    · isplitl [HR]; · iexact HR
      isplitl [H0 H1]
      · isplitl [H0]
        · iexists _; iexact H0
        iexists _; iexact H1
      isplitl [HX] <;> iassumption
    icases H with ⟨HB, HS⟩
    isplitl [HB]; · iexact HB
    isplitl [HS]; · iexact HS
    iexact HO

end Cert.Proof.Tile
-- ==== Proof.Launch.lean ====
/-
  The SparseCore call: what each core and each subcore is handed and brings back, each subcore's task, and how a core's
  part is dealt to its subcores.
-/
module

public import proofs.«01_k».proof.Proof.Tile
public import Idealize.ShloMosaic.Lib.SparseCore.Quiescent

@[expose] public section

noncomputable section

namespace Cert.Proof.Launch

open Cert.KernelIdeal Cert.Proof.Chunk Cert.Proof.Lists Cert.Proof.Kit Cert.Proof.Fill Cert.Proof.Gather Cert.Proof.Start Cert.Proof.Move Cert.Proof.Apply Cert.Proof.Stage Cert.Proof.Finish Cert.Proof.Steps Cert.Proof.Body Cert.Proof.Tile
open Cert.KernelIdeal.Facts₀ Cert.KernelIdeal.Facts
open Idealize.ShloMosaic Idealize.ShloMosaic.SparseCore
open Idealize.ShloMosaic.SparseCore.Cfg (HIx ownBufs ownSems0 ownCells ownRefs mem_ownCells mem_ownRefs)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F] [Cert.KernelIdeal.Facts]

local notation "𝕄" => MT nD τ sig (HIx 1) (Elt F) ℕ UU ℕ

/-! ## The launch -/

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

theorem nCore_zero : (K (F := F)).nCore 0 = 2 := rfl
theorem nSub_zero : (K (F := F)).nSub 0 = 16 := rfl

/-- The arrays of the call: the table, the scale, the positions and the output. -/
abbrev tL (d : Dev nD) : Loc nD τ sig := (SparseCore.T d).loc main_v1
abbrev sL (d : Dev nD) : Loc nD τ sig := (SparseCore.T d).loc main_v2
abbrev pL (d : Dev nD) : Loc nD τ sig := (SparseCore.T d).loc main_arg3
abbrev oL (d : Dev nD) : Loc nD τ sig := (SparseCore.T d).loc main_v3

/-! ## Cores and subcores -/

theorem two_pos : 0 < 2 := Nat.succ_pos 1
theorem sixteen_pos : 0 < 16 := Nat.succ_pos 15
/-- A core's share of an array all the cores read, and a subcore's of its core's. -/
abbrev qC (c : Fin 2) : PosShare TreeShare := pieceOf fullShare 2 two_pos c
abbrev qT (c : Fin 2) (j : Fin 16) : PosShare TreeShare := pieceOf (qC c) 16 sixteen_pos j

/-- A core's rows of the output. -/
def HC (c : ℕ) : Finset S16x1024x2x128.Idx := Finset.univ.filter fun x => 512 * c ≤ (x 1).val ∧ (x 1).val < 512 * c + 512
theorem mem_HC {c : ℕ} {x : S16x1024x2x128.Idx} : x ∈ HC c ↔ 512 * c ≤ (x 1).val ∧ (x 1).val < 512 * c + 512 := by simp [HC]

theorem out_cores : (Finset.univ : Finset S16x1024x2x128.Idx) = Finset.univ.biUnion fun c : Fin 2 => HC c.val := by
  ext x
  simp only [Finset.mem_biUnion, Finset.mem_univ, _root_.true_and, mem_HC, true_iff]
  have h : (x 1).val < 1024 := (x 1).isLt
  by_cases hx : (x 1).val < 512
  · exact ⟨0, by show 512 * 0 ≤ _; omega, by show _ < 512 * 0 + 512; omega⟩
  · exact ⟨1, by show 512 * 1 ≤ _; omega, by show _ < 512 * 1 + 512; omega⟩
theorem cores_disjoint (a b : Fin 2) (h : a ≠ b) : Disjoint (HC a.val) (HC b.val) := by
  rw [Finset.disjoint_left]
  intro x ha hb
  have ha := mem_HC.1 ha
  have hb := mem_HC.1 hb
  exact h (Fin.ext (by omega))
theorem core_subs (c : ℕ) : HC c = Finset.univ.biUnion fun j : Fin 16 => HB j.val c := by
  ext x
  simp only [Finset.mem_biUnion, Finset.mem_univ, _root_.true_and, mem_HC, mem_HB]
  constructor
  · rintro ⟨h1, h2⟩
    exact ⟨⟨(x 0).val, (x 0).isLt⟩, rfl, h1, h2⟩
  · rintro ⟨j, _, h1, h2⟩
    exact ⟨h1, h2⟩
theorem subs_disjoint (c : ℕ) (a b : Fin 16) (h : a ≠ b) : Disjoint (HB a.val c) (HB b.val c) := by
  rw [Finset.disjoint_left]
  intro x ha hb
  exact h (Fin.ext ((mem_HB.1 ha).1.symm.trans (mem_HB.1 hb).1))
theorem tab_subs : (Finset.univ : Finset S16x1024x2x128.Idx) = Finset.univ.biUnion fun j : Fin 16 => BS j.val := by
  ext x
  simp only [Finset.mem_biUnion, Finset.mem_univ, _root_.true_and, mem_BS, true_iff]
  exact ⟨⟨(x 0).val, (x 0).isLt⟩, rfl⟩
theorem tab_disjoint (a b : Fin 16) (h : a ≠ b) : Disjoint (BS a.val) (BS b.val) := by
  rw [Finset.disjoint_left]
  intro x ha hb
  exact h (Fin.ext ((mem_BS.1 ha).symm.trans (mem_BS.1 hb)))

variable (T VO : Dev nD → S16x1024x2x128.Idx → F .f32) (SC : Dev nD → S1024.Idx → F .f32) (PO : Dev nD → S1024.Idx → BitVec 32)

/-- All the call is handed, the output at `v`; a core's part; a subcore's. -/
abbrev WHOLE (d : Dev nD) (v : S16x1024x2x128.Idx → F .f32) : sProp 𝕄 :=
  iprop((pL d ↦[Finset.univ]{fullShare} (PO d)) ∗ (sL d ↦[Finset.univ]{fullShare} (SC d)) ∗ (tL d ↦[Finset.univ]{fullShare} (T d)) ∗ (oL d ↦[Finset.univ]{fullShare} v))
abbrev CORE (d : Dev nD) (v : S16x1024x2x128.Idx → F .f32) (c : Fin 2) : sProp 𝕄 :=
  iprop((pL d ↦[Finset.univ]{qC c} (PO d)) ∗ (sL d ↦[Finset.univ]{qC c} (SC d)) ∗ (tL d ↦[Finset.univ]{qC c} (T d)) ∗ (oL d ↦[HC c.val]{fullShare} v))
abbrev TILE (d : Dev nD) (v : S16x1024x2x128.Idx → F .f32) (c : Fin 2) (j : Fin 16) : sProp 𝕄 :=
  iprop((pL d ↦[Finset.univ]{qT c j} (PO d)) ∗ (sL d ↦[Finset.univ]{qT c j} (SC d)) ∗ (tL d ↦[BS j.val]{qC c} (T d)) ∗ (oL d ↦[HB j.val c.val]{fullShare} v))

theorem whole_cores (d : Dev nD) (v : S16x1024x2x128.Idx → F .f32) : WHOLE T SC PO d v = bigSep Finset.univ fun c : Fin 2 => CORE T SC PO d v c := by
  unfold WHOLE CORE
  rw [BI.bigSep_sep', BI.bigSep_sep', BI.bigSep_sep']
  rw [cut_share (ℓ := pL d) Finset.univ (PO d) two_pos fullShare, cut_share (ℓ := sL d) Finset.univ (SC d) two_pos fullShare,
    cut_share (ℓ := tL d) Finset.univ (T d) two_pos fullShare]
  rw [show (oL d ↦[Finset.univ]{fullShare} v : sProp 𝕄) = bigSep Finset.univ fun c : Fin 2 => (oL d ↦[HC c.val]{fullShare} v) from
    (congrArg (fun s => (oL d ↦[s]{fullShare} v : sProp 𝕄)) out_cores).trans (pointsTo_biUnion (ℓ := oL d) Finset.univ _ (fun a _ b _ h => cores_disjoint a b h))]

theorem core_tiles (d : Dev nD) (v : S16x1024x2x128.Idx → F .f32) (c : Fin 2) : CORE T SC PO d v c = bigSep Finset.univ fun j : Fin 16 => TILE T SC PO d v c j := by
  unfold CORE TILE
  rw [BI.bigSep_sep', BI.bigSep_sep', BI.bigSep_sep']
  rw [cut_share (ℓ := pL d) Finset.univ (PO d) sixteen_pos (qC c), cut_share (ℓ := sL d) Finset.univ (SC d) sixteen_pos (qC c)]
  rw [show (oL d ↦[HC c.val]{fullShare} v : sProp 𝕄) = bigSep Finset.univ fun j : Fin 16 => (oL d ↦[HB j.val c.val]{fullShare} v) from
    (congrArg (fun s => (oL d ↦[s]{fullShare} v : sProp 𝕄)) (core_subs c.val)).trans (pointsTo_biUnion (ℓ := oL d) Finset.univ _ (fun a _ b _ h => subs_disjoint c.val a b h)),
    show (tL d ↦[Finset.univ]{qC c} (T d) : sProp 𝕄) = bigSep Finset.univ fun j : Fin 16 => (tL d ↦[BS j.val]{qC c} (T d)) from
    (congrArg (fun s => (tL d ↦[s]{qC c} (T d) : sProp 𝕄)) tab_subs).trans (pointsTo_biUnion (ℓ := tL d) Finset.univ _ (fun a _ b _ h => tab_disjoint a b h))]

/-! ## What the call hands out -/

/-- The output of the call. -/
abbrev OV (d : Dev nD) : S16x1024x2x128.Idx → F .f32 := OUT (T d) (SC d) (PO d)

def P : (K (F := F)).Pay (nD := nD) (Val := Elt F) (Name := ℕ) (U := UU) where
  st := fun q d c => match q with | 0 => CORE T SC PO d (VO d) (Fin.cast nCore_zero c)
  dn := fun q d c => match q with | 0 => CORE T SC PO d (OV T SC PO d) (Fin.cast nCore_zero c)
  go := fun q d c j => match q with | 0 => TILE T SC PO d (VO d) (Fin.cast nCore_zero c) (Fin.cast nSub_zero j)
  td := fun q d c j => match q with | 0 => TILE T SC PO d (OV T SC PO d) (Fin.cast nCore_zero c) (Fin.cast nSub_zero j)
  x := fun _ _ => iprop(emp)

instance P_storable : (P T VO SC PO).IsStorable where
  st q d c := match q with | 0 => (inferInstance : Storable (upEmb : UEmb _ 𝕄) (CORE T SC PO d (VO d) (Fin.cast nCore_zero c)))
  dn q d c := match q with | 0 => (inferInstance : Storable (upEmb : UEmb _ 𝕄) (CORE T SC PO d (OV T SC PO d) (Fin.cast nCore_zero c)))
  go q d c j := match q with | 0 => (inferInstance : Storable (upEmb : UEmb _ 𝕄) (TILE T SC PO d (VO d) (Fin.cast nCore_zero c) (Fin.cast nSub_zero j)))
  td q d c j := match q with | 0 => (inferInstance : Storable (upEmb : UEmb _ 𝕄) (TILE T SC PO d (OV T SC PO d) (Fin.cast nCore_zero c) (Fin.cast nSub_zero j)))

/-! ## A subcore's task -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => printed (F := F) (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hPO : ∀ d x, (PO d x).toNat < 1024) : (K (F := F)).TileObl (D (F := F)) 𝒱 (P T VO SC PO) v₀ 0 := by
  intro d c j O W hO _ _
  simp only [show (P T VO SC PO).ox = fun _ _ => 0 from rfl, add_zero]
  have hci : ((K (F := F)).core 0 c).val < grid1.bound 0 ∧ ((K (F := F)).sub 0 j).val < grid1.bound 1 := ⟨c.isLt, j.isLt⟩
  change _ ⊢ wp _ _ _ (Pipeline.liftProg (defs₀ (F := F) (.scVector ((K (F := F)).core 0 c) ((K (F := F)).sub 0 j)) 1 ())) _
  refine Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body d (coordsV ⟨_, hci.1⟩ ⟨_, hci.2⟩) (T d) (VO d) (SC d) (PO d) (qC (Fin.cast nCore_zero c)) facts (hPO d)
    (qT (Fin.cast nCore_zero c) (Fin.cast nSub_zero j)) (qT (Fin.cast nCore_zero c) (Fin.cast nSub_zero j)) O W hO).trans (wp_mono frame _ _ fun _ => obl_post)

/-! ## A core's part dealt to its subcores -/

theorem bigSep_subs (Φ : Fin 16 → sProp 𝕄) : (bigSep Finset.univ fun j : Fin ((K (F := F)).nSub 0) => Φ (Fin.cast nSub_zero j)) = bigSep Finset.univ Φ :=
  bigSep_congr fun _ _ => congrArg Φ (Fin.ext rfl)
theorem bigSep_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P T VO SC PO) 0 := by
  intro d c
  show CORE T SC PO d (VO d) (Fin.cast nCore_zero c) ⊢ |={Set.univ}=> iprop(
      (bigSep Finset.univ fun j : Fin ((K (F := F)).nSub 0) => TILE T SC PO d (VO d) (Fin.cast nCore_zero c) (Fin.cast nSub_zero j))
      ∗ ((bigSep Finset.univ fun j : Fin ((K (F := F)).nSub 0) => TILE T SC PO d (OV T SC PO d) (Fin.cast nCore_zero c) (Fin.cast nSub_zero j))
          -∗ CORE T SC PO d (OV T SC PO d) (Fin.cast nCore_zero c)))
  rw [bigSep_subs (F := F) (fun j => TILE T SC PO d (VO d) (Fin.cast nCore_zero c) j), bigSep_subs (F := F) (fun j => TILE T SC PO d (OV T SC PO d) (Fin.cast nCore_zero c) j),
    ← core_tiles, ← core_tiles]
  iintro H; imodintro
  isplitl [H]; · iexact H
  iintro H
  iexact H

theorem st_eq (d : Dev nD) : (bigSep Finset.univ fun c : Fin ((K (F := F)).nCore 0) => (P T VO SC PO).st 0 d c) = WHOLE T SC PO d (VO d) :=
  (bigSep_cores (F := F) (fun c => CORE T SC PO d (VO d) c)).trans (whole_cores T SC PO d (VO d)).symm
theorem dn_eq (d : Dev nD) : (bigSep Finset.univ fun c : Fin ((K (F := F)).nCore 0) => (P T VO SC PO).dn 0 d c) = WHOLE T SC PO d (OV T SC PO d) :=
  (bigSep_cores (F := F) (fun c => CORE T SC PO d (OV T SC PO d) c)).trans (whole_cores T SC PO d (OV T SC PO d)).symm

theorem emps {I : Type} (s : Finset I) : (bigSep s fun _ => iprop(emp)) = (iprop(emp) : sProp 𝕄) := BI.bigSep_emp_const s

end Cert.Proof.Launch
-- ==== Proof.Region.lean ====
/-
  The TensorCore kernel's pipeline: what it stages, what its body leaves at every point, and what its two result
  arrays hold once it is done.
-/
module

public import proofs.«01_k».proof.Proof.Block
public import proofs.«01_k».proof.Proof.Launch
public import Idealize.ShloMosaic.Lib.Pipeline.Regions
public import Idealize.ShloMosaic.Lib.Pipeline.RegionArrays
public import Idealize.ShloMosaic.Lib.Pipeline.RegionsLoop

@[expose] public section

noncomputable section

namespace Cert.Proof.Region

open Cert.KernelIdeal Cert.KernelIdeal.Gen Cert.Proof.Kit Cert.Proof.Tile Cert.Proof.Launch Cert.Proof.Block
open Idealize.ShloMosaic Idealize.ShloMosaic.SparseCore Idealize.ShloMosaic.TcCoe Idealize.ShloMosaic.Tactic
open Idealize.ShloMosaic.Pipeline (Dat BodyObligation)
open Idealize.ShloMosaic.SparseCore.Cfg (HIx ownBufs ownSems0 ownCells ownRefs mem_ownCells mem_ownRefs)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F]

local notation "𝕄" => MT nD τ sig (HIx 1) (Elt F) ℕ UU ℕ

/-! ## The proof data -/

variable (V : (c : Dev nD) → (b : Ref sig .tc) → Buf (Elt F) ((c : Thread nD τ).loc b))

/-- The mask block and the data block point `t` stages. -/
abbrev mblk (c : Dev nD) (t : Fin cfg0.N) : Vec F S1x1x256x1024 .f32 := ((cfg0.win 0).blk t).view.read (Elt F) (V c main_arg1)
abbrev dblk (c : Dev nD) (t : Fin cfg0.N) : Vec F S1x1x256x1024 .f32 := ((cfg0.win 1).blk t).view.read (Elt F) (V c main_arg0)

/-- The column sums added up over the points so far, in the points' order. -/
def acc (c : Dev nD) : (n : ℕ) → n < cfg0.N → Vec F S1x1024 .f32
  | 0, h => rowSum (mblk V c ⟨0, h⟩)
  | n + 1, h => addf (acc c n (Nat.lt_of_succ_lt h)) (rowSum (mblk V c ⟨n + 1, h⟩))

/-- What the sum's buffer holds after a point: the sum so far, at the last point the scale. -/
def sums (c : Dev nD) (t : Fin cfg0.N) : Vec F S1x1024 .f32 :=
  if t.val = 15 then toScale (acc V c t.val t.isLt) else acc V c t.val t.isLt

def dat (c : Dev nD) : Dat τ (Elt F) (HIx 1) ℕ UU ℕ cfg0 c where
  A w := V c (Pipeline.arrRef spec0 w)
  after w t := match w with
    | ⟨0, _⟩ => mblk V c t
    | ⟨1, _⟩ => dblk V c t
    | ⟨2, _⟩ => sums V c t
    | ⟨3, _⟩ => turned (dblk V c t)
  Φ _ := Pipeline.scopedRest (Ix := HIx 1) (Name := ℕ) (U := UU) (Lvl := ℕ) (Val := Elt F) spec0 c
  q _ := fullShare
  owed _ := (K (F := F)).Otc c 0
  recorded _ := {p | p.2 = none}

theorem before_mask (c : Dev nD) (t : Fin cfg0.N) (d : (cfg0.win 0).block.Idx → Elt F (cfg0.win 0).elt) : (dat V c).before 0 t d = mblk V c t := by
  unfold Dat.before; rw [if_pos (fetch0_0 t)]; rfl
theorem before_data (c : Dev nD) (t : Fin cfg0.N) (d : (cfg0.win 1).block.Idx → Elt F (cfg0.win 1).elt) : (dat V c).before 1 t d = dblk V c t := by
  unfold Dat.before; rw [if_pos (fetch0_1 t)]; rfl

theorem live2 : ∀ i : grid0.Coords, idle0 2 i = false := by decide

theorem fetch2 (t : Fin cfg0.N) : (cfg0.win 2).fetch t = false := rfl

theorem before_sum (c : Dev nD) (t : Fin cfg0.N) (ht : t.val ≠ 0) (d : (cfg0.win 2).block.Idx → Elt F (cfg0.win 2).elt) :
    (dat V c).before 2 t d = acc V c (t.val - 1) (Nat.lt_of_le_of_lt (Nat.sub_le _ _) t.isLt) := by
  have hN : cfg0.N = 16 := N_0
  have := t.isLt
  rw [Dat.before_of_pos _ 2 t ht (fetch2 t), if_neg (by
    intro h; have := (flush0_2 _).mp h; dsimp only at this; omega)]
  unfold Dat.left
  rw [show cfg0.idle 2 _ = false from live2 _]
  show sums V c _ = _
  unfold sums
  rw [if_neg (by dsimp only; omega)]

theorem cond1 : ∀ t : Fin grid0.N, (k0_cond1 (grid0.coords t) = 1#1 ↔ t.val = 0) := by decide
theorem cond2 : ∀ t : Fin grid0.N, (k0_cond2 (grid0.coords t) = 1#1 ↔ t.val ≠ 0) := by decide
theorem cond3 : ∀ t : Fin grid0.N, (k0_cond3 (grid0.coords t) = 1#1 ↔ t.val = 15) := by decide

/-- What one point's run leaves, as the pipeline wants it. -/
theorem leave (c : Dev nD) (t : Fin cfg0.N) (f1 : Bf (F := F) c (st0_0 t)) (f2 : Bf (F := F) c (st0_1 t)) (f3 : Bf (F := F) c (st0_2 t)) (f4 : Bf (F := F) c (st0_3 t))
    (W : Bf (F := F) c (st0_2 t) × Bf (F := F) c (st0_3 t))
    (hrun : ∀ (E : Set ℕ) (Q : PUnit → sProp 𝕄),
        iprop(pt c (st0_0 t) f1 ∗ pt c (st0_1 t) f2 ∗ pt c (st0_2 t) f3 ∗ pt c (st0_3 t) f4
            ∗ (iprop(pt c (st0_0 t) f1 ∗ pt c (st0_1 t) f2 ∗ pt c (st0_2 t) W.1 ∗ pt c (st0_3 t) W.2) -∗ Q ⟨⟩))
          ⊢ wp frame (wpE (defs₀ (F := F)) Variants.none c none) E (bodyAt0 t) Q)
    (h1 : (st0_0 t).view.read (Elt F) f1 = mblk V c t) (h2 : (st0_1 t).view.read (Elt F) f2 = dblk V c t)
    (h3 : (st0_2 t).view.read (Elt F) W.1 = sums V c t) (h4 : (st0_3 t).view.read (Elt F) W.2 = turned (dblk V c t)) (R : sProp 𝕄) :
    iprop(R ∗ pt c (st0_0 t) f1 ∗ pt c (st0_1 t) f2 ∗ pt c (st0_2 t) f3 ∗ pt c (st0_3 t) f4)
      ⊢ wp frame (wpE (defs₀ (F := F)) Variants.none c none) Set.univ (bodyAt0 t) fun _ =>
        iprop(R ∗ (∃ f, ⌜(st0_0 t).view.read (Elt F) f = mblk V c t⌝ ∗ pt c (st0_0 t) f) ∗ (∃ f, ⌜(st0_1 t).view.read (Elt F) f = dblk V c t⌝ ∗ pt c (st0_1 t) f)
          ∗ (∃ f, ⌜(st0_2 t).view.read (Elt F) f = sums V c t⌝ ∗ pt c (st0_2 t) f) ∗ (∃ f, ⌜(st0_3 t).view.read (Elt F) f = turned (dblk V c t)⌝ ∗ pt c (st0_3 t) f)) := by
  iintro ⟨HR, H1, H2, H3, H4⟩
  iapply (hrun Set.univ _)
  isplitl [H1]; · iexact H1
  isplitl [H2]; · iexact H2
  isplitl [H3]; · iexact H3
  isplitl [H4]; · iexact H4
  iintro ⟨H1, H2, H3, H4⟩
  isplitl [HR]; · iexact HR
  isplitl [H1]; · iexists f1; isplitr; swap; (· iexact H1); ipureintro; exact h1
  isplitl [H2]; · iexists f2; isplitr; swap; (· iexact H2); ipureintro; exact h2
  isplitl [H3]; · iexists W.1; isplitr; swap; (· iexact H3); ipureintro; exact h3
  iexists W.2; isplitr; swap; (· iexact H4); ipureintro; exact h4

/-- One point, whichever kind it is. -/
theorem point (c : Dev nD) (t : Fin cfg0.N) (f1 : Bf (F := F) c (st0_0 t)) (f2 : Bf (F := F) c (st0_1 t)) (f3 : Bf (F := F) c (st0_2 t)) (f4 : Bf (F := F) c (st0_3 t))
    (h1 : (st0_0 t).view.read (Elt F) f1 = mblk V c t) (h2 : (st0_1 t).view.read (Elt F) f2 = dblk V c t)
    (h3 : ∀ ht : t.val ≠ 0, (st0_2 t).view.read (Elt F) f3 = acc V c (t.val - 1) (Nat.lt_of_le_of_lt (Nat.sub_le _ _) t.isLt)) (R : sProp 𝕄) :
    iprop(R ∗ pt c (st0_0 t) f1 ∗ pt c (st0_1 t) f2 ∗ pt c (st0_2 t) f3 ∗ pt c (st0_3 t) f4)
      ⊢ wp frame (wpE (defs₀ (F := F)) Variants.none c none) Set.univ (bodyAt0 t) fun _ =>
        iprop(R ∗ (∃ f, ⌜(st0_0 t).view.read (Elt F) f = mblk V c t⌝ ∗ pt c (st0_0 t) f) ∗ (∃ f, ⌜(st0_1 t).view.read (Elt F) f = dblk V c t⌝ ∗ pt c (st0_1 t) f)
          ∗ (∃ f, ⌜(st0_2 t).view.read (Elt F) f = sums V c t⌝ ∗ pt c (st0_2 t) f) ∗ (∃ f, ⌜(st0_3 t).view.read (Elt F) f = turned (dblk V c t)⌝ ∗ pt c (st0_3 t) f)) := by
  have hN : cfg0.N = 16 := N_0
  have hstep : ∀ ht : t.val ≠ 0, addf ((st0_2 t).view.read (Elt F) f3) (rowSum ((st0_0 t).view.read (Elt F) f1)) = acc V c t.val t.isLt := fun ht => by
    rw [h3 ht, h1]
    obtain ⟨n, hn⟩ := t
    cases n with
    | zero => exact absurd rfl ht
    | succ n => rfl
  by_cases h0 : t.val = 0
  · have c1 := (cond1 t).mpr h0
    have c2 : ¬ k0_cond2 (grid0.coords t) = 1#1 := fun h => (cond2 t).mp h h0
    have c3 : ¬ k0_cond3 (grid0.coords t) = 1#1 := fun h => by have := (cond3 t).mp h; omega
    refine leave V c t f1 f2 f3 f4 _ (runA c (grid0.coords t) _ _ _ _ _ _ _ _ f1 f2 c1 c2 c3 f3 f4).2 h1 h2 ?_ ?_ R
    · rw [runA_sum, h1]
      unfold sums; rw [if_neg (by omega)]
      obtain ⟨n, hn⟩ := t
      obtain rfl : n = 0 := h0
      rfl
    · rw [runA_turned, h2]
  · have c1 : ¬ k0_cond1 (grid0.coords t) = 1#1 := fun h => h0 ((cond1 t).mp h)
    have c2 := (cond2 t).mpr h0
    by_cases h15 : t.val = 15
    · refine leave V c t f1 f2 f3 f4 _ (runC c (grid0.coords t) _ _ _ _ _ _ _ _ f1 f2 c1 c2 ((cond3 t).mpr h15) f3 f4).2 h1 h2 ?_ ?_ R
      · rw [runC_sum, hstep h0]
        unfold sums; rw [if_pos h15]
      · rw [runC_turned, h2]
    · refine leave V c t f1 f2 f3 f4 _ (runB c (grid0.coords t) _ _ _ _ _ _ _ _ f1 f2 c1 c2 (fun h => h15 ((cond3 t).mp h)) f3 f4).2 h1 h2 ?_ ?_ R
      · rw [runB_sum, hstep h0]
        unfold sums; rw [if_neg h15]
      · rw [runB_turned, h2]

theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [Memref.IsWhole.set_eq_univ h]

theorem body_obligation (c : Dev nD) : BodyObligation (dat V c) (defs₀ (F := F)) Variants.none none Set.univ := fun t => by
  rw [bigSep_W0, bigSep_W0]
  rw [show (dat V c).Φ t.succ = (dat V c).Φ t.castSucc from rfl, show (dat V c).owesAt none t.succ = (dat V c).owesAt none t.castSucc from rfl]
  dsimp only
  rw [live2]
  dsimp only
  simp only [owns_pt c (stage0_0 (cfg0.slots t 0)) (hstage0_0 _), owns_pt c (stage0_1 (cfg0.slots t 1)) (hstage0_1 _), owns_pt c (stage0_2 (cfg0.slots t 2)) (hstage0_2 _), owns_pt c (stage0_3 (cfg0.slots t 3)) (hstage0_3 _)]
  iintro ⟨HΦ, Howes, ⟨%d0, %f0, %hf0, H0⟩, ⟨%d1, %f1, %hf1, H1⟩, ⟨%d2, %f2, %hf2, H2⟩, ⟨%d3, %f3, -, H3⟩⟩
  rw [before_mask] at hf0
  rw [before_data] at hf1
  have hf2' : ∀ ht : t.val ≠ 0, (st0_2 t).view.read (Elt F) f2 = acc V c (t.val - 1) (Nat.lt_of_le_of_lt (Nat.sub_le _ _) t.isLt) := fun ht => hf2.trans (before_sum V c t ht d2)
  have H := point V c t f0 f1 f2 f3 hf0 hf1 hf2' iprop((dat V c).Φ t.castSucc ∗ (dat V c).owesAt none t.castSucc)
  iapply (show _ ⊢ _ from H.trans (wp_mono _ _ _ fun _ => ?_)) $$ [HΦ Howes H0 H1 H2 H3]
  · iintro ⟨⟨HΦ, Howes⟩, H0, H1, H2, H3⟩
    isplitl [HΦ]; · iexact HΦ
    isplitl [Howes]; · iexact Howes
    isplitl [H0]; · iexact H0
    isplitl [H1]; · iexact H1
    isplitl [H2]; · iexact H2
    iexact H3
  · isplitl [HΦ Howes]; · isplitl [HΦ] <;> iassumption
    isplitl [H0]; · iexact H0
    isplitl [H1]; · iexact H1
    isplitl [H2]; · iexact H2
    iexact H3

/-! ## The result arrays once the pipeline is done -/

abbrev tLast : Fin cfg0.N := t0_15

/-- The scale array: the one write-back, at the last point, covers it. -/
def scaleArr (c : Dev nD) : Buf (Elt F) ((c : Thread nD τ).loc main_v0_0) := toScale (acc V c 15 (by rw [show cfg0.N = 16 from N_0]; decide))

theorem flushed2 (c : Dev nD) (t : Fin cfg0.N) (hf : (cfg0.win 2).flush t = true) :
    (dat V c).flushed 2 t = ((cfg0.win 2).blk t).view.read (Elt F) (scaleArr V c) := by
  have hN : cfg0.N = 16 := N_0
  have h15 : t.val = 15 := by have := (flush0_2 t).mp hf; have := t.isLt; omega
  obtain rfl : t = t0_15 := Fin.ext h15
  show sums V c t0_15 = _
  rw [show sums V c t0_15 = scaleArr V c from if_pos h15]
  have hz' : (fun a => win0_2.index t0_15 a * main_v0_0.ty.shape.size a) = fun _ => 0 := funext fun a => by fin_cases a <;> decide
  exact (Memref.read_access_unit_zero (Elt F) main_v0_0 hz' (fun a => by rw [congrFun hz' a]; simp) (scaleArr V c)).symm

theorem final2 (c : Dev nD) : (dat V c).arrAt 2 cfg0.N = scaleArr V c :=
  (dat V c).arrAt_eq_of_cover 2 (scaleArr V c) (flushed2 V c) fun i =>
    ⟨t0_15, (flush0_2 t0_15).mpr rfl, by
      show i ∈ ((View.whole main_v0_0).slice (win0_2.rect t0_15)).set
      rw [View.set_slice_whole, Rect.mem_set_unit]
      intro a
      have h0 : (i 0 : Nat) < 1 := (i 0).isLt
      have h1 : (i 1 : Nat) < 1024 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1024 from by decide +kernel]; omega⟩

theorem ix3 : ∀ t : Fin grid0.N, win0_3.index t 0 = t.val ∧ win0_3.index t 1 = 0 ∧ win0_3.index t 2 = 0 := by decide
theorem ix1 : ∀ t : Fin grid0.N, win0_1.index t 0 = t.val ∧ win0_1.index t 1 = 7 ∧ win0_1.index t 2 = 0 ∧ win0_1.index t 3 = 0 := by decide
theorem ix0 : ∀ t : Fin grid0.N, win0_0.index t 0 = t.val ∧ win0_0.index t 1 = 7 ∧ win0_0.index t 2 = 0 ∧ win0_0.index t 3 = 0 := by decide

theorem hb16 (n : Fin 16) : n.val < cfg0.N := by rw [show cfg0.N = 16 from N_0]; exact n.isLt

/-- The turned slabs, one per batch. -/
def slabs (c : Dev nD) : Buf (Elt F) ((c : Thread nD τ).loc main_v0_1) :=
  fun j : S16x1024x256.Idx => turned (dblk V c ⟨(j 0).val, hb16 (j 0)⟩) (fun a => match a with | ⟨0, _⟩ => (0 : Fin 1) | ⟨1, _⟩ => j 1 | ⟨2, _⟩ => j 2)

theorem flushed3 (c : Dev nD) (t : Fin cfg0.N) (hf : (cfg0.win 3).flush t = true) :
    (dat V c).flushed 3 t = ((cfg0.win 3).blk t).view.read (Elt F) (slabs V c) := by
  show turned (dblk V c t) = _
  funext j
  obtain ⟨e0, e1, e2⟩ := ix3 t
  rw [View.read_apply]
  unfold slabs
  refine (Eq.symm (cast_eq _ _) : turned (dblk V c t) j = cast rfl (turned (dblk V c t) j)).trans ?_
  have c0 : (((cfg0.win 3).blk t).view.emb j 0).val = t.val := by
    show win0_3.index t 0 * 1 + 1 * (j 0 : Nat) = t.val
    have h0 : (j 0 : Nat) < 1 := (j 0).isLt
    rw [e0]; omega
  have c1 : ((cfg0.win 3).blk t).view.emb j 1 = j 1 := Fin.ext (by
    show win0_3.index t 1 * 1024 + 1 * (j 1 : Nat) = (j 1 : Nat)
    rw [e1]; omega)
  have c2 : ((cfg0.win 3).blk t).view.emb j 2 = j 2 := Fin.ext (by
    show win0_3.index t 2 * 256 + 1 * (j 2 : Nat) = (j 2 : Nat)
    rw [e2]; omega)
  refine congrArg (cast rfl) (congrArg₂ (fun (u : Fin cfg0.N) (x : S1x1024x256.Idx) => turned (dblk V c u) x) (Fin.ext c0.symm) (funext fun a => ?_))
  match a with
  | ⟨0, _⟩ => exact Subsingleton.elim (α := Fin 1) _ _
  | ⟨1, _⟩ => exact c1.symm
  | ⟨2, _⟩ => exact c2.symm

theorem final3 (c : Dev nD) : (dat V c).arrAt 3 cfg0.N = slabs V c :=
  (dat V c).arrAt_eq_of_cover 3 (slabs V c) (flushed3 V c) fun i =>
    ⟨⟨(i 0).val, hb16 (i 0)⟩, flush0_3 _, by
      show i ∈ ((View.whole main_v0_1).slice (win0_3.rect ⟨(i 0).val, hb16 (i 0)⟩)).set
      rw [View.set_slice_whole, Rect.mem_set_unit]
      intro a
      have h1 : (i 1 : Nat) < 1024 := (i 1).isLt
      have h2 : (i 2 : Nat) < 256 := (i 2).isLt
      obtain ⟨e0, e1, e2⟩ := ix3 ⟨(i 0).val, hb16 (i 0)⟩
      match a with
      | ⟨0, _⟩ => show win0_3.index ⟨(i 0).val, hb16 (i 0)⟩ 0 * 1 ≤ (i 0 : Nat) ∧ (i 0 : Nat) < win0_3.index ⟨(i 0).val, hb16 (i 0)⟩ 0 * 1 + 1
                  rw [e0]; dsimp only; omega
      | ⟨1, _⟩ => show win0_3.index ⟨(i 0).val, hb16 (i 0)⟩ 1 * 1024 ≤ (i 1 : Nat) ∧ (i 1 : Nat) < win0_3.index ⟨(i 0).val, hb16 (i 0)⟩ 1 * 1024 + 1024
                  rw [e1]; omega
      | ⟨2, _⟩ => show win0_3.index ⟨(i 0).val, hb16 (i 0)⟩ 2 * 256 ≤ (i 2 : Nat) ∧ (i 2 : Nat) < win0_3.index ⟨(i 0).val, hb16 (i 0)⟩ 2 * 256 + 256
                  rw [e2]; omega⟩

/-! ## The pipeline as one step of the program -/

/-- The one configuration of the program's one pipeline. -/
abbrev adm (p : Fin 1) : (pcfgs (F := F) p).Adm := (cfgs p).toPCfg_adm

/-- The proof data of the program's one pipeline, on every core. -/
def pdats (p : Fin 1) (c : Dev nD) : Dat τ (Elt F) (HIx 1) ℕ UU ℕ (Pipeline.pin (pcfgs (F := F)) adm p) c := dat V c

/-- Every recorded pair a TensorCore may have before the first call is at the index no call uses. -/
theorem none_of_below (c : Dev nD) (W : Waits sig (HIx 1)) (h : (K (F := F)).WBelow (SparseCore.T c) W 0) : ∀ p ∈ W, p.2 = none := fun p hp => by
  have := h p hp
  rcases p with ⟨s, _ | q⟩
  · rfl
  · exact absurd this (by have := (K (F := F)).lev_some_pos (SparseCore.T c, s) q; dsimp only; omega)
theorem below_of_none (c : Dev nD) (W : Waits sig (HIx 1)) (h : ∀ p ∈ W, p.2 = none) : (K (F := F)).WBelow (SparseCore.T c) W 0 := fun p hp => by
  rw [h p hp]; exact le_of_eq rfl

variable (Vp : (c : Dev nD) → (b : Ref sig .tc) → Buf (Elt F) ((c : Thread nD τ).loc b))

-- the lemmas over a pinned configuration apply here only when unification may unfold plain definitions in a type
set_option backward.isDefEq.respectTransparency.types false in
/-- The pipeline takes the unscoped buffers from `V` to `Vp`, owing what the core owes its SparseCores meanwhile. -/
def reg (hVp2 : ∀ c, Vp c main_v0_0 = scaleArr V c) (hVp3 : ∀ c, Vp c main_v0_1 = slabs V c)
    (hVp : ∀ c (b : Ref sig .tc), b ≠ main_v0_0 → b ≠ main_v0_1 → Vp c b = V c b) :
    Pipeline.RegionSeg (pcfgs (F := F)) adm (pdats V) none defs₀ Variants.none (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_of_eq rfl)
    (fun g i h => ⟨Finset.mem_univ _, lt_of_lt_of_le (Nat.succ_pos _) (SparseCore.Cfg.lev_of_Otc_pos h)⟩)
  pre c := iprop(unscopedBufs c (V c) ∗ ∃ W, ⌜(K (F := F)).WBelow (SparseCore.T c) W 0⌝ ∗ owes (c : Thread nD τ) ((K (F := F)).Otc c 0) W)
  post c := iprop(unscopedBufs c (Vp c) ∗ ∃ W, ⌜(K (F := F)).WBelow (SparseCore.T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W
      isplitr
      · ipureintro; exact fun p hp => Or.inl (none_of_below c W hW p hp)
      iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        match w with
        | ⟨0, _⟩ => exact ((pdats V 0 c).arrAt_in 0 rfl _).trans (hVp c main_arg1 (by decide) (by decide)).symm
        | ⟨1, _⟩ => exact ((pdats V 0 c).arrAt_in 1 rfl _).trans (hVp c main_arg0 (by decide) (by decide)).symm
        | ⟨2, _⟩ => exact (final2 V c).trans (hVp2 c).symm
        | ⟨3, _⟩ => exact (final3 V c).trans (hVp3 c).symm)
      (fun b hb => hVp c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro; exact below_of_none c W fun p hp => (hW hp).elim id fun h => by obtain ⟨w, s, rfl⟩ := h; rfl
    iexact HO

end Cert.Proof.Region
-- ==== Proof.Run.lean ====
/-
  The program on the TensorCore: the pipeline, the two reshapes, the SparseCore call, the reshape and the transpose,
  and from it the run of the whole program: what the result holds, and that the arguments are unchanged.
-/
module

public import proofs.«01_k».proof.Proof.Region

@[expose] public section

noncomputable section

namespace Cert.Proof.Run

open Cert.KernelIdeal Cert.KernelIdeal.Gen Cert.Proof.Kit Cert.Proof.Tile Cert.Proof.Launch Cert.Proof.Block Cert.Proof.Region
open Idealize.ShloMosaic Idealize.ShloMosaic.SparseCore Idealize.ShloMosaic.TcCoe Idealize.ShloMosaic.Tactic
open Idealize.ShloMosaic.StableHlo (held wp_hlo_within)
open Idealize.ShloMosaic.Rounds
open Idealize.ShloMosaic.SparseCore.Cfg (HIx ownBufs ownSems0 ownCells ownRefs mem_ownCells mem_ownRefs)
open Idealize.SL
open Idealize.SL.BI (sProp Storable bigSep bigSep_congr)
open scoped Idealize.SL.BI
open Idealize.SL.BI.BIBase Idealize.SL.BI.Laws Idealize.SL.Sem Idealize.SL.ProofMode
open Idealize.SL.RA

variable {F : FTy → Type} [FloatOps F]

local notation "𝕄" => MT nD τ sig (HIx 1) (Elt F) ℕ UU ℕ

/-! ## The ghost state the launch starts from -/

abbrev EP : Emb UP (MT nD τ sig (HIx 1) (Elt F) ℕ UU ℕ) := (Emb.inl : Emb UP (UP × Counters)).trans embR

def u₀ : UU := (initOf (K (F := F)).hsCells (K (F := F)).hsToks, (initOf (Pipeline.cells (nD := nD) (τ := τ) cfgs cellOf_inj) (Pipeline.launchToks (nD := nD) (τ := τ) cfgs cellOf_inj), 1))

/-- The pipeline's share of it, on one core. -/
def G (d : Dev nD) : sProp 𝕄 := iprop(Pipeline.cellsGhost cfgs (EP (F := F)) 0 d ∗ Pipeline.toksInit cfgs (EP (F := F)) 0 d)

section Hu

variable (T : (d : Dev nD) → Buf (Elt F) (tL d)) (VO : (d : Dev nD) → Buf (Elt F) (oL d)) (SC : (d : Dev nD) → Buf (Elt F) (sL d)) (PO : (d : Dev nD) → Buf (Elt F) (pL d))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P T VO SC PO).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost cfgs (EP (F := F)) cellOf_inj) $$ HP with ⟨Hg, Ht⟩
  imodintro
  isplitl [HH]; · iexact HH
  isplitl [Hg Ht]
  · rw [show (G (F := F)) = fun d => iprop(Pipeline.cellsGhost cfgs (EP (F := F)) 0 d ∗ Pipeline.toksInit cfgs (EP (F := F)) 0 d) from rfl, BI.bigSep_sep',
      show (bigSep Finset.univ fun d : Dev nD => (Pipeline.cellsGhost cfgs (EP (F := F)) 0 d : sProp 𝕄)) = bigSep Finset.univ fun d : Dev nD => bigSep Finset.univ fun p => Pipeline.cellsGhost cfgs (EP (F := F)) p d from
        bigSep_congr fun d _ => (BI.bigSep_univ_of_subsingleton (Φ := fun p : Fin 1 => (Pipeline.cellsGhost cfgs (EP (F := F)) p d : sProp 𝕄)) 0).symm,
      show (bigSep Finset.univ fun d : Dev nD => (Pipeline.toksInit cfgs (EP (F := F)) 0 d : sProp 𝕄)) = bigSep Finset.univ fun d : Dev nD => bigSep Finset.univ fun p => Pipeline.toksInit cfgs (EP (F := F)) p d from
        bigSep_congr fun d _ => (BI.bigSep_univ_of_subsingleton (Φ := fun p : Fin 1 => (Pipeline.toksInit cfgs (EP (F := F)) p d : sProp 𝕄)) 0).symm]
    isplitl [Hg]; · iexact Hg
    iexact Ht
  rw [show (bigSep Finset.univ fun thr : Thread nD τ => bigSep Finset.univ fun q : Fin 1 => (P T VO SC PO).x q thr) = bigSep Finset.univ fun _ => iprop(emp) from
    bigSep_congr fun _ _ => BI.bigSep_univ_of_subsingleton (0 : Fin 1), emps]
  iempintro

end Hu

/-! ## The arrays of the program -/

abbrev rf (b : Ref sig .tc) : DevRef τ sig := Proc.devRef .tc b
abbrev S11 : Finset (DevRef τ sig) := {rf main_arg0, rf main_arg1, rf main_arg2, rf main_arg3, rf main_v0_0, rf main_v0_1, rf main_v1, rf main_v2, rf main_v3, rf main_v4, rf main_v5}

abbrev op1 : HloOp τ sig (Elt F) := StableHlo.reshape main_v0_1 main_v1 (rfl : (.f32 : EltTy) = .f32) shapeCasts_S16x1024x256_S16x1024x2x128
abbrev op2 : HloOp τ sig (Elt F) := StableHlo.reshape main_v0_0 main_v2 (rfl : (.f32 : EltTy) = .f32) shapeCasts_S1x1024_S1024
abbrev op3 : HloOp τ sig (Elt F) := StableHlo.reshape main_v3 main_v4 (rfl : (.f32 : EltTy) = .f32) shapeCasts_S16x1024x2x128_S16x32x32x256
abbrev op4 : HloOp τ sig (Elt F) := StableHlo.unary main_v4 main_v5 ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F))

abbrev at' (d : Dev nD) (b : Ref sig .tc) (v : Buf (Elt F) ((SparseCore.T d : Thread nD τ).loc b)) : sProp 𝕄 := (SparseCore.T d).loc b ↦{fullShare} v

theorem held_S11 (d : Dev nD) (W : Valuation τ sig (Elt F)) :
    (held (SparseCore.T d) S11 W : sProp 𝕄)
      = iprop(at' d main_arg0 (W (rf main_arg0)) ∗ at' d main_arg1 (W (rf main_arg1)) ∗ at' d main_arg2 (W (rf main_arg2)) ∗ at' d main_arg3 (W (rf main_arg3))
          ∗ at' d main_v0_0 (W (rf main_v0_0)) ∗ at' d main_v0_1 (W (rf main_v0_1)) ∗ at' d main_v1 (W (rf main_v1)) ∗ at' d main_v2 (W (rf main_v2))
          ∗ at' d main_v3 (W (rf main_v3)) ∗ at' d main_v4 (W (rf main_v4)) ∗ at' d main_v5 (W (rf main_v5))) := by
  unfold held S11
  iterate 10 rw [SparseCore.bigSep_insert' (by decide)]
  rw [BI.bigSep_singleton]

theorem unscoped_held (d : Dev nD) (W : Valuation τ sig (Elt F)) :
    (unscopedBufs d (fun b => W (rf b)) : sProp 𝕄) = held (SparseCore.T d) S11 W := by
  rw [held_S11]
  unfold unscopedBufs
  rw [show (Finset.univ.filter fun b : Ref sig .tc => ¬ b.isScoped) = {main_arg0, main_arg1, main_arg2, main_arg3, main_v0_0, main_v0_1, main_v1, main_v2, main_v3, main_v4, main_v5} by decide]
  iterate 10 rw [SparseCore.bigSep_insert' (by decide)]
  rw [BI.bigSep_singleton]

variable (m : (ℓ : Loc nD τ sig) → Buf (Elt F) ℓ) (ρ : Dev nD → PrngReg)

/-- What the arrays hold: at the launch, after the pipeline, and before the call. -/
def V0 (d : Dev nD) : Valuation τ sig (Elt F) := fun b => m (d, b)
abbrev Vr (c : Dev nD) (b : Ref sig .tc) : Buf (Elt F) ((c : Thread nD τ).loc b) := V0 m c (rf b)
def V1 (d : Dev nD) : Valuation τ sig (Elt F) :=
  Function.update (Function.update (V0 m d) (rf main_v0_0) (scaleArr (Vr m) d)) (rf main_v0_1) (slabs (Vr m) d)
def V2 (d : Dev nD) : Valuation τ sig (Elt F) := (op1 (F := F)).result (V1 m d)
def V3 (d : Dev nD) : Valuation τ sig (Elt F) := (op2 (F := F)).result (V2 m d)

abbrev Tb (d : Dev nD) : Buf (Elt F) (tL d) := V3 m d (rf main_v1)
abbrev Sb (d : Dev nD) : Buf (Elt F) (sL d) := V3 m d (rf main_v2)
abbrev Pb (d : Dev nD) : Buf (Elt F) (pL d) := V3 m d (rf main_arg3)
abbrev Ob (d : Dev nD) : Buf (Elt F) (oL d) := V3 m d (rf main_v3)
abbrev PP : (K (F := F)).Pay (nD := nD) (Val := Elt F) (Name := ℕ) (U := UU) := P (Tb m) (Ob m) (Sb m) (Pb m)

/-- After the call, and at the end. -/
def V4 (d : Dev nD) : Valuation τ sig (Elt F) := Function.update (V3 m d) (rf main_v3) (OV (Tb m) (Sb m) (Pb m) d)
def V5 (d : Dev nD) : Valuation τ sig (Elt F) := (op3 (F := F)).result (V4 m d)
def V6 (d : Dev nD) : Valuation τ sig (Elt F) := (op4 (F := F)).result (V5 m d)

theorem V3_of (d : Dev nD) (b : DevRef τ sig) (h0 : b ≠ rf main_v0_0) (h1 : b ≠ rf main_v0_1) (h2 : b ≠ rf main_v1) (h3 : b ≠ rf main_v2) : V3 m d b = m (d, b) := by
  unfold V3 V2 V1
  rw [(op2 (F := F)).result_of_not_mem _ (show b ∉ ({rf main_v2} : Finset (DevRef τ sig)) from fun h => h3 (Finset.mem_singleton.mp h)),
    (op1 (F := F)).result_of_not_mem _ (show b ∉ ({rf main_v1} : Finset (DevRef τ sig)) from fun h => h2 (Finset.mem_singleton.mp h)),
    Function.update_of_ne h1, Function.update_of_ne h0]
  rfl
theorem V6_of (d : Dev nD) (b : DevRef τ sig) (h4 : b ≠ rf main_v3) (h5 : b ≠ rf main_v4) (h6 : b ≠ rf main_v5) : V6 m d b = V3 m d b := by
  unfold V6 V5 V4
  rw [(op4 (F := F)).result_of_not_mem _ (show b ∉ ({rf main_v5} : Finset (DevRef τ sig)) from fun h => h6 (Finset.mem_singleton.mp h)),
    (op3 (F := F)).result_of_not_mem _ (show b ∉ ({rf main_v4} : Finset (DevRef τ sig)) from fun h => h5 (Finset.mem_singleton.mp h)),
    Function.update_of_ne h4]
theorem V6_arg (d : Dev nD) (b : DevRef τ sig) (h0 : b ≠ rf main_v0_0) (h1 : b ≠ rf main_v0_1) (h2 : b ≠ rf main_v1) (h3 : b ≠ rf main_v2)
    (h4 : b ≠ rf main_v3) (h5 : b ≠ rf main_v4) (h6 : b ≠ rf main_v5) : V6 m d b = m (d, b) :=
  (V6_of m d b h4 h5 h6).trans (V3_of m d b h0 h1 h2 h3)

theorem V4_self (d : Dev nD) : V4 m d (rf main_v3) = OV (Tb m) (Sb m) (Pb m) d := Function.update_self _ _ _
theorem V4_ne (d : Dev nD) (b : DevRef τ sig) (h : b ≠ rf main_v3) : V4 m d b = V3 m d b := Function.update_of_ne h _ _

theorem h1s : (op1 (F := F)).bufs ⊆ S11 := show ({rf main_v0_1, rf main_v1} : Finset (DevRef τ sig)) ⊆ S11 by decide
theorem h2s : (op2 (F := F)).bufs ⊆ S11 := show ({rf main_v0_0, rf main_v2} : Finset (DevRef τ sig)) ⊆ S11 by decide
theorem h3s : (op3 (F := F)).bufs ⊆ S11 := show ({rf main_v3, rf main_v4} : Finset (DevRef τ sig)) ⊆ S11 by decide
theorem h4s : (op4 (F := F)).bufs ⊆ S11 := show ({rf main_v4, rf main_v5} : Finset (DevRef τ sig)) ⊆ S11 by decide

theorem rf_inj {a b : Ref sig .tc} (h : rf a = rf b) : a = b := Proc.devRef_injective _ h

/-- The pipeline as one step. -/
def stepReg : Pipeline.RegionSeg (pcfgs (F := F)) adm (pdats (Vr m)) none defs₀ Variants.none (K (F := F)).L (K (F := F)).lev 0 :=
  reg (Vr m) (fun c b => V1 m c (rf b))
    (fun c => (Function.update_of_ne (show rf main_v0_0 ≠ rf main_v0_1 by decide) _ _).trans (Function.update_self _ _ _))
    (fun c => Function.update_self _ _ _)
    (fun c b h0 h1 => (Function.update_of_ne (fun h => h1 (rf_inj h)) _ _).trans (Function.update_of_ne (fun h => h0 (rf_inj h)) _ _))

theorem stepReg_pre (c : Dev nD) : (stepReg m).pre c = iprop(unscopedBufs c (Vr m c) ∗ ∃ W, ⌜(K (F := F)).WBelow (SparseCore.T c) W 0⌝ ∗ owes (c : Thread nD τ) ((K (F := F)).Otc c 0) W) := rfl
theorem stepReg_post (c : Dev nD) : (stepReg m).post c = iprop(unscopedBufs c (fun b => V1 m c (rf b)) ∗ ∃ W, ⌜(K (F := F)).WBelow (SparseCore.T c) W 0⌝ ∗ owes (c : Thread nD τ) ((K (F := F)).Otc c 0) W) := rfl

theorem lift_entry : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

/-- The arrays at `W`, and what the core owes its SparseCores before the call. -/
abbrev st0 (d : Dev nD) (W : Valuation τ sig (Elt F)) : sProp 𝕄 :=
  iprop(held (SparseCore.T d) S11 W ∗ ∃ W', ⌜(K (F := F)).WBelow (SparseCore.T d) W' 0⌝ ∗ owes (SparseCore.T d : Thread nD τ) ((K (F := F)).Otc d 0) W')

theorem wp_region [∀ e, Nonempty (Elt F e)] (d : Dev nD) (Φ : PUnit → sProp 𝕄) :
    iprop((iprop(boundary (SparseCore.T d : Thread nD τ) ∗ st0 d (V1 m d)) -∗ Φ ⟨⟩)
        ∗ boundary (SparseCore.T d : Thread nD τ) ∗ st0 d (V0 m d) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Φ := by
  rw [lift_entry]
  have h := Pipeline.RegionSeg.wp (pcfgs (F := F)) adm (pdats (Vr m)) none cellOf_inj (EP (F := F)) defs₀ Variants.none (K (F := F)).L (K (F := F)).lev (stepReg m) d none
    (fun u hu => nomatch hu) (.ret) Φ
  rw [stepReg_pre, stepReg_post, unscoped_held, show Vr m d = fun b => V0 m d (rf b) from rfl, unscoped_held] at h
  have key : iprop((iprop(boundary (SparseCore.T d : Thread nD τ) ∗ st0 d (V1 m d)) -∗ Φ ⟨⟩)
        ∗ boundary (SparseCore.T d : Thread nD τ) ∗ st0 d (V0 m d) ∗ levAts (K (F := F)).L (K (F := F)).lev ∗ G (F := F) d)
      ⊢ iprop((iprop(boundary (SparseCore.T d : Thread nD τ) ∗ st0 d (V1 m d)) -∗ wp frame (wpE (D (F := F)) 𝒱 (SparseCore.T d) none) Set.univ (.ret PUnit.unit) Φ)
        ∗ boundary (SparseCore.T d : Thread nD τ) ∗ st0 d (V0 m d) ∗ levAts (K (F := F)).L (K (F := F)).lev
        ∗ Pipeline.cellsGhost cfgs (EP (F := F)) 0 d ∗ Pipeline.toksInit cfgs (EP (F := F)) 0 d) := by
    unfold G
    iintro ⟨Hk, Hb, Hp, Hl, Hg, Ht⟩
    isplitl [Hk]
    · iintro H
      rw [wp_ret]; imodintro
      iapply Hk; iexact H
    isplitl [Hb]; · iexact Hb
    isplitl [Hp]; · iexact Hp
    isplitl [Hl]; · iexact Hl
    isplitl [Hg]; · iexact Hg
    iexact Ht
  exact (key.trans h).trans ((K (F := F)).wp_liftProg (D (F := F)) 𝒱 (SparseCore.T d) Set.univ none (.op (.customCall (Pipeline.entry 0) ()) .ret) Φ)

/-! ## @main -/

/-- What is left at the end: the arrays at their last contents. -/
abbrev FIN (d : Dev nD) : sProp 𝕄 := held (SparseCore.T d) S11 (V6 m d)

theorem tcSt_one (d : Dev nD) : ((K (F := F)).tcSt EH d ((0 : Fin 1).val + 1) : sProp 𝕄)
    = iprop((∃ W, ⌜(K (F := F)).WBelow (SparseCore.T d) W (8 * SparseCore.Cfg.Blocks.fst 1 1 1)⌝ ∗ owes (SparseCore.T d) ((K (F := F)).Otc d 1) W)
    ∗ atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1))) := rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S11 (V0 m d) from unscoped_held d (V0 m d)]
  simp only [main, wp_bind, wp_pure]
  iintro ⟨#Hctx, Hst, ⟨Hb, Hheld, Hts, -⟩, HG⟩
  -- the pipeline
  unfold SparseCore.Cfg.tcSt
  icases Hst with ⟨HO, Hrest⟩
  ihave #Hlev := (show (K (F := F)).ctx EH (PP m) κ ⊢ levAts (K (F := F)).L (K (F := F)).lev from sep_elim_left) $$ Hctx
  iapply (wp_region m d _)
  isplitl [Hrest Hts]
  swap
  · isplitl [Hb]; · iexact Hb
    isplitl [Hheld HO]
    · isplitl [Hheld]; · iexact Hheld
      iexact HO
    isplitr; · iexact Hlev
    iexact HG
  iintro ⟨Hb, Hheld, HO⟩
  -- the two reshapes
  iapply (wp_hlo_within 𝒱 (SparseCore.T d) none Set.univ (op := op1) (S := S11) h1s (V := V1 m d)) $$ [Hb Hheld]
  · isplitl [Hb] <;> iassumption
  iintro ⟨Hb, Hheld⟩
  rw [wp_ret]; imodintro
  iapply (wp_hlo_within 𝒱 (SparseCore.T d) none Set.univ (op := op2) (S := S11) h2s (V := V2 m d)) $$ [Hb Hheld]
  · isplitl [Hb]; · iexact Hb
    iexact Hheld
  iintro ⟨Hb, Hheld⟩
  rw [wp_ret]; imodintro
  -- the call
  ihave Hh := (show (held (SparseCore.T d) S11 ((op2 (F := F)).result (V2 m d)) : sProp 𝕄) ⊢ _ from Entails.of_eq (held_S11 (F := F) d (V3 m d))) $$ Hheld
  icases Hh with ⟨H0, H1, H2, H3, H4, H5, H6, H7, H8, H9, H10⟩
  iapply ((K (F := F)).wp_run (D (F := F)) 𝒱 (EH := EH) (P := PP m) κ d 0) $$ [HO Hrest H0 H1 H2 H3 H4 H5 H6 H7 H8 H9 H10 Hb Hts]
  isplitr; · iexact Hctx
  isplitl [HO Hrest]
  · unfold SparseCore.Cfg.tcSt
    isplitl [HO]; · iexact HO
    iexact Hrest
  isplitl [H3 H6 H7 H8]
  · rw [st_eq]
    isplitl [H3]; · iexact H3
    isplitl [H7]; · iexact H7
    isplitl [H6]; · iexact H6
    iexact H8
  iintro ⟨Hst, Hdn⟩
  ihave Hdn' := (Entails.of_eq (dn_eq (Tb m) (Ob m) (Sb m) (Pb m) d)) $$ Hdn
  icases Hdn' with ⟨H3, H7, H6, H8⟩
  -- the reshape and the transpose
  iapply (wp_hlo_within 𝒱 (SparseCore.T d) none Set.univ (op := op3) (S := S11) h3s (V := V4 m d)) $$ [Hb H0 H1 H2 H3 H4 H5 H6 H7 H8 H9 H10]
  · isplitl [Hb]; · iexact Hb
    rw [held_S11, V4_self, V4_ne m d (rf main_arg0) (by decide), V4_ne m d (rf main_arg1) (by decide), V4_ne m d (rf main_arg2) (by decide),
      V4_ne m d (rf main_arg3) (by decide), V4_ne m d (rf main_v0_0) (by decide), V4_ne m d (rf main_v0_1) (by decide), V4_ne m d (rf main_v1) (by decide),
      V4_ne m d (rf main_v2) (by decide), V4_ne m d (rf main_v4) (by decide), V4_ne m d (rf main_v5) (by decide)]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨Hb, Hheld⟩
  rw [wp_ret]; imodintro
  iapply (wp_hlo_within 𝒱 (SparseCore.T d) none Set.univ (op := op4) (S := S11) h4s (V := V5 m d)) $$ [Hb Hheld]
  · isplitl [Hb]; · iexact Hb
    iexact Hheld
  iintro ⟨Hb, Hheld⟩
  rw [wp_ret]; imodintro; imodintro
  isplitl [Hst]
  · ihave Hst' := (show (K (F := F)).tcSt EH d ((0 : Fin 1).val + 1) ⊢ _ from Entails.of_eq (tcSt_one d)) $$ Hst
    iexact Hst'
  isplitl [Hheld]; · iexact Hheld
  isplitl [Hb] <;> iassumption

/-! ## The run of the whole program -/

/-- What is read of a device's last memory: the arguments as they were, the result as the last array has it. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v5) = V6 m d (rf main_v5)

theorem agree (d : Dev nD) (s' : Phys nD τ sig (Elt F)) (b : Ref sig .tc) (v : Buf (Elt F) ((SparseCore.T d : Thread nD τ).loc b)) :
    iprop(SI s' ∗ at' d b v) ⊢ iprop(⌜s'.mem.mem ((SparseCore.T d).loc b) = v⌝ ∗ (SI s' : sProp 𝕄)) := by
  iintro ⟨HS, H⟩
  ihave H' := (persistent_entails_right (SI_pointsTo_agree (st := s') (ℓ := (SparseCore.T d : Thread nD τ).loc b) (I := Finset.univ) (q := fullShare) (f := v))) $$ [HS H]
  · isplitl [HS] <;> iassumption
  icases H' with ⟨%h, HS, -⟩
  isplitr
  · ipureintro; exact funext fun i => h i (Finset.mem_univ i)
  iexact HS

theorem hfin (d : Dev nD) (s' : Phys nD τ sig (Elt F)) : iprop(FIN m d ∗ SI s') ⊢ (⌜fq m d s'⌝ : sProp 𝕄) := by
  unfold FIN
  rw [held_S11, V6_arg m d (rf main_arg0) (by decide) (by decide) (by decide) (by decide) (by decide) (by decide) (by decide),
    V6_arg m d (rf main_arg1) (by decide) (by decide) (by decide) (by decide) (by decide) (by decide) (by decide),
    V6_arg m d (rf main_arg2) (by decide) (by decide) (by decide) (by decide) (by decide) (by decide) (by decide),
    V6_arg m d (rf main_arg3) (by decide) (by decide) (by decide) (by decide) (by decide) (by decide) (by decide)]
  iintro ⟨⟨H0, H1, H2, H3, -, -, -, -, -, -, H10⟩, HS⟩
  ihave H := (agree d s' main_arg0 _) $$ [HS H0]
  · isplitl [HS] <;> iassumption
  icases H with ⟨%h0, HS⟩
  ihave H := (agree d s' main_arg1 _) $$ [HS H1]
  · isplitl [HS] <;> iassumption
  icases H with ⟨%h1, HS⟩
  ihave H := (agree d s' main_arg2 _) $$ [HS H2]
  · isplitl [HS] <;> iassumption
  icases H with ⟨%h2, HS⟩
  ihave H := (agree d s' main_arg3 _) $$ [HS H3]
  · isplitl [HS] <;> iassumption
  icases H with ⟨%h3, HS⟩
  ihave H := (agree d s' main_v5 _) $$ [HS H10]
  · isplitl [HS] <;> iassumption
  icases H with ⟨%h4, HS⟩
  ipureintro
  exact ⟨h0, h1, h2, h3, h4⟩

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3))
    ∧ r.2.mem ((SparseCore.T d).loc main_v5) = V6 m d (rf main_v5)) ∧ r.2.sem = fun _ => 0

theorem run_main [∀ e, Nonempty (Elt F e)] (hP : ∀ (d : Dev nD) (x : S1024.Idx), (m ((SparseCore.T d).loc main_arg3) x : BitVec 32).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) Launch.facts v₀
    (fun q hq => match q with | 0 => nomatch hq)
    (fun q _ => match q with | 0 => tileObl (Tb m) (Ob m) (Sb m) (Pb m) fun d x =>
      (show Pb m d = m ((SparseCore.T d).loc main_arg3) from V3_of m d (rf main_arg3) (by decide) (by decide) (by decide) (by decide)) ▸ hP d x)
    (fun q _ => match q with | 0 => SparseCore.Cfg.VecSplit.of_plain (vecSplit (Tb m) (Ob m) (Sb m) (Pb m)))
    m ρ main (G (F := F)) (FIN m) (u₀ (F := F)) (sep_elim_left.trans (hu₀ (Tb m) (Ob m) (Sb m) (Pb m))) (hmain m ρ) (fq m) (hfin m) (QC m)
    (fun _ h hz => ⟨fun d => ⟨⟨(h d).1, (h d).2.1, (h d).2.2.1, (h d).2.2.2.1⟩, (h d).2.2.2.2⟩, hz⟩)

end Cert.Proof.Run
-- ==== Proof.Frames.lean ====
/-
  The precondition as the run needs it, and the claims that the kernel ends with its arguments unchanged.
-/
module

public import proofs.«01_k».proof.Proof.Run
public import proofs.«01_k».proof.Defs
public import proofs.«01_k».proof.Proof.Gen.Kernel
public import proofs.«01_k».proof.Proof.Gen.Pre_poi_in_range
public import Idealize.ShloMosaic.Lib.ReduceAll

@[expose] public section

noncomputable section

namespace Cert.Proof.Frames

open Cert.KernelIdeal Cert.Proof.Run
open Idealize.ShloMosaic Idealize.ShloMosaic.SparseCore Idealize.SL.Sem

variable {F : FTy → Type} [FloatOps F]

theorem andi_one {p q : BitVec 1} (h : IntOp.andi p q = 1#1) : p = 1#1 ∧ q = 1#1 := by
  have p' := BitVec.eq_zero_or_eq_one p
  have q' := BitVec.eq_zero_or_eq_one q
  rcases p' with rfl | rfl <;> rcases q' with rfl | rfl <;> revert h <;> decide

/-- A word at least 0 and below 1024, both signed, is below 1024 unsigned. -/
theorem word_lt {v : BitVec 32} (h0 : IntOp.cmpi .sge v 0#32 = 1#1) (h1 : IntOp.cmpi .slt v 1024#32 = 1#1) : v.toNat < 1024 := by
  have a := IntOp.cmpi_sge.1 h0
  have b := IntOp.cmpi_slt.1 h1
  rw [BitVec.toInt_eq_toNat_cond] at b a
  simp only [BitVec.toInt_eq_toNat_cond, BitVec.toNat_ofNat, Nat.reducePow, Nat.reduceMod] at a b
  omega

/-- Positions of which the precondition's predicate is one are below 1024. -/
theorem pos_lt (a0 a1 : FVec F Pre_poi_in_range.S16x8x256x1024 .f32) (a2 : FVec F Pre_poi_in_range.S_ .f32) (a3 : IVec Pre_poi_in_range.S1024 32)
    (h : Pre_poi_in_range.fn (F := F) a0 a1 a2 a3 = fun _ => 1#1) (x : S1024.Idx) : (a3 x).toNat < 1024 := by
  haveI : Subsingleton Pre_poi_in_range.S_.Idx := ⟨fun a b => funext fun i => i.elim0⟩
  have e := Host.reduce_andi_all _ _ _ _ _ (congrFun h fun i => i.elim0) x
  exact word_lt (andi_one e).1 (andi_one e).2

theorem frame_ideal : Cert.quiescent_KernelIdeal := fun m ρ hp =>
  (θ_run Cert.KernelIdeal.defs _ _).mono (fun _ h => ⟨fun c => (h.1 c).1, h.2⟩) (run_main (F := Ideal) m ρ fun d x => pos_lt _ _ _ _ (hp d) x)

/-- The kernel's two texts have the same bodies. -/
theorem bodies_eq : Cert.Kernel.defs₀ (F := F) = Cert.KernelIdeal.defs₀ (F := F) := by
  funext p l a
  match p, l, a with
  | .tc, 0, (t, s) => rfl
  | .scVector c s, 1, _ => rfl
  | .tc, ⟨n + 1, h⟩, a => rfl
  | .scVector c s, 0, _ => rfl
  | .scScalar c, _, _ => rfl
theorem table_eq : Cert.Kernel.defs (F := F) = Cert.KernelIdeal.defs (F := F) :=
  congrArg (fun d => (Cert.KernelIdeal.sc (F := F)).defs (Pipeline.defs Cert.KernelIdeal.pcfgs d)) bodies_eq

theorem frame_kernel : Cert.quiescent_Kernel := fun m ρ hp => by
  rw [table_eq]
  exact (θ_run Cert.KernelIdeal.defs _ _).mono (fun _ h => ⟨fun c => (h.1 c).1, h.2⟩) (run_main (F := Bits) m ρ fun d x => pos_lt _ _ _ _ (hp d) x)

end Cert.Proof.Frames
-- ==== Proof.Reference.lean ====
/-
  The reference is a straight line of host operations: it writes only buffers of its own and declares no semaphore.
-/
module

public import proofs.«01_k».proof.Defs
public import proofs.«01_k».proof.Proof.Gen.ReferenceIdeal.Run
public import Idealize.ShloMosaic.Lib.Quiescent

@[expose] public section

noncomputable section

namespace Cert.Proof.Reference

open Idealize.ShloMosaic Idealize.SL.Sem

/-- The reference ends with its arguments unchanged and no counter raised. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

end Cert.Proof.Reference

end
-- ==== Proof.Value.lean ====
/-
  What the kernel's result holds, entry by entry, over the extended reals: the data's entry, and where the mask's sum
  over the position is zero, the entry at the position's index added to it.
-/
module

public import proofs.«01_k».proof.Proof.Run
public import Idealize.ShloMosaic.Lib.Pipeline.Value
public import Idealize.ShloMosaic.Lib.ValueLayout
public import Idealize.ShloMosaic.Lib.IdealHost
public import Idealize.ShloMosaic.Lib.Pointwise

@[expose] public section

noncomputable section

namespace Cert.Proof.Value

open Cert.KernelIdeal Cert.KernelIdeal.Gen Cert.Proof.Kit Cert.Proof.Fill Cert.Proof.Tile Cert.Proof.Block Cert.Proof.Run
open Cert.Proof.Launch (OV)
open Cert.Proof.Region (mblk dblk acc scaleArr slabs hb16)
open Idealize.ShloMosaic hiding ix0 ix1 ix2 ix3 ix4
open Idealize.ShloMosaic.ValueIdx Idealize.ShloMosaic.TcCoe

/-! ## The pipeline's two arrays -/

section Layout

variable {F : FTy → Type} [FloatOps F]
variable (V : (c : Dev nD) → (b : Ref sig .tc) → Buf (Elt F) ((c : Thread nD τ).loc b))

/-- The program's data and mask, as arrays. -/
abbrev DA (c : Dev nD) : S16x8x256x1024.Idx → F .f32 := V c main_arg0
abbrev MA (c : Dev nD) : S16x8x256x1024.Idx → F .f32 := V c main_arg1

/-- A batch's block of the last time step. -/
theorem dblk_apply (c : Dev nD) (t : Fin cfg0.N) (ht : t.val < 16) (k : Fin 256) (s : Fin 1024) :
    dblk V c t (ix4 0 0 k s) = DA V c (ix4 ⟨t.val, ht⟩ 7 k s) := by
  obtain ⟨e0, e1, e2, e3⟩ := Cert.Proof.Region.ix1 t
  show V c main_arg0 ((win0_1.rect t).emb (ix4 0 0 k s : S1x1x256x1024.Idx)) = _
  refine congrArg (V c main_arg0) (funext fun a => Fin.ext ?_)
  refine (Pipeline.Window.rect_emb_val win0_1 t _ a rfl).trans ?_
  match a with
  | ⟨0, _⟩ => show win0_1.index t 0 * 1 + 0 = t.val; omega
  | ⟨1, _⟩ => show win0_1.index t 1 * 1 + 0 = 7; omega
  | ⟨2, _⟩ => show win0_1.index t 2 * 256 + k.val = k.val; omega
  | ⟨3, _⟩ => show win0_1.index t 3 * 1024 + s.val = s.val; omega

theorem mblk_apply (c : Dev nD) (t : Fin cfg0.N) (ht : t.val < 16) (k : Fin 256) (s : Fin 1024) :
    mblk V c t (ix4 0 0 k s) = MA V c (ix4 ⟨t.val, ht⟩ 7 k s) := by
  obtain ⟨e0, e1, e2, e3⟩ := Cert.Proof.Region.ix0 t
  show V c main_arg1 ((win0_0.rect t).emb (ix4 0 0 k s : S1x1x256x1024.Idx)) = _
  refine congrArg (V c main_arg1) (funext fun a => Fin.ext ?_)
  refine (Pipeline.Window.rect_emb_val win0_0 t _ a rfl).trans ?_
  match a with
  | ⟨0, _⟩ => show win0_0.index t 0 * 1 + 0 = t.val; omega
  | ⟨1, _⟩ => show win0_0.index t 1 * 1 + 0 = 7; omega
  | ⟨2, _⟩ => show win0_0.index t 2 * 256 + k.val = k.val; omega
  | ⟨3, _⟩ => show win0_0.index t 3 * 1024 + s.val = s.val; omega

/-- A block with its two unit axes dropped. -/
theorem flat_apply {α : Type} (x : S1x1x256x1024.Idx → α) (h : S1x1x256x1024.ShapeCasts S256x1024) (k : Fin 256) (s : Fin 1024) :
    shapeCast S256x1024 x h (ix2 k s) = x (ix4 0 0 k s) :=
  shapeCast_apply x h _ _ (by
    rw [Shape.rowMajor_val_four, Shape.rowMajor_val_two]
    show ((0 * 1 + 0) * 256 + k.val) * 1024 + s.val = k.val * 1024 + s.val
    omega)

theorem turned_apply (y : Vec F S1x1x256x1024 .f32) (s : Fin 1024) (k : Fin 256) : turned y (ix3 0 s k) = y (ix4 0 0 k s) := by
  unfold turned
  rw [shapeCast_ab_1ab_apply, transpose_ix2_apply, flat_apply]

/-- The turned slabs: position by channel. -/
theorem slabs_apply (c : Dev nD) (b : Fin 16) (s : Fin 1024) (k : Fin 256) :
    slabs V c (ix3 b s k : S16x1024x256.Idx) = DA V c (ix4 b 7 k s) := by
  have e : slabs V c (ix3 b s k : S16x1024x256.Idx) = turned (dblk V c ⟨b.val, hb16 b⟩) (ix3 0 s k) := rfl
  rw [e, turned_apply, dblk_apply V c ⟨b.val, hb16 b⟩ b.isLt]

variable (m : (ℓ : Loc nD τ sig) → Buf (Elt F) ℓ)

/-- The arrays that the call takes: the table, the scales, the positions. -/
theorem table_apply (d : Dev nD) (b : Fin 16) (s : Fin 1024) (x : Fin 2) (y : Fin 128) :
    Tb m d (ix4 b s x y : S16x1024x2x128.Idx) = DA (Vr m) d (ix4 b 7 ⟨128 * x.val + y.val, by omega⟩ s) := by
  have e : Tb m d = shapeCast S16x1024x2x128 (slabs (Vr m) d : S16x1024x256.Idx → F .f32) shapeCasts_S16x1024x256_S16x1024x2x128 := by
    show V3 m d (rf main_v1) = _
    unfold V3 V2
    rw [(op2 (F := F)).result_of_not_mem _ (show rf main_v1 ∉ ({rf main_v2} : Finset (DevRef τ sig)) from by decide)]
    rw [StableHlo.reshape_result]
    have e1 : V1 m d (rf main_v0_1) = slabs (Vr m) d := by unfold V1; exact Function.update_self _ _ _
    rw [e1]
    rfl
  rw [e, ← slabs_apply]
  refine shapeCast_apply _ _ _ (ix3 b s ⟨128 * x.val + y.val, by omega⟩ : S16x1024x256.Idx) ?_
  rw [show (S16x1024x256.rowMajor (ix3 b s ⟨128 * x.val + y.val, by omega⟩)).val = _ from Shape.rowMajor_val_three _, Shape.rowMajor_val_four]
  show (b.val * 1024 + s.val) * 256 + (128 * x.val + y.val) = ((b.val * 1024 + s.val) * 2 + x.val) * 128 + y.val
  omega

theorem scale_apply (d : Dev nD) (s : Fin 1024) : Sb m d (ix1 s : S1024.Idx) = scaleArr (Vr m) d (ix2 0 s : S1x1024.Idx) := by
  have e : Sb m d = shapeCast S1024 (scaleArr (Vr m) d : S1x1024.Idx → F .f32) shapeCasts_S1x1024_S1024 := by
    show V3 m d (rf main_v2) = _
    unfold V3
    rw [StableHlo.reshape_result]
    have e1 : V2 m d (rf main_v0_0) = scaleArr (Vr m) d := by
      unfold V2
      rw [(op1 (F := F)).result_of_not_mem _ (show rf main_v0_0 ∉ ({rf main_v1} : Finset (DevRef τ sig)) from by decide)]
      unfold V1
      rw [Function.update_of_ne (by decide)]
      exact Function.update_self _ _ _
    rw [e1]
    rfl
  rw [e, shapeCast_1a_a_apply]

/-- The program's result: channel before position, the positions as 32 rows of 32. -/
theorem result_apply (d : Dev nD) (b : Fin 16) (c : Fin 256) (h w : Fin 32) :
    (V6 m d (rf main_v5) : S16x256x32x32.Idx → F .f32) (ix4 b c h w)
      = OV (Tb m) (Sb m) (Pb m) d (ix4 b ⟨32 * h.val + w.val, by omega⟩ ⟨c.val / 128, by omega⟩ ⟨c.val % 128, by omega⟩) := by
  have e : V6 m d (rf main_v5) = transpose S16x256x32x32 [0, 3, 1, 2] (shapeCast S16x32x32x256 (OV (Tb m) (Sb m) (Pb m) d) shapeCasts_S16x1024x2x128_S16x32x32x256)
      transposes_S16x32x32x256_S16x256x32x32_0_3_1_2 := by
    unfold V6
    rw [StableHlo.unary_result]
    unfold V5
    rw [StableHlo.reshape_result, V4_self]
    rfl
  rw [e, transpose_apply _ _ _ _ (ix4 b h w c : S16x32x32x256.Idx) (fun x => match x with | ⟨0, _⟩ => rfl | ⟨1, _⟩ => rfl | ⟨2, _⟩ => rfl | ⟨3, _⟩ => rfl)]
  refine shapeCast_apply _ _ _ _ ?_
  rw [Shape.rowMajor_val_four, Shape.rowMajor_val_four]
  show ((b.val * 1024 + (32 * h.val + w.val)) * 2 + c.val / 128) * 128 + c.val % 128 = ((b.val * 32 + h.val) * 32 + w.val) * 256 + c.val
  omega

end Layout

/-! ## The mask's sums -/

section Sums

variable (V : (c : Dev nD) → (b : Ref sig .tc) → Buf (Elt Ideal) ((c : Thread nD τ).loc b))

theorem rowSum_apply (x : Vec Ideal S1x1x256x1024 .f32) (s : Fin 1024) :
    (rowSum x : S1x1024.Idx → EReal) (ix2 0 s) = ∑ k : Fin 256, (x (ix4 0 0 k s) : EReal) := by
  unfold rowSum
  rw [shapeCast_a_1a_apply]
  refine (Ideal.multiReduction_add_single _ _ _ _ _ _).trans (Finset.sum_congr rfl fun k _ => ?_)
  refine Eq.trans (congrArg _ ?_) (flat_apply x shapeCasts_S1x1x256x1024_S256x1024 k s)
  exact funext fun a => Fin.ext (match a with | ⟨0, _⟩ => rfl | ⟨1, _⟩ => rfl)

/-- The mask's sum over the batches up to one and over the channels, at a position. -/
theorem acc_apply (c : Dev nD) (s : Fin 1024) : ∀ (n : ℕ) (h : n < cfg0.N) (h' : n < 16),
    (acc V c n h : S1x1024.Idx → EReal) (ix2 0 s) = ∑ t : Fin (n + 1), ∑ k : Fin 256, (MA V c (ix4 ⟨t.val, by omega⟩ 7 k s) : EReal)
  | 0, h, h' => by
    rw [Fin.sum_univ_one]
    refine (rowSum_apply _ s).trans (Finset.sum_congr rfl fun k _ => ?_)
    exact mblk_apply V c ⟨0, h⟩ h' k s
  | n + 1, h, h' => by
    rw [Fin.sum_univ_castSucc]
    show (acc V c n _ : S1x1024.Idx → EReal) (ix2 0 s) + (rowSum (mblk V c ⟨n + 1, h⟩) : S1x1024.Idx → EReal) (ix2 0 s) = _
    rw [acc_apply c s n _ (Nat.lt_of_succ_lt h'), rowSum_apply]
    refine congrArg₂ (· + ·) rfl (Finset.sum_congr rfl fun k _ => ?_)
    exact mblk_apply V c ⟨n + 1, h⟩ h' k s

/-- The mask's sum over the batches and the channels at a position. -/
def total (M : S16x8x256x1024.Idx → EReal) (s : Fin 1024) : EReal := ∑ b : Fin 16, ∑ k : Fin 256, M (ix4 b 7 k s)

theorem one_ne : (1 : EReal) ≠ 0 := one_ne_zero

/-- A comparison's bit chooses. -/
theorem choose_oeq {α : Type} (x y : EReal) (a b : α) [Decidable (x = y)] :
    Scalar.select (Ideal.cmp .oeq x y) a b = if x = y then a else b := by
  by_cases h : x = y
  · rw [if_pos h, (Ideal.cmp_oeq_eq_one x y).2 h]; exact select_one a b
  · rw [if_neg h, eq_zero_of_ne_one fun e => h ((Ideal.cmp_oeq_eq_one x y).1 e)]; exact select_zero a b

/-- A scale is one where the sum is zero and zero elsewhere. -/
theorem scaleArr_apply (c : Dev nD) (s : Fin 1024) [Decidable (total (MA V c) s = 0)] :
    (scaleArr V c : S1x1024.Idx → EReal) (ix2 0 s) = if total (MA V c) s = 0 then (1 : EReal) else 0 := by
  have e : (acc V c 15 (hb16 15) : S1x1024.Idx → EReal) (ix2 0 s) = total (MA V c) s := acc_apply V c s 15 _ (by decide)
  have e' : (scaleArr V c : S1x1024.Idx → EReal) (ix2 0 s)
      = Scalar.select (Ideal.cmp .oeq ((acc V c 15 (hb16 15) : S1x1024.Idx → EReal) (ix2 0 s)) (Ideal.ofBits .f32 0x00000000#32)) (Ideal.ofBits .f32 0x3F800000#32) (Ideal.ofBits .f32 0x00000000#32) := rfl
  rw [e', e, Ideal.ofBits_zero_f32, Ideal.ofBits_one_f32, choose_oeq]

/-- A position is live where its scale is not zero. -/
theorem liveN_iff (SC : S1024.Idx → EReal) (s : Fin 1024) : liveN (F := Ideal) SC s.val ↔ SC (ix1 s) ≠ 0 := by
  have e : (ix1 (rowAt s.val) : S1024.Idx) = ix1 s := congrArg ix1 (rowAt_of_lt s.isLt)
  have h : liveN (F := Ideal) SC s.val ↔ IntOp.xori (Ideal.cmp .oeq (SC (ix1 (rowAt s.val))) (Ideal.ofBits .f32 0x00000000#32)) 1#1 = 1#1 := Iff.rfl
  rw [h, e, Ideal.ofBits_zero_f32, Ne, ← Ideal.cmp_oeq_eq_one]
  rcases BitVec.eq_zero_or_eq_one (Ideal.cmp .oeq (SC (ix1 s)) 0) with h | h <;> rw [h] <;> decide

end Sums

/-! ## The result -/

section Result

variable (m : (ℓ : Loc nD τ sig) → Buf (Elt Ideal) ℓ)

/-- The program's data, mask and positions, as arrays. -/
abbrev dat (d : Dev nD) : S16x8x256x1024.Idx → EReal := m ((d : Thread nD τ).loc main_arg0)
abbrev msk (d : Dev nD) : S16x8x256x1024.Idx → EReal := m ((d : Thread nD τ).loc main_arg1)
abbrev pos (d : Dev nD) : S1024.Idx → BitVec 32 := m ((d : Thread nD τ).loc main_arg3)

/-- An entry of the result: the data's, and where the position's mask is all zero in sum, the entry at its index added. -/
def entry (D M : S16x8x256x1024.Idx → EReal) (P : S1024.Idx → BitVec 32) (hP : ∀ x, (P x).toNat < 1024) (b : Fin 16) (c : Fin 256) (s : Fin 1024) : EReal :=
  haveI := Classical.propDecidable (total M s = 0)
  D (ix4 b 7 c s) + if total M s = 0 then D (ix4 b 7 c ⟨(P (ix1 s)).toNat, hP _⟩) else 0

/-- The table that the call takes. -/
abbrev tab (d : Dev nD) : S16x1024x2x128.Idx → EReal := Tb m d

theorem kernel_apply (hP : ∀ d x, (pos m d x).toNat < 1024) (d : Dev nD) (b : Fin 16) (c : Fin 256) (h w : Fin 32) :
    (V6 m d (rf main_v5) : S16x256x32x32.Idx → EReal) (ix4 b c h w)
      = entry (dat m d) (msk m d) (pos m d) (hP d) b c ⟨32 * h.val + w.val, by omega⟩ := by
  have hc : ∀ hh : 128 * (c.val / 128) + c.val % 128 < 256, (⟨128 * (c.val / 128) + c.val % 128, hh⟩ : Fin 256) = c := fun _ => Fin.ext (by dsimp only; omega)
  have hp : Pb m d = pos m d := V3_of m d (rf main_arg3) (by decide) (by decide) (by decide) (by decide)
  rw [result_apply]
  generalize hs : (⟨32 * h.val + w.val, by omega⟩ : Fin 1024) = s
  have ht : ∀ t : Fin 1024, tab m d (ix4 b t ⟨c.val / 128, by omega⟩ ⟨c.val % 128, by omega⟩ : S16x1024x2x128.Idx) = dat m d (ix4 b 7 c t) := fun t => by
    exact (table_apply m d b t _ _).trans (congrArg (dat m d) (by rw [hc]))
  have hr : rowAt (poN (Pb m d) s.val).toNat = ⟨(pos m d (ix1 s)).toNat, hP d _⟩ := by
    have e : poN (Pb m d) s.val = pos m d (ix1 s) := by
      rw [hp]; exact congrArg (pos m d) (congrArg ix1 (rowAt_of_lt s.isLt))
    rw [e]; exact rowAt_of_lt (hP d _)
  unfold entry
  have hl : liveN (F := Ideal) (Sb m d) s.val ↔ total (msk m d) s = 0 := by
    classical
    rw [liveN_iff, scale_apply, scaleArr_apply]
    by_cases h0 : total (MA (Vr m) d) s = 0
    · rw [if_pos h0]; exact ⟨fun _ => h0, fun _ => one_ne⟩
    · rw [if_neg h0]; exact ⟨fun e => absurd rfl e, fun e => absurd e h0⟩
  have e : OV (Tb m) (Sb m) (Pb m) d (ix4 b s ⟨c.val / 128, by omega⟩ ⟨c.val % 128, by omega⟩ : S16x1024x2x128.Idx)
      = if liveN (F := Ideal) (Sb m d) s.val
        then tab m d (ix4 b s ⟨c.val / 128, by omega⟩ ⟨c.val % 128, by omega⟩ : S16x1024x2x128.Idx)
          + tab m d (ix4 b (rowAt (poN (Pb m d) s.val).toNat) ⟨c.val / 128, by omega⟩ ⟨c.val % 128, by omega⟩ : S16x1024x2x128.Idx)
        else tab m d (ix4 b s ⟨c.val / 128, by omega⟩ ⟨c.val % 128, by omega⟩ : S16x1024x2x128.Idx) := rfl
  rw [e, ht, ht, hr]
  by_cases h0 : total (msk m d) s = 0
  · rw [if_pos (hl.2 h0), if_pos h0]
  · rw [if_neg fun x => h0 (hl.1 x), if_neg h0, add_zero]

end Result

end Cert.Proof.Value

end
-- ==== Proof.RefValue.lean ====
/-
  What the reference's result holds, entry by entry, over the extended reals.
-/
module

public import proofs.«01_k».proof.Proof.Value
public import proofs.«01_k».proof.Proof.Gen.ReferenceIdeal
public import proofs.«01_k».proof.Proof.Gen.ReferenceIdeal.Run
public import Idealize.ShloMosaic.Lib.ReduceAll

@[expose] public section

noncomputable section

namespace Cert.Proof.RefValue

open Cert.ReferenceIdeal Cert.ReferenceIdeal.Gen
open Cert.Proof.Value (total entry choose_oeq)
open Idealize.ShloMosaic hiding ix0 ix1 ix2 ix3 ix4
open Idealize.ShloMosaic.ValueIdx Idealize.ShloMosaic.TcCoe

/-! ## The last time step -/

/-- The last time step of an array. -/
def last (X : S16x8x256x1024.Idx → EReal) : FVec Ideal S16x256x1024 .f32 :=
  shapeCast _ (extractStridedSlice S16x1x256x1024 ![0, 7, 0, 0] X slices_S16x8x256x1024_S16x1x256x1024_0_7_0_0) shapeCasts_S16x1x256x1024_S16x256x1024

theorem last_apply (X : S16x8x256x1024.Idx → EReal) (b : Fin 16) (c : Fin 256) (s : Fin 1024) : (last X : S16x256x1024.Idx → EReal) (ix3 b c s) = X (ix4 b 7 c s) := by
  unfold last
  rw [shapeCast_apply _ _ _ (ix4 b 0 c s : S16x1x256x1024.Idx) (by
    rw [Shape.rowMajor_val_four, Shape.rowMajor_val_three]
    show ((b.val * 1 + 0) * 256 + c.val) * 1024 + s.val = (b.val * 256 + c.val) * 1024 + s.val
    omega)]
  exact extractStridedSlice_apply _ _ _ _ _ fun a => match a with
    | ⟨0, _⟩ => (Nat.zero_add _).symm | ⟨1, _⟩ => rfl | ⟨2, _⟩ => (Nat.zero_add _).symm | ⟨3, _⟩ => (Nat.zero_add _).symm

/-! ## The sum -/

/-- The mask's sum over the batches and the channels. -/
def sums (M : S16x8x256x1024.Idx → EReal) : FVec Ideal S1024 .f32 :=
  Host.reduceAdd (last M) (constant S_ .f32 0x00000000#32) reducesTo_S16x256x1024_S1024_d0_1 h_S_

theorem drop_eq (i : S16x256x1024.Idx) : reducesTo_S16x256x1024_S1024_d0_1.drop i = (ix1 (i 2) : S1024.Idx) :=
  funext fun a => match a with | ⟨0, _⟩ => rfl

theorem sums_apply (M : S16x8x256x1024.Idx → EReal) (s : Fin 1024) : (sums M : S1024.Idx → EReal) (ix1 s) = total M s := by
  have e : (sums M : S1024.Idx → EReal) (ix1 s) = Ideal.ofBits .f32 0x00000000#32
      + ∑ i ∈ Finset.univ.filter (fun i => reducesTo_S16x256x1024_S1024_d0_1.drop i = (ix1 s : S1024.Idx)), (last M : S16x256x1024.Idx → EReal) i := rfl
  rw [e, Ideal.ofBits_zero_f32, zero_add]
  unfold total
  rw [← Fintype.sum_prod_type' (f := fun (b : Fin 16) (k : Fin 256) => M (ix4 b 7 k s))]
  refine Finset.sum_bij' (fun i _ => ((i 0 : Fin 16), (i 1 : Fin 256))) (fun p _ => (ix3 p.1 p.2 s : S16x256x1024.Idx)) (fun _ _ => Finset.mem_univ _)
    (fun p _ => Finset.mem_filter.2 ⟨Finset.mem_univ _, drop_eq _⟩) (fun i hi => ?_) (fun p _ => rfl) (fun i hi => ?_)
  all_goals
    have hs : (i 2 : Fin 1024) = s := congrFun ((drop_eq i).symm.trans (Finset.mem_filter.1 hi).2) 0
  · subst hs; exact (ValueIdx.eq_ix3 i).symm
  · subst hs; exact (congrArg (last M) (ValueIdx.eq_ix3 i)).trans (last_apply M _ _ _)

/-! ## The gather -/

/-- The start indices: the positions, the negative ones counted from the end. -/
def start (P : S1024.Idx → BitVec 32) : IVec S1024x1 32 :=
  broadcastInDim S1024x1 ![0] bcast_S1024_S1024x1_0 (select (cmpi .slt P (broadcastInDim S1024 ![] bcast_S_S1024 (constantI S_ 32 0#32)))
    (addi P (broadcastInDim S1024 ![] bcast_S_S1024 (constantI S_ 32 1024#32))) P)

theorem start_apply (P : S1024.Idx → BitVec 32) (hP : ∀ x, (P x).toNat < 1024) (s : Fin 1024) (u : Fin 1) : start P (ix2 s u) = P (ix1 s) := by
  unfold start
  rw [broadcastInDim_apply _ _ _ _ (ix1 s : S1024.Idx) (fun a => match a with | ⟨0, _⟩ => rfl), select_apply]
  have h : cmpi .slt P (broadcastInDim S1024 ![] bcast_S_S1024 (constantI S_ 32 0#32)) (ix1 s) = IntOp.cmpi .slt (P (ix1 s)) 0#32 := rfl
  suffices hn : ¬ IntOp.cmpi .slt (P (ix1 s)) 0#32 = 1#1 by rw [h, eq_zero_of_ne_one hn, select_zero]
  intro e
  have e' := IntOp.cmpi_slt.1 e
  have := hP (ix1 s)
  rw [BitVec.toInt_eq_toNat_cond] at e'
  simp only [BitVec.toInt_eq_toNat_cond, BitVec.toNat_ofNat, Nat.reducePow, Nat.reduceMod] at e'
  omega

/-- Whether a position is in range. -/
def inb (P : S1024.Idx → BitVec 32) : IVec S1024 1 :=
  Host.reduce IntOp.andi (andi (cmpi .sge (start P) (broadcastInDim S1024x1 ![] bcast_S_S1024x1 (constantI S_ 32 0#32)))
    (cmpi .sle (start P) (broadcastInDim S1024x1 ![0, 1] bcast_S1x1_S1024x1_0_1 (broadcastInDim S1x1 ![1] bcast_S1_S1x1_1 (constantI S1 32 1023#32)))))
    (constantI S_ 1 1#1) reducesTo_S1024x1_S1024_d1 h_S_

theorem inb_apply (P : S1024.Idx → BitVec 32) (hP : ∀ x, (P x).toNat < 1024) (x : S1024.Idx) : inb P x = 1#1 := by
  unfold inb
  refine Host.reduce_andi_one _ _ _ _ _ ?_ ?_
  · rfl
  intro i
  have e : start P i = P (ix1 (i 0)) := by rw [ValueIdx.eq_ix2 i]; exact start_apply P hP _ _
  show IntOp.andi (IntOp.cmpi .sge (start P i) 0#32) (IntOp.cmpi .sle (start P i) 1023#32) = 1#1
  have := hP (ix1 (i 0))
  rw [e, IntOp.cmpi_sge.2 ?_, IntOp.cmpi_sle.2 ?_]
  · decide
  all_goals
    rw [BitVec.toInt_eq_toNat_cond]
    simp only [BitVec.toInt_eq_toNat_cond, BitVec.toNat_ofNat, Nat.reducePow, Nat.reduceMod]
    omega

abbrev gd := gather_S16x256x1024_S1024x1_S16x256x1024_01_2_n_n_2_1_162561

/-- The gather along the positions, read at an entry. -/
theorem gather_apply {α : Type} (X : S16x256x1024.Idx → α) (idx : IVec S1024x1 32) (b : Fin 16) (c : Fin 256) (s : Fin 1024)
    (h : (idx (ix2 s 0)).toInt.toNat < 1024) :
    Host.gather gd X idx (ix3 b c s) = X (ix3 b c ⟨(idx (ix2 s 0)).toInt.toNat, h⟩) := by
  have hm : ∀ a : Fin 3, a ∈ gd.startIndexMap ↔ a = 2 := fun a => List.mem_singleton
  have hk : ∀ a : Fin 3, a ∈ gd.sKept ↔ a ≠ 2 := fun a => by revert a; decide
  have hb : ∀ a : Fin 3, gd.batchCoord (ix3 b c s : S16x256x1024.Idx) a = 0 := fun a => GatherDims.batchCoord_eq_zero _ _ _ List.not_mem_nil
  refine congrArg X (funext fun a => Fin.ext ?_)
  show gd.start (ix3 b c s : S16x256x1024.Idx) idx a + gd.batchCoord (ix3 b c s : S16x256x1024.Idx) a + gd.offCoord (ix3 b c s : S16x256x1024.Idx) a = _
  rw [hb]
  match a with
  | ⟨0, _⟩ =>
    have h0 : gd.start (ix3 b c s : S16x256x1024.Idx) idx 0 = 0 := by
      unfold GatherDims.start; rw [dif_neg fun e => absurd ((hm 0).1 e) (by decide)]
    have h1 : gd.offCoord (ix3 b c s : S16x256x1024.Idx) 0 = b.val := by
      unfold GatherDims.offCoord; rw [dif_pos ((hk 0).2 (by decide))]; rfl
    exact (congrArg₂ (fun u v => u + 0 + v) h0 h1).trans (Nat.zero_add _)
  | ⟨1, _⟩ =>
    have h0 : gd.start (ix3 b c s : S16x256x1024.Idx) idx 1 = 0 := by
      unfold GatherDims.start; rw [dif_neg fun e => absurd ((hm 1).1 e) (by decide)]
    have h1 : gd.offCoord (ix3 b c s : S16x256x1024.Idx) 1 = c.val := by
      unfold GatherDims.offCoord; rw [dif_pos ((hk 1).2 (by decide))]; rfl
    exact (congrArg₂ (fun u v => u + 0 + v) h0 h1).trans (Nat.zero_add _)
  | ⟨2, _⟩ =>
    have h1 : gd.offCoord (ix3 b c s : S16x256x1024.Idx) 2 = 0 := GatherDims.offCoord_eq_zero _ _ _ fun e => (hk 2).1 e rfl
    have h0 : gd.start (ix3 b c s : S16x256x1024.Idx) idx 2 = min (idx (ix2 s 0)).toInt.toNat 1023 := by
      unfold GatherDims.start
      rw [dif_pos ((hm 2).2 rfl)]
      refine congrArg (fun i : S1024x1.Idx => min (idx i).toInt.toNat 1023) (funext fun x => Fin.ext ?_)
      match x with
      | ⟨0, _⟩ => rfl
      | ⟨1, _⟩ => rfl
    exact (congrArg₂ (fun u v => u + 0 + v) h0 h1).trans (Nat.min_eq_left (Nat.le_of_lt_succ h))

/-! ## The result -/

/-- The gathered entries; out of range, the format's default. -/
def take (D : S16x8x256x1024.Idx → EReal) (P : S1024.Idx → BitVec 32) : FVec Ideal S16x256x1024 .f32 :=
  select (broadcastInDim S16x256x1024 ![2] bcast_S1024_S16x256x1024_2 (inb P)) (Host.gather gd (last D) (start P))
    (broadcastInDim S16x256x1024 ![] bcast_S_S16x256x1024 (constant S_ .f32 0x7FC00000#32))

theorem take_apply (D : S16x8x256x1024.Idx → EReal) (P : S1024.Idx → BitVec 32) (hP : ∀ x, (P x).toNat < 1024) (b : Fin 16) (c : Fin 256) (s : Fin 1024) :
    (take D P : S16x256x1024.Idx → EReal) (ix3 b c s) = D (ix4 b 7 c ⟨(P (ix1 s)).toNat, hP _⟩) := by
  have e : (take D P : S16x256x1024.Idx → EReal) (ix3 b c s)
      = Scalar.select (broadcastInDim S16x256x1024 ![2] bcast_S1024_S16x256x1024_2 (inb P) (ix3 b c s)) (Host.gather gd (last D : S16x256x1024.Idx → EReal) (start P) (ix3 b c s)) (Ideal.ofBits .f32 0x7FC00000#32) := rfl
  rw [e, broadcastInDim_apply _ _ _ _ (ix1 s : S1024.Idx) (fun a => match a with | ⟨0, _⟩ => rfl), inb_apply P hP, select_one]
  have hn : (start P (ix2 s 0)).toInt.toNat = (P (ix1 s)).toNat := by
    have := hP (ix1 s)
    rw [start_apply P hP, BitVec.toInt_eq_toNat_cond, if_pos (by omega)]
    rfl
  rw [gather_apply _ _ b c s (by rw [hn]; exact hP _), last_apply]
  exact congrArg (fun q => D (ix4 b 7 c q)) (Fin.ext hn)

/-- The reference's result. -/
def out (D M : S16x8x256x1024.Idx → EReal) (P : S1024.Idx → BitVec 32) : FVec Ideal S16x256x32x32 .f32 :=
  shapeCast _ (addf (last D) (select (broadcastInDim S16x256x1024 ![0, 1, 2] bcast_S1x1x1024_S16x256x1024_0_1_2 (broadcastInDim S1x1x1024 ![2] bcast_S1024_S1x1x1024_2
      (cmpf .oeq (sums M) (broadcastInDim S1024 ![] bcast_S_S1024 (constant S_ .f32 0x00000000#32)))))
    (take D P) (broadcastInDim S16x256x1024 ![] bcast_S_S16x256x1024 (constant S_ .f32 0x00000000#32)))) shapeCasts_S16x256x1024_S16x256x32x32

theorem out_apply (D M : S16x8x256x1024.Idx → EReal) (P : S1024.Idx → BitVec 32) (hP : ∀ x, (P x).toNat < 1024) (b : Fin 16) (c : Fin 256) (h w : Fin 32) :
    (out D M P : S16x256x32x32.Idx → EReal) (ix4 b c h w) = entry D M P hP b c ⟨32 * h.val + w.val, by omega⟩ := by
  unfold out
  rw [shapeCast_apply _ _ _ (ix3 b c ⟨32 * h.val + w.val, by omega⟩ : S16x256x1024.Idx) (by
    rw [Shape.rowMajor_val_four, Shape.rowMajor_val_three]
    show (b.val * 256 + c.val) * 1024 + (32 * h.val + w.val) = ((b.val * 256 + c.val) * 32 + h.val) * 32 + w.val
    omega)]
  generalize (⟨32 * h.val + w.val, by omega⟩ : Fin 1024) = s
  refine Eq.trans (congrArg₂ (fun u v : EReal => u + v) (last_apply D b c s) ?_) rfl
  rw [select_apply, take_apply D P hP,
    broadcastInDim_apply _ _ _ _ (ix3 0 0 s : S1x1x1024.Idx) (fun a => match a with | ⟨0, _⟩ => rfl | ⟨1, _⟩ => rfl | ⟨2, _⟩ => rfl),
    broadcastInDim_apply _ _ _ _ (ix1 s : S1024.Idx) (fun a => match a with | ⟨0, _⟩ => rfl)]
  have e : cmpf .oeq (sums M) (broadcastInDim S1024 ![] bcast_S_S1024 (constant S_ .f32 0x00000000#32)) (ix1 s)
      = Ideal.cmp .oeq ((sums M : S1024.Idx → EReal) (ix1 s)) (Ideal.ofBits .f32 0x00000000#32) := rfl
  letI := Classical.propDecidable (total M s = 0)
  rw [e, sums_apply, Ideal.ofBits_zero_f32, choose_oeq]
  exact congrArg (fun z : EReal => if total M s = 0 then D (ix4 b 7 c ⟨(P (ix1 s)).toNat, hP _⟩) else z) Ideal.ofBits_zero_f32

end Cert.Proof.RefValue

end
-- ==== Proof.Equal.lean ====
/-
  The value claim: kernel and reference, over the extended reals, from the same arguments, end at the same result.
-/
module

public import proofs.«01_k».proof.Proof.RefValue
public import proofs.«01_k».proof.Proof.Frames

@[expose] public section

noncomputable section

namespace Cert.Proof.Equal

open Cert.Proof.Run Cert.Proof.Value Cert.Proof.RefValue
open Idealize.ShloMosaic hiding ix0 ix1 ix2 ix3 ix4
open Idealize.ShloMosaic.ValueIdx Idealize.ShloMosaic.TcCoe Idealize.SL.Sem

/-- Over the reference's arguments its result is the kernel's. -/
theorem values_eq (m : (ℓ : Loc Cert.KernelIdeal.nD Cert.KernelIdeal.τ Cert.KernelIdeal.sig) → Buf (Elt Ideal) ℓ) (hP : ∀ d x, (pos m d x).toNat < 1024)
    (d : Dev Cert.KernelIdeal.nD) :
    (out (dat m d) (msk m d) (pos m d) : Cert.KernelIdeal.S16x256x32x32.Idx → EReal) = V6 m d (rf Cert.KernelIdeal.main_v5) := by
  funext j
  rw [ValueIdx.eq_ix4 j]
  exact (out_apply _ _ _ (hP d) _ _ _ _).trans (kernel_apply m hP d _ _ _ _).symm

theorem algebraic : Cert.algebraic_KernelIdeal_ReferenceIdeal := fun m g m' g' hp hagree => by
  have hP : ∀ d x, (pos m d x).toNat < 1024 := fun d x => Frames.pos_lt _ _ _ _ (hp d) x
  refine ⟨fun c => V6 m c (rf Cert.KernelIdeal.main_v5), (θ_run Cert.KernelIdeal.defs _ _).mono (fun _ h c => ⟨(h.1 c).2, (h.1 c).1⟩) (run_main (F := Ideal) m g hP), ?_⟩
  refine (θ_run Cert.ReferenceIdeal.defs _ _).mono (fun r h c => ⟨(h c).1.trans ?_, (h c).2⟩) (Cert.ReferenceIdeal.Value.run (F := Ideal) m' g')
  obtain ⟨e0, e1, -, e3⟩ := hagree c
  refine Eq.trans ?_ (values_eq m hP c)
  rw [e0, e1, e3]
  rfl

end Cert.Proof.Equal

end
-- ==== Proof.lean ====
/-
  The proof of everything the certificate claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_poi_in_range
public import proofs.«01_k».proof.Proof.Frames
public import proofs.«01_k».proof.Proof.Reference
public import proofs.«01_k».proof.Proof.Equal

@[expose] public section

noncomputable section

namespace Cert.Proof

open Idealize.ShloMosaic Idealize.SL.Sem

/-- Everything that the certificate claims. -/
theorem claim : Cert.Claim := ⟨Cert.Kernel.Gen.facts, Cert.KernelIdeal.Gen.facts, Cert.ReferenceIdeal.Gen.facts, Cert.Pre_poi_in_range.Gen.facts,
  Frames.frame_kernel, Frames.frame_ideal, Reference.frame_reference, fun m g _ => Reference.frame_reference m g trivial, trivial, Equal.algebraic⟩

end Cert.Proof

end
